-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "score_scale_log2e" .f32 0x3E16C740#32 ((((Real.sqrt 96) * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v0_0) = v1 c
          ∧ r.2.mem ((c.tc : Thread Cert.ReferenceIdeal.nD Cert.ReferenceIdeal.τ).loc Cert.ReferenceIdeal.main_v0_1) = v2 c
          ∧ r.2.mem ((c.tc : Thread Cert.ReferenceIdeal.nD Cert.ReferenceIdeal.τ).loc Cert.ReferenceIdeal.main_v0_2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1536x2x20x96 : Shape := ⟨4, ![1536, 2, 20, 96]⟩
abbrev S1536x2x4x96 : Shape := ⟨4, ![1536, 2, 4, 96]⟩
abbrev S1536x512x4x96 : Shape := ⟨4, ![1536, 512, 4, 96]⟩
abbrev S1536x4x96 : Shape := ⟨3, ![1536, 4, 96]⟩
abbrev S1536x512x4 : Shape := ⟨3, ![1536, 512, 4]⟩
abbrev S1536 : Shape := ⟨1, ![1536]⟩
abbrev S_ : Shape := ⟨0, ![]⟩

class Facts : Prop where
  bitsLt_bf16_f32 : FTy.bits .bf16 < FTy.bits .f32
  bcast_S_S1536x2x20x96 : S_.BroadcastsInDim S1536x2x20x96 (![] : Fin 0 → Fin S1536x2x20x96.rank)
  bcast_S_S1536x2x4x96 : S_.BroadcastsInDim S1536x2x4x96 (![] : Fin 0 → Fin S1536x2x4x96.rank)
  bcast_S_S1536x4x96 : S_.BroadcastsInDim S1536x4x96 (![] : Fin 0 → Fin S1536x4x96.rank)

variable [Facts]

def fn {F : FTy → Type} [FloatOps F] (main_arg0 : FVec F S1536x2x20x96 .bf16) (main_arg1 : FVec F S1536x2x4x96 .bf16) (main_arg2 : FVec F S1536x2x4x96 .bf16) (main_arg3 : IVec S1536x512x4x96 8) (main_arg4 : FVec F S1536x4x96 .f32) (main_arg5 : IVec S1536x512x4x96 8) (main_arg6 : FVec F S1536x512x4 .f32) (main_arg7 : IVec S1536 32) : IVec S1536x2x20x96 1 × IVec S1536x2x4x96 1 × IVec S1536x4x96 1 :=
  let main_v0 : FVec F S1536x2x20x96 .f32 := (extf .f32 · bitsLt_bf16_f32) main_arg0
  let main_v1 : FVec F S1536x2x20x96 .f32 := Host.absf main_v0
  let main_cst : FVec F S_ .f32 := constant S_ .f32 0x7F800000#32
  let main_v2 : FVec F S1536x2x20x96 .f32 := broadcastInDim S1536x2x20x96 ![] bcast_S_S1536x2x20x96 main_cst
  let main_v3 : IVec S1536x2x20x96 1 := cmpf .olt main_v1 main_v2
  let main_v4 : FVec F S1536x2x4x96 .f32 := (extf .f32 · bitsLt_bf16_f32) main_arg1
  let main_v5 : FVec F S1536x2x4x96 .f32 := Host.absf main_v4
  let main_cst_0 : FVec F S_ .f32 := constant S_ .f32 0x7F800000#32
  let main_v6 : FVec F S1536x2x4x96 .f32 := broadcastInDim S1536x2x4x96 ![] bcast_S_S1536x2x4x96 main_cst_0
  let main_v7 : IVec S1536x2x4x96 1 := cmpf .olt main_v5 main_v6
  let main_v8 : FVec F S1536x4x96 .f32 := Host.absf main_arg4
  let main_cst_1 : FVec F S_ .f32 := constant S_ .f32 0x7F800000#32
  let main_v9 : FVec F S1536x4x96 .f32 := broadcastInDim S1536x4x96 ![] bcast_S_S1536x4x96 main_cst_1
  let main_v10 : IVec S1536x4x96 1 := cmpf .olt main_v8 main_v9
  (main_v3, main_v7, main_v10)
-- ==== Kernel.lean ====
abbrev S1536x2x20x96 : Shape := ⟨4, ![1536, 2, 20, 96]⟩
abbrev S1536x2x4x96 : Shape := ⟨4, ![1536, 2, 4, 96]⟩
abbrev S1536x512x4x96 : Shape := ⟨4, ![1536, 512, 4, 96]⟩
abbrev S1536x4x96 : Shape := ⟨3, ![1536, 4, 96]⟩
abbrev S1536x512x4 : Shape := ⟨3, ![1536, 512, 4]⟩
abbrev S1536 : Shape := ⟨1, ![1536]⟩
abbrev S2x20x96x1536 : Shape := ⟨4, ![2, 20, 96, 1536]⟩
abbrev S2x4x96x1536 : Shape := ⟨4, ![2, 4, 96, 1536]⟩
abbrev S1536x4x96x512 : Shape := ⟨4, ![1536, 4, 96, 512]⟩
abbrev S4x96x1536 : Shape := ⟨3, ![4, 96, 1536]⟩
abbrev S1536x4x512 : Shape := ⟨3, ![1536, 4, 512]⟩
abbrev S2x4x1536 : Shape := ⟨3, ![2, 4, 1536]⟩
abbrev S2x20x96x128 : Shape := ⟨4, ![2, 20, 96, 128]⟩
abbrev S2x4x96x128 : Shape := ⟨4, ![2, 4, 96, 128]⟩
abbrev S8x4x96x512 : Shape := ⟨4, ![8, 4, 96, 512]⟩
abbrev S4x96x128 : Shape := ⟨3, ![4, 96, 128]⟩
abbrev S8x4x512 : Shape := ⟨3, ![8, 4, 512]⟩
abbrev S2x4x128 : Shape := ⟨3, ![2, 4, 128]⟩
abbrev S8192x128 : Shape := ⟨2, ![8192, 128]⟩
abbrev S2x64x128 : Shape := ⟨3, ![2, 64, 128]⟩
abbrev S64x128 : Shape := ⟨2, ![64, 128]⟩
abbrev S1x1x96x128 : Shape := ⟨4, ![1, 1, 96, 128]⟩
abbrev S96x128 : Shape := ⟨2, ![96, 128]⟩
abbrev S1x96x128 : Shape := ⟨3, ![1, 96, 128]⟩
abbrev S128 : Shape := ⟨1, ![128]⟩
abbrev S1x128 : Shape := ⟨2, ![1, 128]⟩
abbrev S1x1x128 : Shape := ⟨3, ![1, 1, 128]⟩
abbrev S32x128 : Shape := ⟨2, ![32, 128]⟩
abbrev S128x128 : Shape := ⟨2, ![128, 128]⟩
abbrev S16x128 : Shape := ⟨2, ![16, 128]⟩
abbrev S16x512 : Shape := ⟨2, ![16, 512]⟩
abbrev S1 : Shape := ⟨1, ![1]⟩
abbrev S16x96 : Shape := ⟨2, ![16, 96]⟩
abbrev S96x128x1 : Shape := ⟨3, ![96, 128, 1]⟩
abbrev S96x512 : Shape := ⟨2, ![96, 512]⟩
abbrev S1x1x96x512 : Shape := ⟨4, ![1, 1, 96, 512]⟩
abbrev S16 : Shape := ⟨1, ![16]⟩
abbrev S16x1 : Shape := ⟨2, ![16, 1]⟩
abbrev S1x1x512 : Shape := ⟨3, ![1, 1, 512]⟩
abbrev S1x512 : Shape := ⟨2, ![1, 512]⟩
abbrev S48x512 : Shape := ⟨2, ![48, 512]⟩
abbrev S64x512 : Shape := ⟨2, ![64, 512]⟩
abbrev S96x64 : Shape := ⟨2, ![96, 64]⟩
abbrev S32x512 : Shape := ⟨2, ![32, 512]⟩
abbrev S1536x2x4 : Shape := ⟨3, ![1536, 2, 4]⟩

abbrev nBuf : Space → Nat
  | .hbm => 22
  | .vmem => 30
  | .smem => 1
  | _ => 0

abbrev bufTy : (tb : Table) → Fin (tcTables nBuf tb) → BufTy
  | .hbm, ⟨0, _⟩ => ⟨S1536x2x20x96, .bf16⟩
  | .hbm, ⟨1, _⟩ => ⟨S1536x2x4x96, .bf16⟩
  | .hbm, ⟨2, _⟩ => ⟨S1536x2x4x96, .bf16⟩
  | .hbm, ⟨3, _⟩ => ⟨S1536x512x4x96, .i8⟩
  | .hbm, ⟨4, _⟩ => ⟨S1536x4x96, .f32⟩
  | .hbm, ⟨5, _⟩ => ⟨S1536x512x4x96, .i8⟩
  | .hbm, ⟨6, _⟩ => ⟨S1536x512x4, .f32⟩
  | .hbm, ⟨7, _⟩ => ⟨S2x20x96x1536, .bf16⟩
  | .hbm, ⟨8, _⟩ => ⟨S2x4x96x1536, .bf16⟩
  | .hbm, ⟨9, _⟩ => ⟨S2x4x96x1536, .bf16⟩
  | .hbm, ⟨10, _⟩ => ⟨S1536x4x96x512, .i8⟩
  | .hbm, ⟨11, _⟩ => ⟨S1536x4x96x512, .i8⟩
  | .hbm, ⟨12, _⟩ => ⟨S4x96x1536, .f32⟩
  | .hbm, ⟨13, _⟩ => ⟨S1536x4x512, .f32⟩
  | .hbm, ⟨14, _⟩ => ⟨S2x20x96x1536, .bf16⟩
  | .hbm, ⟨15, _⟩ => ⟨S2x4x96x1536, .i8⟩
  | .hbm, ⟨16, _⟩ => ⟨S2x4x96x1536, .i8⟩
  | .hbm, ⟨17, _⟩ => ⟨S2x4x1536, .f32⟩
  | .hbm, ⟨18, _⟩ => ⟨S1536x2x20x96, .bf16⟩
  | .hbm, ⟨19, _⟩ => ⟨S1536x2x4x96, .i8⟩
  | .hbm, ⟨20, _⟩ => ⟨S1536x2x4x96, .i8⟩
  | .hbm, ⟨21, _⟩ => ⟨S1536x2x4, .f32⟩
  | .local _ .vmem, ⟨0, _⟩ => ⟨S2x20x96x128, .bf16⟩
  | .local _ .vmem, ⟨1, _⟩ => ⟨S2x20x96x128, .bf16⟩
  | .local _ .vmem, ⟨2, _⟩ => ⟨S2x4x96x128, .bf16⟩
  | .local _ .vmem, ⟨3, _⟩ => ⟨S2x4x96x128, .bf16⟩
  | .local _ .vmem, ⟨4, _⟩ => ⟨S2x4x96x128, .bf16⟩
  | .local _ .vmem, ⟨5, _⟩ => ⟨S2x4x96x128, .bf16⟩
  | .local _ .vmem, ⟨6, _⟩ => ⟨S8x4x96x512, .i8⟩
  | .local _ .vmem, ⟨7, _⟩ => ⟨S8x4x96x512, .i8⟩
  | .local _ .vmem, ⟨8, _⟩ => ⟨S4x96x128, .f32⟩
  | .local _ .vmem, ⟨9, _⟩ => ⟨S4x96x128, .f32⟩
  | .local _ .vmem, ⟨10, _⟩ => ⟨S8x4x96x512, .i8⟩
  | .local _ .vmem, ⟨11, _⟩ => ⟨S8x4x96x512, .i8⟩
  | .local _ .vmem, ⟨12, _⟩ => ⟨S8x4x512, .f32⟩
  | .local _ .vmem, ⟨13, _⟩ => ⟨S8x4x512, .f32⟩
  | .local _ .vmem, ⟨14, _⟩ => ⟨S2x20x96x128, .bf16⟩
  | .local _ .vmem, ⟨15, _⟩ => ⟨S2x20x96x128, .bf16⟩
  | .local _ .vmem, ⟨16, _⟩ => ⟨S2x4x96x128, .i8⟩
  | .local _ .vmem, ⟨17, _⟩ => ⟨S2x4x96x128, .i8⟩
  | .local _ .vmem, ⟨18, _⟩ => ⟨S2x4x96x128, .i8⟩
  | .local _ .vmem, ⟨19, _⟩ => ⟨S2x4x96x128, .i8⟩
  | .local _ .vmem, ⟨20, _⟩ => ⟨S2x4x128, .f32⟩
  | .local _ .vmem, ⟨21, _⟩ => ⟨S2x4x128, .f32⟩
  | .local _ .vmem, ⟨22, _⟩ => ⟨S8192x128, .f32⟩
  | .local _ .vmem, ⟨23, _⟩ => ⟨S4x96x128, .f32⟩
  | .local _ .vmem, ⟨24, _⟩ => ⟨S2x64x128, .f32⟩
  | .local _ .vmem, ⟨25, _⟩ => ⟨S64x128, .f32⟩
  | .local _ .vmem, ⟨26, _⟩ => ⟨S64x128, .f32⟩
  | .local _ .vmem, ⟨27, _⟩ => ⟨S64x128, .f32⟩
  | .local _ .vmem, ⟨28, _⟩ => ⟨S64x128, .f32⟩
  | .local _ .vmem, ⟨29, _⟩ => ⟨S8192x128, .f32⟩
  | .local _ .smem, ⟨0, _⟩ => ⟨S1536, .i32⟩
  | _, _ => ⟨S1536x2x20x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![12, 16], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_1 : BitVec 32) : Fin 1 → Nat :=
  let arg0 : BitVec 32 := BitVec.ofNat 32 (i 0).val
  let c128_i32 : BitVec 32 := 128#32
  let v7 : BitVec 32 := Scalar.muli arg0 c128_i32
  let arg1 : BitVec 32 := BitVec.ofNat 32 (i 1).val
  let c8_i32 : BitVec 32 := 8#32
  let v5 : BitVec 32 := Scalar.muli arg1 c8_i32
  let v6 : BitVec 32 := Scalar.addi v5 c0_i32_1
  let v8 : BitVec 32 := Scalar.addi v7 v6
  let v9 : Index := Scalar.indexCast v8
  ![v9.toNat]
def k0_off2 (i : grid0.Coords) (c0_i32_1 : BitVec 32) (c0_i32_2 : BitVec 32) : Fin 2 → Nat :=
  let arg1 : BitVec 32 := BitVec.ofNat 32 (i 1).val
  let c8_i32 : BitVec 32 := 8#32
  let v5 : BitVec 32 := Scalar.muli arg1 c8_i32
  let v6 : BitVec 32 := Scalar.addi v5 c0_i32_1
  let c64_i32 : BitVec 32 := 64#32
  let v15 : BitVec 32 := Scalar.muli v6 c64_i32
  let v16 : BitVec 32 := Scalar.addi v15 c0_i32_2
  let v17 : Index := Scalar.indexCast v16
  let c0 : Index := 0#32
  ![v17.toNat, 0]
def k0_off3 (i : grid0.Coords) (c0_i32_1 : BitVec 32) : Fin 2 → Nat :=
  let arg1 : BitVec 32 := BitVec.ofNat 32 (i 1).val
  let c8_i32 : BitVec 32 := 8#32
  let v5 : BitVec 32 := Scalar.muli arg1 c8_i32
  let v6 : BitVec 32 := Scalar.addi v5 c0_i32_1
  let c4_i32 : BitVec 32 := 4#32
  let v378 : BitVec 32 := Scalar.muli v6 c4_i32
  let c16_i32_154 : BitVec 32 := 16#32
  let v379 : BitVec 32 := Scalar.muli v378 c16_i32_154
  let v380 : Index := Scalar.indexCast v379
  let c0_155 : Index := 0#32
  ![v380.toNat, 0]
def k0_cond2 (i : grid0.Coords) : BitVec 1 :=
  let arg1 : BitVec 32 := BitVec.ofNat 32 (i 1).val
  let c15_i32 : BitVec 32 := 15#32
  let v3037 : BitVec 1 := Scalar.cmpi .eq arg1 c15_i32
  let v3038 : BitVec 32 := Scalar.extui v3037
  let c0_i32_1336 : BitVec 32 := 0#32
  let v3039 : BitVec 1 := Scalar.cmpi .ne v3038 c0_i32_1336
  v3039

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x20x96x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x4x96x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x4x96x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x4x96x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x96x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x4x96x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x20x96x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x4x96x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x4x96x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "score_scale_log2e" => some ((((Real.sqrt 96) * (Real.log 2))⁻¹ : ℝ) : EReal)
  | _ => none
-- ==== ReferenceIdeal.lean ====
abbrev S1536x2x20x96 : Shape := ⟨4, ![1536, 2, 20, 96]⟩
abbrev S1536x2x4x96 : Shape := ⟨4, ![1536, 2, 4, 96]⟩
abbrev S1536x512x4x96 : Shape := ⟨4, ![1536, 512, 4, 96]⟩
abbrev S1536x4x96 : Shape := ⟨3, ![1536, 4, 96]⟩
abbrev S1536x512x4 : Shape := ⟨3, ![1536, 512, 4]⟩
abbrev S1536 : Shape := ⟨1, ![1536]⟩
abbrev S1536x2x4 : Shape := ⟨3, ![1536, 2, 4]⟩
abbrev S1536x1x4x96 : Shape := ⟨4, ![1536, 1, 4, 96]⟩
abbrev S1536x2x4x1 : Shape := ⟨4, ![1536, 2, 4, 1]⟩
abbrev S_ : Shape := ⟨0, ![]⟩
abbrev S1536x2x4x5x96 : Shape := ⟨5, ![1536, 2, 4, 5, 96]⟩
abbrev S1536x4x512x2x5 : Shape := ⟨5, ![1536, 4, 512, 2, 5]⟩
abbrev S1536x4x5x2x512 : Shape := ⟨5, ![1536, 4, 5, 2, 512]⟩
abbrev S1536x4x2x2x5 : Shape := ⟨5, ![1536, 4, 2, 2, 5]⟩
abbrev S1536x4x5x2x2 : Shape := ⟨5, ![1536, 4, 5, 2, 2]⟩
abbrev S512 : Shape := ⟨1, ![512]⟩
abbrev S1x512 : Shape := ⟨2, ![1, 512]⟩
abbrev S1536x1 : Shape := ⟨2, ![1536, 1]⟩
abbrev S1536x512 : Shape := ⟨2, ![1536, 512]⟩
abbrev S1536x1x1x1x512 : Shape := ⟨5, ![1536, 1, 1, 1, 512]⟩
abbrev S2 : Shape := ⟨1, ![2]⟩
abbrev S1x2 : Shape := ⟨2, ![1, 2]⟩
abbrev S2x1 : Shape := ⟨2, ![2, 1]⟩
abbrev S2x2 : Shape := ⟨2, ![2, 2]⟩
abbrev S1536x4x5x2 : Shape := ⟨4, ![1536, 4, 5, 2]⟩
abbrev S1536x4x5x2x1 : Shape := ⟨5, ![1536, 4, 5, 2, 1]⟩
abbrev S1536x4x512 : Shape := ⟨3, ![1536, 4, 512]⟩
abbrev S1536x4x1x1x512 : Shape := ⟨5, ![1536, 4, 1, 1, 512]⟩
abbrev S1536x4x96x5x2 : Shape := ⟨5, ![1536, 4, 96, 5, 2]⟩

abbrev nBuf : Space → Nat
  | .hbm => 86
  | .vmem => 10
  | .smem => 0
  | _ => 0

abbrev bufTy : (tb : Table) → Fin (tcTables nBuf tb) → BufTy
  | .hbm, ⟨0, _⟩ => ⟨S1536x2x20x96, .bf16⟩
  | .hbm, ⟨1, _⟩ => ⟨S1536x2x4x96, .bf16⟩
  | .hbm, ⟨2, _⟩ => ⟨S1536x2x4x96, .bf16⟩
  | .hbm, ⟨3, _⟩ => ⟨S1536x512x4x96, .i8⟩
  | .hbm, ⟨4, _⟩ => ⟨S1536x4x96, .f32⟩
  | .hbm, ⟨5, _⟩ => ⟨S1536x512x4x96, .i8⟩
  | .hbm, ⟨6, _⟩ => ⟨S1536x512x4, .f32⟩
  | .hbm, ⟨7, _⟩ => ⟨S1536, .i32⟩
  | .hbm, ⟨8, _⟩ => ⟨S1536x2x4x96, .i8⟩
  | .hbm, ⟨9, _⟩ => ⟨S1536x2x4x96, .i8⟩
  | .hbm, ⟨10, _⟩ => ⟨S1536x2x4, .f32⟩
  | .hbm, ⟨11, _⟩ => ⟨S1536x512x4x96, .bf16⟩
  | .hbm, ⟨12, _⟩ => ⟨S1536x512x4x96, .bf16⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1536x2x4x5x96, .bf16⟩
  | .hbm, ⟨18, _⟩ => ⟨S1536x4x512x2x5, .f32⟩
  | .hbm, ⟨19, _⟩ => ⟨S1536x4x5x2x512, .f32⟩
  | .hbm, ⟨20, _⟩ => ⟨S1536x4x5x2x512, .f32⟩
  | .hbm, ⟨21, _⟩ => ⟨S1536x4x5x2x512, .f32⟩
  | .hbm, ⟨22, _⟩ => ⟨S1536x4x2x2x5, .f32⟩
  | .hbm, ⟨23, _⟩ => ⟨S1536x4x5x2x2, .f32⟩
  | .hbm, ⟨24, _⟩ => ⟨S1536x4x5x2x2, .f32⟩
  | .hbm, ⟨25, _⟩ => ⟨S1536x4x5x2x2, .f32⟩
  | .hbm, ⟨26, _⟩ => ⟨S512, .i32⟩
  | .hbm, ⟨27, _⟩ => ⟨S1x512, .i32⟩
  | .hbm, ⟨28, _⟩ => ⟨S1536x1, .i32⟩
  | .hbm, ⟨29, _⟩ => ⟨S1536x512, .i32⟩
  | .hbm, ⟨30, _⟩ => ⟨S1536x512, .i32⟩
  | .hbm, ⟨31, _⟩ => ⟨S1536x512, .i1⟩
  | .hbm, ⟨32, _⟩ => ⟨S1536x1x1x1x512, .i1⟩
  | .hbm, ⟨33, _⟩ => ⟨S_, .f32⟩
  | .hbm, ⟨34, _⟩ => ⟨S_, .f32⟩
  | .hbm, ⟨35, _⟩ => ⟨S1536x4x5x2x512, .i1⟩
  | .hbm, ⟨36, _⟩ => ⟨S1536x4x5x2x512, .f32⟩
  | .hbm, ⟨37, _⟩ => ⟨S1536x4x5x2x512, .f32⟩
  | .hbm, ⟨38, _⟩ => ⟨S2, .i32⟩
  | .hbm, ⟨39, _⟩ => ⟨S1x2, .i32⟩
  | .hbm, ⟨40, _⟩ => ⟨S2, .i32⟩
  | .hbm, ⟨41, _⟩ => ⟨S2x1, .i32⟩
  | .hbm, ⟨42, _⟩ => ⟨S2x2, .i32⟩
  | .hbm, ⟨43, _⟩ => ⟨S2x2, .i32⟩
  | .hbm, ⟨44, _⟩ => ⟨S2x2, .i1⟩
  | .hbm, ⟨45, _⟩ => ⟨S_, .f32⟩
  | .hbm, ⟨46, _⟩ => ⟨S_, .f32⟩
  | .hbm, ⟨47, _⟩ => ⟨S1536x4x5x2x2, .i1⟩
  | .hbm, ⟨48, _⟩ => ⟨S1536x4x5x2x2, .f32⟩
  | .hbm, ⟨49, _⟩ => ⟨S1536x4x5x2x2, .f32⟩
  | .hbm, ⟨50, _⟩ => ⟨S_, .f32⟩
  | .hbm, ⟨51, _⟩ => ⟨S1536x4x5x2, .f32⟩
  | .hbm, ⟨52, _⟩ => ⟨S_, .f32⟩
  | .hbm, ⟨53, _⟩ => ⟨S1536x4x5x2, .f32⟩
  | .hbm, ⟨54, _⟩ => ⟨S1536x4x5x2, .f32⟩
  | .hbm, ⟨55, _⟩ => ⟨S1536x4x5x2x1, .f32⟩
  | .hbm, ⟨56, _⟩ => ⟨S1536x4x5x2x512, .f32⟩
  | .hbm, ⟨57, _⟩ => ⟨S1536x4x5x2x512, .f32⟩
  | .hbm, ⟨58, _⟩ => ⟨S1536x4x5x2x512, .f32⟩
  | .hbm, ⟨59, _⟩ => ⟨S1536x4x5x2x2, .f32⟩
  | .hbm, ⟨60, _⟩ => ⟨S1536x4x5x2x2, .f32⟩
  | .hbm, ⟨61, _⟩ => ⟨S1536x4x5x2x2, .f32⟩
  | .hbm, ⟨62, _⟩ => ⟨S_, .f32⟩
  | .hbm, ⟨63, _⟩ => ⟨S1536x4x5x2, .f32⟩
  | .hbm, ⟨64, _⟩ => ⟨S1536x4x5x2x1, .f32⟩
  | .hbm, ⟨65, _⟩ => ⟨S_, .f32⟩
  | .hbm, ⟨66, _⟩ => ⟨S1536x4x5x2, .f32⟩
  | .hbm, ⟨67, _⟩ => ⟨S1536x4x5x2x1, .f32⟩
  | .hbm, ⟨68, _⟩ => ⟨S1536x4x5x2x1, .f32⟩
  | .hbm, ⟨69, _⟩ => ⟨S1536x4x5x2x512, .f32⟩
  | .hbm, ⟨70, _⟩ => ⟨S1536x4x5x2x512, .f32⟩
  | .hbm, ⟨71, _⟩ => ⟨S1536x4x5x2x2, .f32⟩
  | .hbm, ⟨72, _⟩ => ⟨S1536x4x5x2x2, .f32⟩
  | .hbm, ⟨73, _⟩ => ⟨S1536x4x512, .f32⟩
  | .hbm, ⟨74, _⟩ => ⟨S1536x4x1x1x512, .f32⟩
  | .hbm, ⟨75, _⟩ => ⟨S1536x4x5x2x512, .f32⟩
  | .hbm, ⟨76, _⟩ => ⟨S1536x4x5x2x512, .f32⟩
  | .hbm, ⟨77, _⟩ => ⟨S1536x4x5x2x512, .bf16⟩
  | .hbm, ⟨78, _⟩ => ⟨S1536x4x96x5x2, .f32⟩
  | .hbm, ⟨79, _⟩ => ⟨S1536x2x4x5x96, .f32⟩
  | .hbm, ⟨80, _⟩ => ⟨S1536x4x5x2x2, .bf16⟩
  | .hbm, ⟨81, _⟩ => ⟨S1536x4x96x5x2, .f32⟩
  | .hbm, ⟨82, _⟩ => ⟨S1536x2x4x5x96, .f32⟩
  | .hbm, ⟨83, _⟩ => ⟨S1536x2x4x5x96, .f32⟩
  | .hbm, ⟨84, _⟩ => ⟨S1536x2x20x96, .f32⟩
  | .hbm, ⟨85, _⟩ => ⟨S1536x2x20x96, .bf16⟩
  | .local _ .vmem, ⟨0, _⟩ => ⟨S1536x2x4x96, .bf16⟩
  | .local _ .vmem, ⟨1, _⟩ => ⟨S1536x4x96, .f32⟩
  | .local _ .vmem, ⟨2, _⟩ => ⟨S1536x2x4x96, .bf16⟩
  | .local _ .vmem, ⟨3, _⟩ => ⟨S1536x512x4x96, .i8⟩
  | .local _ .vmem, ⟨4, _⟩ => ⟨S1536x512x4x96, .i8⟩
  | .local _ .vmem, ⟨5, _⟩ => ⟨S1536x2x4x96, .i8⟩
  | .local _ .vmem, ⟨6, _⟩ => ⟨S1536x2x4x96, .i8⟩
  | .local _ .vmem, ⟨7, _⟩ => ⟨S1536x2x4, .f32⟩
  | .local _ .vmem, ⟨8, _⟩ => ⟨S1536x512x4x96, .bf16⟩
  | .local _ .vmem, ⟨9, _⟩ => ⟨S1536x512x4x96, .bf16⟩
  | _, _ => ⟨S1536x2x20x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x2x4x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2x4x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x512x4x96 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x512x4x96 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2x4x96 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x2x4x96 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x2x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x512x4x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x512x4x96 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KPoints.lean ====
/- The schedule of the kernel's windows on its grid: at which points each window is fetched and written back, and the body as the
   pipeline calls it at a point. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the points ≡ 0 (mod 16), at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_reads cc0_transform_0 reads0_0 hreads0_0 0 (by decide) (by decide) (Pipeline.Window.sep_of_coord cc0_transform_0 0 3 (fun _ => rfl) (by decide)) (P := 16) (by decide) t : ∀ t : Fin grid0.N, Pipeline.Window.fetchOf grid0 false cc0_transform_0 t = true ↔ t.val % 16 = 0)
/-- Window 1 (operand 2 (%1)) is fetched at the points ≡ 0 (mod 16), at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_reads cc0_transform_1 reads0_1 hreads0_1 0 (by decide) (by decide) (Pipeline.Window.sep_of_coord cc0_transform_1 0 3 (fun _ => rfl) (by decide)) (P := 16) (by decide) t : ∀ t : Fin grid0.N, Pipeline.Window.fetchOf grid0 false cc0_transform_1 t = true ↔ t.val % 16 = 0)
/-- Window 2 (operand 3 (%2)) is fetched at the points ≡ 0 (mod 16), at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_reads cc0_transform_2 reads0_2 hreads0_2 0 (by decide) (by decide) (Pipeline.Window.sep_of_coord cc0_transform_2 0 3 (fun _ => rfl) (by decide)) (P := 16) (by decide) t : ∀ t : Fin grid0.N, Pipeline.Window.fetchOf grid0 false cc0_transform_2 t = true ↔ t.val % 16 = 0)
/-- Window 3 (operand 4 (%3)) is fetched at every point, at any contents of the tables (its index map reads none). -/
theorem fetch0_3 (a : (pcfg0 (F := F)).Adm) : ∀ t : Fin (cfg0 a).N, ((cfg0 a).win 3).fetch t = true :=
  (by decide +kernel : ∀ t : Fin grid0.N, Pipeline.Window.fetchOf grid0 false cc0_transform_3 t = true)
/-- Window 4 (operand 5 (%5)) is fetched at the points ≡ 0 (mod 16), at any contents of the tables (its index map reads none). -/
theorem fetch0_4 (a : (pcfg0 (F := F)).Adm) : ∀ t : Fin (cfg0 a).N, ((cfg0 a).win 4).fetch t = true ↔ t.val % 16 = 0 :=
  (fun t => Pipeline.Window.fetchOf_reads cc0_transform_4 reads0_4 hreads0_4 0 (by decide) (by decide) (Pipeline.Window.sep_of_coord cc0_transform_4 0 2 (fun _ => rfl) (by decide)) (P := 16) (by decide) t : ∀ t : Fin grid0.N, Pipeline.Window.fetchOf grid0 false cc0_transform_4 t = true ↔ t.val % 16 = 0)
/-- Window 5 (operand 6 (%4)) is fetched at every point, at any contents of the tables (its index map reads none). -/
theorem fetch0_5 (a : (pcfg0 (F := F)).Adm) : ∀ t : Fin (cfg0 a).N, ((cfg0 a).win 5).fetch t = true :=
  (by decide +kernel : ∀ t : Fin grid0.N, Pipeline.Window.fetchOf grid0 false cc0_transform_5 t = true)
/-- Window 6 (operand 7 (%6)) is fetched at every point, at any contents of the tables (its index map reads none). -/
theorem fetch0_6 (a : (pcfg0 (F := F)).Adm) : ∀ t : Fin (cfg0 a).N, ((cfg0 a).win 6).fetch t = true :=
  (by decide +kernel : ∀ t : Fin grid0.N, Pipeline.Window.fetchOf grid0 false cc0_transform_6 t = true)
/-- Window 7 (result 0 (%7#0)) is written back at the points ≡ 15 (mod 16), at any contents of the tables (its index map reads none). -/
theorem flush0_7 (a : (pcfg0 (F := F)).Adm) : ∀ t : Fin (cfg0 a).N, ((cfg0 a).win 7).flush t = true ↔ t.val % 16 = 15 :=
  (fun t => Pipeline.Window.flushOf_reads cc0_transform_7 reads0_7 hreads0_7 0 (by decide) (by decide) (Pipeline.Window.sep_of_coord cc0_transform_7 0 3 (fun _ => rfl) (by decide)) (P := 16) (m := 15) (by decide) rfl t : ∀ t : Fin grid0.N, Pipeline.Window.flushOf grid0 true cc0_transform_7 t = true ↔ t.val % 16 = 15)
/-- Window 8 (result 1 (%7#1)) is written back at the points ≡ 15 (mod 16), at any contents of the tables (its index map reads none). -/
theorem flush0_8 (a : (pcfg0 (F := F)).Adm) : ∀ t : Fin (cfg0 a).N, ((cfg0 a).win 8).flush t = true ↔ t.val % 16 = 15 :=
  (fun t => Pipeline.Window.flushOf_reads cc0_transform_8 reads0_8 hreads0_8 0 (by decide) (by decide) (Pipeline.Window.sep_of_coord cc0_transform_8 0 3 (fun _ => rfl) (by decide)) (P := 16) (m := 15) (by decide) rfl t : ∀ t : Fin grid0.N, Pipeline.Window.flushOf grid0 true cc0_transform_8 t = true ↔ t.val % 16 = 15)
/-- Window 9 (result 2 (%7#2)) is written back at the points ≡ 15 (mod 16), at any contents of the tables (its index map reads none). -/
theorem flush0_9 (a : (pcfg0 (F := F)).Adm) : ∀ t : Fin (cfg0 a).N, ((cfg0 a).win 9).flush t = true ↔ t.val % 16 = 15 :=
  (fun t => Pipeline.Window.flushOf_reads cc0_transform_9 reads0_9 hreads0_9 0 (by decide) (by decide) (Pipeline.Window.sep_of_coord cc0_transform_9 0 3 (fun _ => rfl) (by decide)) (P := 16) (m := 15) (by decide) rfl t : ∀ t : Fin grid0.N, Pipeline.Window.flushOf grid0 true cc0_transform_9 t = true ↔ t.val % 16 = 15)
/-- Window 10 (result 3 (%7#3)) is written back at the points ≡ 15 (mod 16), at any contents of the tables (its index map reads none). -/
theorem flush0_10 (a : (pcfg0 (F := F)).Adm) : ∀ t : Fin (cfg0 a).N, ((cfg0 a).win 10).flush t = true ↔ t.val % 16 = 15 :=
  (fun t => Pipeline.Window.flushOf_reads cc0_transform_10 reads0_10 hreads0_10 0 (by decide) (by decide) (Pipeline.Window.sep_of_coord cc0_transform_10 0 2 (fun _ => rfl) (by decide)) (P := 16) (m := 15) (by decide) rfl t : ∀ t : Fin grid0.N, Pipeline.Window.flushOf grid0 true cc0_transform_10 t = true ↔ t.val % 16 = 15)

/-- The current staging memref of each window at point `t`: which of its buffers it is on. -/
abbrev st0_0 (a : (pcfg0 (F := F)).Adm) (t : Fin (cfg0 a).N) := ((cfg0 a).win 0).stage ((cfg0 a).slots t 0)
/-- The staging buffer of window 1 at a point. -/
abbrev st0_1 (a : (pcfg0 (F := F)).Adm) (t : Fin (cfg0 a).N) := ((cfg0 a).win 1).stage ((cfg0 a).slots t 1)
/-- The staging buffer of window 2 at a point. -/
abbrev st0_2 (a : (pcfg0 (F := F)).Adm) (t : Fin (cfg0 a).N) := ((cfg0 a).win 2).stage ((cfg0 a).slots t 2)
/-- The staging buffer of window 3 at a point. -/
abbrev st0_3 (a : (pcfg0 (F := F)).Adm) (t : Fin (cfg0 a).N) := ((cfg0 a).win 3).stage ((cfg0 a).slots t 3)
/-- The staging buffer of window 4 at a point. -/
abbrev st0_4 (a : (pcfg0 (F := F)).Adm) (t : Fin (cfg0 a).N) := ((cfg0 a).win 4).stage ((cfg0 a).slots t 4)
/-- The staging buffer of window 5 at a point. -/
abbrev st0_5 (a : (pcfg0 (F := F)).Adm) (t : Fin (cfg0 a).N) := ((cfg0 a).win 5).stage ((cfg0 a).slots t 5)
/-- The staging buffer of window 6 at a point. -/
abbrev st0_6 (a : (pcfg0 (F := F)).Adm) (t : Fin (cfg0 a).N) := ((cfg0 a).win 6).stage ((cfg0 a).slots t 6)
/-- The staging buffer of window 7 at a point. -/
abbrev st0_7 (a : (pcfg0 (F := F)).Adm) (t : Fin (cfg0 a).N) := ((cfg0 a).win 7).stage ((cfg0 a).slots t 7)
/-- The staging buffer of window 8 at a point. -/
abbrev st0_8 (a : (pcfg0 (F := F)).Adm) (t : Fin (cfg0 a).N) := ((cfg0 a).win 8).stage ((cfg0 a).slots t 8)
/-- The staging buffer of window 9 at a point. -/
abbrev st0_9 (a : (pcfg0 (F := F)).Adm) (t : Fin (cfg0 a).N) := ((cfg0 a).win 9).stage ((cfg0 a).slots t 9)
/-- The staging buffer of window 10 at a point. -/
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__lambda_ (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

end Cert.Kernel.Gen

end
-- ==== Proof.KFrame.lean ====
/- @main around its one region: the arrays' contents there, each window's block at a point, and the frame claim's post from any
   proof data's run. -/
module

public import proofs.«01_k».proof.Proof.Gen.Kernel.Launch
public import proofs.«01_k».proof.Proof.KPoints
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The operations before the region make no fresh buffer. -/
theorem hostOps0_fresh : (hostOps0 : List (HloOp τ sig (Elt F))).Forall fun op => op.fresh = ∅ := by
  simp only [List.Forall]; repeat' constructor
/-- The operations after the region make no fresh buffer. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The region's configuration at this memory. -/
abbrev cfgM (hO : Ok m) : Pipeline.Cfg sig Λ₀ := cfg0 (adm m hO)

/-- Each table as the body is handed it: its whole buffer as a memref, and that memref's wholeness. -/
abbrev tbM0_0 : Memref sig .tc .smem S1536 .i32 := Memref.whole main_arg7
/-- The table's memref is whole. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The body's half of a table, at given contents. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c)),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c)),
      (((h c).2 main_arg7 (by decide : main_arg7 ∈ Pipeline.restRefs sig spec0)).trans (W_main_arg7 m hO dats c))⟩) h

end Cert.Kernel.Gen

end
-- ==== Proof.Dsl.lean ====
/- A small language of loads and stores over a family of vector buffers and one table: its programs, what they do to the buffers'
   contents as a function, and that the machine's program they stand for does just that. -/
module

public import Idealize.ShloMosaic.Lib.Pipeline.FrameBody
public import Idealize.ShloMosaic.Lib.Ring
public import Idealize.ShloMosaic.Lib.Tactic

@[expose] public section

set_option maxRecDepth 16384

noncomputable section

namespace Cert.Dsl

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Writing a rectangle of a tensor -/

/-- `X` with the rectangle `r` overwritten by `w`. -/
def put {s : Shape} {α : Type} (X : s.Idx → α) (r : Rect s) (w : r.shape.Idx → α) : s.Idx → α :=
  fun y => open Classical in if h : ∃ x, r.emb x = y then w h.choose else X y

/-- Inside the rectangle, what was put is read. -/
theorem put_emb {s : Shape} {α : Type} (X : s.Idx → α) (r : Rect s) (w : r.shape.Idx → α) (x : r.shape.Idx) :
    put X r w (r.emb x) = w x := by
  unfold put
  have h : ∃ x', r.emb x' = r.emb x := ⟨x, rfl⟩
  rw [dif_pos h]
  exact congrArg w (r.emb.injective h.choose_spec)

/-- Outside the rectangle, what was there is read. -/
theorem put_not {s : Shape} {α : Type} (X : s.Idx → α) (r : Rect s) (w : r.shape.Idx → α) {y : s.Idx} (h : ¬ ∃ x, r.emb x = y) :
    put X r w y = X y := by
  unfold put; rw [dif_neg h]

/-! ## The language -/

section Lang

variable {nJ : ℕ} (sh : Fin nJ → Shape) (el : Fin nJ → EltTy) (tS : Shape) (Val : EltTy → Type)

/-- One access: load a rectangle of a buffer, overwrite one (the evidence `ok` is whatever the machine asks), read a table word. -/
inductive Op (ok : (j : Fin nJ) → Rect (sh j) → Prop) : Type → Type
  | ld (j : Fin nJ) (r : LoadRect (sh j)) (h : 0 < r.shape.numel) : Op ok (r.shape.Idx → Val (el j))
  | st (j : Fin nJ) (r : Rect (sh j)) (w : r.shape.Idx → Val (el j)) (h : ok j r) : Op ok PUnit
  | tb (r : Rect tS) (h1 : r.shape.numel = 1) : Op ok (Val .i32)

/-- The buffers' contents. -/
abbrev State : Type := (j : Fin nJ) → (sh j).Idx → Val (el j)

variable {sh el tS Val}

/-- What a program does to the contents, the table holding `T`. -/
def run {ok : (j : Fin nJ) → Rect (sh j) → Prop} (T : tS.Idx → Val .i32) {α : Type} :
    Prog (Op sh el tS Val ok) α → State sh el Val → α × State sh el Val
  | .ret a, σ => (a, σ)
  | .op (.ld j r _) k, σ => run T (k fun x => σ j (r.idx x)) σ
  | .op (.st j r w _) k, σ => run T (k ⟨⟩) (Function.update σ j (put (σ j) r w))
  | .op (.tb r h1) k, σ => run T (k (T (r.emb (Shape.Idx.first (h1.symm ▸ Nat.one_pos))))) σ

/-- Running a sequence is running the first, then the second on its answer and contents. -/
theorem run_bind {ok : (j : Fin nJ) → Rect (sh j) → Prop} (T : tS.Idx → Val .i32) {α β : Type}
    (p : Prog (Op sh el tS Val ok) α) (k : α → Prog (Op sh el tS Val ok) β) (σ : State sh el Val) :
    run T (p >>= k) σ = run T (k (run T p σ).1) (run T p σ).2 := by
  induction p generalizing σ with
  | ret a => rfl
  | op e q ih => cases e <;> exact ih _ _

end Lang

/-! ## The machine's program -/

section Machine

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable {nJ : ℕ} {sh : Fin nJ → Shape} {el : Fin nJ → EltTy} {tS : Shape}
variable (M : (j : Fin nJ) → Memref sig .tc .vmem (sh j) (el j)) (tm : Memref sig .tc .smem tS .i32)

/-- The evidence the machine asks of a store through a rectangle of buffer `j`. -/
abbrev Ok (j : Fin nJ) (r : Rect (sh j)) : Prop := ((M j).access r).Stores Finset.univ

/-- The machine's program of a program of the language. -/
def interp {α : Type} : Prog (Op sh el tS Val (Ok M)) α → Prog (TpuEff nD τ sig Val Λ .tc) α
  | .ret a => .ret a
  | .op (.ld j r h) k => .op (.load (M j) r (View.loadsAt_vmem h)) fun v => interp (k v)
  | .op (.st j r w h) k => .op (.store (M j) r w Finset.univ h (.inl rfl)) fun v => interp (k v)
  | .op (.tb r h1) k => smemLoadElt tm r (View.loads_smem_one rfl h1) (Shape.Idx.first (h1.symm ▸ Nat.one_pos)) fun w => interp (k w)

variable [Preorder Lvl] {defs : Defs nD τ sig Val Λ} (𝒱 : Variants) (c : Dev nD) (bd : Option 𝒱.V) (E : Set Name)

/-- The buffers held at the contents `σ`. -/
def own (c : Dev nD) (σ : State sh el Val) : sProp 𝕄 :=
  bigSep Finset.univ fun j => owns (c : Thread nD τ) (M j) fullShare (σ j)

/-- What holding a memref at `X` is: some contents of its buffer that read `X`. -/
theorem owns_open {sp : Space} {s : Shape} {e : EltTy} (m : Memref sig .tc sp s e) (q : PosShare TreeShare) (X : s.Idx → Val e) :
    (owns (c : Thread nD τ) m q X : sProp 𝕄) ⊢ iprop(∃ f, ⌜m.view.read Val f = X⌝ ∗ (m.view.loc (c : Thread nD τ) ↦[m.view.set]{q} f)) := .rfl
/-- Some contents of a memref's buffer that read `X`: the memref is held at `X`. -/
theorem owns_close {sp : Space} {s : Shape} {e : EltTy} (m : Memref sig .tc sp s e) (q : PosShare TreeShare) (X : s.Idx → Val e) :
    iprop(∃ f, ⌜m.view.read Val f = X⌝ ∗ (m.view.loc (c : Thread nD τ) ↦[m.view.set]{q} f)) ⊢ (owns (c : Thread nD τ) m q X : sProp 𝕄) := .rfl

/-- One buffer taken out of those held. -/
theorem own_take (σ : State sh el Val) (j : Fin nJ) :
    (own M c σ : sProp 𝕄) ⊢ iprop(owns (c : Thread nD τ) (M j) fullShare (σ j)
      ∗ bigSep (Finset.univ.erase j) fun j => owns (c : Thread nD τ) (M j) fullShare (σ j)) :=
  Entails.of_eq (bigSep_erase (Finset.mem_univ j))

/-- The buffer put back, unchanged. -/
theorem own_untake (σ : State sh el Val) (j : Fin nJ) :
    iprop(owns (c : Thread nD τ) (M j) fullShare (σ j)
      ∗ bigSep (Finset.univ.erase j) fun j => owns (c : Thread nD τ) (M j) fullShare (σ j)) ⊢ (own M c σ : sProp 𝕄) :=
  Entails.of_eq (bigSep_erase (Φ := fun j => (owns (c : Thread nD τ) (M j) fullShare (σ j) : sProp 𝕄)) (Finset.mem_univ j)).symm

/-- The buffer put back, at new contents. -/
theorem own_put (σ : State sh el Val) (j : Fin nJ) (X : (sh j).Idx → Val (el j)) :
    iprop(owns (c : Thread nD τ) (M j) fullShare X
      ∗ bigSep (Finset.univ.erase j) fun j => owns (c : Thread nD τ) (M j) fullShare (σ j)) ⊢ (own M c (Function.update σ j X) : sProp 𝕄) := by
  unfold own
  have h : bigSep (Finset.univ.erase j) (fun i => owns (c : Thread nD τ) (M i) fullShare (Function.update σ j X i))
      = (bigSep (Finset.univ.erase j) (fun i => owns (c : Thread nD τ) (M i) fullShare (σ i)) : sProp 𝕄) :=
    bigSep_congr (fun i hi => by rw [Function.update_of_ne (Finset.ne_of_mem_erase hi)])
  rw [bigSep_erase (Finset.mem_univ j), h]
  simp only [Function.update_self]
  exact .rfl

/-- What is read of a view after a write through a rectangle: the old contents with the rectangle overwritten. -/
theorem read_put {s : Shape} {e : EltTy} (v : View sig .tc .vmem s e) (r : Rect s) (f : v.ty.Contents Val) (w : r.shape.Idx → Val e) :
    v.read Val ((v.slice r).write Val f w Finset.univ) = put (v.read Val f) r w := by
  funext y
  by_cases h : ∃ x, r.emb x = y
  · obtain ⟨x, rfl⟩ := h
    rw [put_emb]; exact View.read_slice_write_emb r f w (Finset.mem_univ x)
  · rw [put_not _ _ _ h]
    refine View.read_slice_write_of_not_mem r f w _ fun hm => h ?_
    obtain ⟨x, -, hx⟩ := Finset.mem_map.mp hm
    exact ⟨x, hx⟩

/-- THE LANGUAGE IS SOUND: the machine's program, run from the buffers at `σ` and the table at `T`, ends with them at what `run` says. -/
theorem sound {α : Type} (T : tS.Idx → Val .i32) (q : PosShare TreeShare) (Q : α → sProp 𝕄) (p : Prog (Op sh el tS Val (Ok M)) α) :
    ∀ σ : State sh el Val, iprop(own M c σ ∗ owns (c : Thread nD τ) tm q T
        ∗ (iprop(own M c (run T p σ).2 ∗ owns (c : Thread nD τ) tm q T) -∗ Q (run T p σ).1))
      ⊢ wp frame (wpE defs 𝒱 c bd) E (interp (Λ := Λ) M tm p) Q := by
  induction p with
  | ret a =>
    intro σ
    simp only [run]
    refine BIBase.Entails.trans ?_ (show (Q a : sProp 𝕄) ⊢ _ from BI.fupd_intro)
    iintro ⟨H, Ht, Hk⟩
    iapply Hk $$ [H Ht]
    isplitl [H]
    · iexact H
    · iexact Ht
  | op e k ih =>
    intro σ
    cases e with
    | ld j r h =>
      simp only [run]
      show _ ⊢ wp frame (wpE defs 𝒱 c bd) E (.op (.load (M j) r (View.loadsAt_vmem h)) fun v => interp (Λ := Λ) M tm (k v)) Q
      refine BIBase.Entails.trans (sep_mono_left ((own_take M c σ j).trans (sep_mono_left (owns_open c (M j) fullShare (σ j))))) ?_
      iintro ⟨⟨⟨%f, %hf, Hj⟩, Hr⟩, Ht, Hk⟩
      iapply wp_load (Q := Q) 𝒱 (c : Thread nD τ) bd E (hl := View.loadsAt_vmem h) (k := fun v => interp (Λ := Λ) M tm (k v)) (Finset.map_subset_map.mpr (Finset.subset_univ _)) $$ [Hj]
      · iexact Hj
      iintro Hj
      have e : (M j).view.readAt Val r f = fun x => σ j (r.idx x) := by rw [← hf]; rfl
      rw [e]
      iapply ih (fun x => σ j (r.idx x)) σ
      isplitl [Hj Hr]
      · iapply own_untake M c σ j
        isplitl [Hj]
        · iapply owns_close
          iexists f
          isplitr
          · ipureintro; exact hf
          · iexact Hj
        · iexact Hr
      isplitl [Ht]
      · iexact Ht
      iintro ⟨H1, H2⟩
      iapply Hk $$ [H1 H2]
      isplitl [H1]
      · iexact H1
      · iexact H2
    | st j r w h =>
      simp only [run]
      show _ ⊢ wp frame (wpE defs 𝒱 c bd) E (.op (.store (M j) r w Finset.univ h (.inl rfl)) fun v => interp (Λ := Λ) M tm (k v)) Q
      refine BIBase.Entails.trans (sep_mono_left ((own_take M c σ j).trans (sep_mono_left (owns_open c (M j) fullShare (σ j))))) ?_
      iintro ⟨⟨⟨%f, %hf, Hj⟩, Hr⟩, Ht, Hk⟩
      iapply wp_store (Q := Q) 𝒱 (c : Thread nD τ) bd E (hx := h) (hm := .inl rfl) (k := fun v => interp (Λ := Λ) M tm (k v))
        (S := (M j).view.set) (by
          rw [show ((M j).access r).setOn Finset.univ = ((M j).access r).set from rfl, View.set_slice]
          exact Finset.map_subset_map.mpr (Finset.subset_univ _)) $$ [Hj]
      · iexact Hj
      iintro Hj
      have e : (M j).view.read Val (((M j).access r).write Val f w Finset.univ) = put (σ j) r w := by
        rw [← hf]; exact read_put (M j).view r f w
      iapply ih ⟨⟩ (Function.update σ j (put (σ j) r w))
      isplitl [Hj Hr]
      · iapply own_put M c σ j (put (σ j) r w)
        isplitl [Hj]
        · iapply owns_close
          iexists (((M j).access r).write Val f w Finset.univ)
          isplitr
          · ipureintro; exact e
          · iexact Hj
        · iexact Hr
      isplitl [Ht]
      · iexact Ht
      iintro ⟨H1, H2⟩
      iapply Hk $$ [H1 H2]
      isplitl [H1]
      · iexact H1
      · iexact H2
    | tb r h1 =>
      simp only [run]
      show _ ⊢ wp frame (wpE defs 𝒱 c bd) E (smemLoadElt tm r (View.loads_smem_one rfl h1) (Shape.Idx.first (h1.symm ▸ Nat.one_pos)) fun w => interp (Λ := Λ) M tm (k w)) Q
      refine BIBase.Entails.trans (sep_mono_right (sep_mono_left (owns_open c tm q T))) ?_
      iintro ⟨Hs, ⟨%f, %hf, Hj⟩, Hk⟩
      iapply wp_smemLoadElt (Q := Q) (m := tm) (r := r) (hw := View.loads_smem_one rfl h1) (x := Shape.Idx.first (h1.symm ▸ Nat.one_pos)) 𝒱 (c : Thread nD τ) bd E (k := fun v => interp (Λ := Λ) M tm (k v))
        (S := tm.view.set) (by
          rw [View.set_slice]
          exact Finset.map_subset_map.mpr (Finset.subset_univ _)) $$ [Hj]
      · iexact Hj
      iintro Hj
      have e : (tm.access r).read Val f (Shape.Idx.first (h1.symm ▸ Nat.one_pos)) = T (r.emb (Shape.Idx.first (h1.symm ▸ Nat.one_pos))) := by
        rw [← hf]; rfl
      rw [e]
      iapply ih _ σ
      isplitl [Hs]
      · iexact Hs
      isplitl [Hj]
      · iapply owns_close
        iexists f
        isplitr
        · ipureintro; exact hf
        · iexact Hj
      iintro ⟨H1, H2⟩
      iapply Hk $$ [H1 H2]
      isplitl [H1]
      · iexact H1
      · iexact H2

end Machine

end Cert.Dsl

end
-- ==== Proof.Body.lean ====
/- The kernel's body as programs of the small language: its first part (the quantised new rows, the widened scales, the queries and
   the new keys' scores), its main part (one cache row per sequence of the block) and its last part (the new values added in). -/
module

public import proofs.«01_k».proof.Proof.Gen.Kernel
public import proofs.«01_k».proof.Proof.Dsl

@[expose] public section

set_option maxRecDepth 16384

noncomputable section

namespace Cert.Body

open Idealize.ShloMosaic Idealize.ShloMosaic.TcCoe
open Idealize.SL Idealize.SL.Sem
open Cert.Kernel Cert.Kernel.Facts₀ Cert.Kernel.Facts
open Cert.Dsl (Op State)

variable {F : FTy → Type} [FloatOps F]

/-! ## The buffers -/

/-- The buffers' shapes: the seven inputs, the four results, the eight scratch buffers. -/
abbrev bsh : Fin 19 → Shape
  | ⟨0, _⟩ => S2x20x96x128 | ⟨1, _⟩ => S2x4x96x128 | ⟨2, _⟩ => S2x4x96x128 | ⟨3, _⟩ => S8x4x96x512 | ⟨4, _⟩ => S4x96x128 | ⟨5, _⟩ => S8x4x96x512 | ⟨6, _⟩ => S8x4x512
  | ⟨7, _⟩ => S2x20x96x128 | ⟨8, _⟩ => S2x4x96x128 | ⟨9, _⟩ => S2x4x96x128 | ⟨10, _⟩ => S2x4x128
  | ⟨11, _⟩ => S8192x128 | ⟨12, _⟩ => S4x96x128 | ⟨13, _⟩ => S2x64x128 | ⟨14, _⟩ => S64x128 | ⟨15, _⟩ => S64x128 | ⟨16, _⟩ => S64x128 | ⟨17, _⟩ => S64x128 | _ => S8192x128
/-- Their element types. -/
abbrev bel : Fin 19 → EltTy
  | ⟨0, _⟩ => .bf16 | ⟨1, _⟩ => .bf16 | ⟨2, _⟩ => .bf16 | ⟨3, _⟩ => .i8 | ⟨4, _⟩ => .f32 | ⟨5, _⟩ => .i8 | ⟨6, _⟩ => .f32
  | ⟨7, _⟩ => .bf16 | ⟨8, _⟩ => .i8 | ⟨9, _⟩ => .i8 | ⟨10, _⟩ => .f32
  | ⟨11, _⟩ => .f32 | ⟨12, _⟩ => .f32 | ⟨13, _⟩ => .f32 | ⟨14, _⟩ => .f32 | ⟨15, _⟩ => .f32 | ⟨16, _⟩ => .f32 | ⟨17, _⟩ => .f32 | _ => .f32

/-! ## Rectangles -/

/-- A new row's rectangle lies in the buffer of new rows. -/
theorem inb4 : ∀ (j : Fin 2) (kv : Fin 4) (a : Fin 4), (![j.val, kv.val, 0, 0] : Fin 4 → Nat) a + S1x1x96x128.size a ≤ S2x4x96x128.size a := by decide
/-- A query row's rectangle lies in the buffer of queries. -/
theorem inb20 : ∀ (j : Fin 2) (h : Fin 20) (a : Fin 4), (![j.val, h.val, 0, 0] : Fin 4 → Nat) a + S1x1x96x128.size a ≤ S2x20x96x128.size a := by decide +kernel
/-- A head's rectangle of a sequence's cache lies in its buffer. -/
theorem inbk : ∀ (r : Fin 8) (kv : Fin 4) (a : Fin 4), (![r.val, kv.val, 0, 0] : Fin 4 → Nat) a + S1x1x96x512.size a ≤ S8x4x96x512.size a := by decide +kernel
/-- A head's key scales lie in their buffer. -/
theorem inbs : ∀ (kv : Fin 4) (a : Fin 3), (![kv.val, 0, 0] : Fin 3 → Nat) a + S1x96x128.size a ≤ S4x96x128.size a := by decide
/-- A head's cached value scales lie in their buffer. -/
theorem inbvs : ∀ (r : Fin 8) (kv : Fin 4) (a : Fin 3), (![r.val, kv.val, 0] : Fin 3 → Nat) a + S1x1x512.size a ≤ S8x4x512.size a := by decide +kernel
/-- A new value's scale row lies in its buffer. -/
theorem inbn : ∀ (j : Fin 2) (kv : Fin 4) (a : Fin 3), (![j.val, kv.val, 0] : Fin 3 → Nat) a + S1x1x128.size a ≤ S2x4x128.size a := by decide
/-- A row of new keys' scores lies in its buffer. -/
theorem inbt : ∀ (j : Fin 2) (r : Fin 64) (a : Fin 3), (![j.val, r.val, 0] : Fin 3 → Nat) a + S1x1x128.size a ≤ S2x64x128.size a := by decide +kernel
/-- A row among the sixty-four lies in its buffer. -/
theorem inbr : ∀ (r : Fin 64) (a : Fin 2), (![r.val, 0] : Fin 2 → Nat) a + S1x128.size a ≤ S64x128.size a := by decide +kernel
/-- A head's sixteen rows lie among the sixty-four. -/
theorem inb16 : ∀ (kv : Fin 4) (a : Fin 2), (![16 * kv.val, 0] : Fin 2 → Nat) a + S16x128.size a ≤ S64x128.size a := by decide
/-- Row `r` of every sequence, every sixty-fourth row from `r`, lies in the buffer. -/
theorem inbq : ∀ (r : Fin 64) (a : Fin 2), S128x128.size a = 0 ∨ (![r.val, 0] : Fin 2 → Nat) a + (![64, 1] : Fin 2 → Nat) a * (S128x128.size a - 1) < S8192x128.size a := by decide +kernel

/-- Row `(j, kv)` of the new rows, of their codes. -/
abbrev r4 (j : Fin 2) (kv : Fin 4) : Rect S2x4x96x128 := Rect.unit (s := S2x4x96x128) ![j.val, kv.val, 0, 0] S1x1x96x128.size (inb4 j kv)
/-- Row `(j, h)` of the queries, of the result. -/
abbrev r20 (j : Fin 2) (h : Fin 20) : Rect S2x20x96x128 := Rect.unit (s := S2x20x96x128) ![j.val, h.val, 0, 0] S1x1x96x128.size (inb20 j h)
/-- Sequence `r`'s cache codes of head `kv`. -/
abbrev rk (r : Fin 8) (kv : Fin 4) : Rect S8x4x96x512 := Rect.unit (s := S8x4x96x512) ![r.val, kv.val, 0, 0] S1x1x96x512.size (inbk r kv)
/-- Head `kv`'s key scales. -/
abbrev rs (kv : Fin 4) : Rect S4x96x128 := Rect.unit (s := S4x96x128) ![kv.val, 0, 0] S1x96x128.size (inbs kv)
/-- Sequence `r`'s value scales of head `kv`. -/
abbrev rvs (r : Fin 8) (kv : Fin 4) : Rect S8x4x512 := Rect.unit (s := S8x4x512) ![r.val, kv.val, 0] S1x1x512.size (inbvs r kv)
/-- The new values' scales at `(j, kv)`. -/
abbrev rn (j : Fin 2) (kv : Fin 4) : Rect S2x4x128 := Rect.unit (s := S2x4x128) ![j.val, kv.val, 0] S1x1x128.size (inbn j kv)
/-- Score row `r` of new key `j`. -/
abbrev rt (j : Fin 2) (r : Fin 64) : Rect S2x64x128 := Rect.unit (s := S2x64x128) ![j.val, r.val, 0] S1x1x128.size (inbt j r)
/-- Row `r` of a scratch of rows. -/
abbrev rr (r : Fin 64) : Rect S64x128 := Rect.unit (s := S64x128) ![r.val, 0] S1x128.size (inbr r)
/-- Head `kv`'s sixteen rows of it. -/
abbrev r16 (kv : Fin 4) : Rect S64x128 := Rect.unit (s := S64x128) ![16 * kv.val, 0] S16x128.size (inb16 kv)
/-- Row `r` of every sequence's sixty-four. -/
abbrev lq (r : Fin 64) : LoadRect S8192x128 := ⟨![r.val, 0], S128x128.size, ![64, 1], inbq r⟩
/-- Row `r` of every sequence. -/
abbrev rq (r : Fin 64) : Rect S8192x128 := ⟨lq r, spos_64_1⟩
/-- Sequence `r`'s sixteen query rows of head `kv`. -/
abbrev rq16 (i : grid0.Coords) (r : Fin 8) (kv : Fin 4) : Rect S8192x128 :=
  Rect.unit (s := S8192x128) (k0_off2 i (BitVec.ofNat 32 r.val) (BitVec.ofNat 32 (16 * kv.val))) S16x128.size (k0_off2_inb i r kv)
/-- Sequence `r`'s sixty-four result rows. -/
abbrev ro (i : grid0.Coords) (r : Fin 8) : Rect S8192x128 :=
  Rect.unit (s := S8192x128) (k0_off3 i (BitVec.ofNat 32 r.val)) S64x128.size (k0_off3_inb i r)
/-- Sequence `r`'s table word. -/
abbrev rtb (i : grid0.Coords) (r : Fin 8) : Rect S1536 :=
  Rect.unit (s := S1536) (k0_off1 i (BitVec.ofNat 32 r.val)) S1.size (k0_off1_inb i r)

/-- A new row's rectangle covers whole packed words of int8. -/
theorem packed4 : ∀ (j : Fin 2) (kv : Fin 4), (r4 j kv).PackedRows (EltTy.packing .i8) := by decide +kernel
/-- A query row's rectangle covers whole packed words of bf16. -/
theorem packed20 : ∀ (j : Fin 2) (h : Fin 20), (r20 j h).PackedRows (EltTy.packing .bf16) := by decide +kernel

/-- The point at block `B`, place `s`. -/
abbrev crd (B : Fin 12) (s : Fin 16) : grid0.Coords := fun | ⟨0, _⟩ => B | ⟨1, _⟩ => s | ⟨n + 2, h⟩ => absurd h (by show ¬ n + 2 < 2; omega)

/-! ## Values -/

/-- Rounded and cut to [-127, 127], as an int8. -/
def quant (a b : FVec F S96x128 .f32) : IVec S96x128 8 :=
  fptosi 8 (minimumf (broadcast S96x128 (Scalar.ofBits .f32 0x42FE0000#32))
    (maximumf (broadcast S96x128 (Scalar.ofBits .f32 0xC2FE0000#32)) (roundeven (divf a b))))
/-- One `96 x 128` row, from the `1 x 1 x 96 x 128` block, widened. -/
def wide (w : Vec F S1x1x96x128 .bf16) : FVec F S96x128 .f32 := extf .f32 (shapeCast S96x128 w shapeCasts_S1x1x96x128_S96x128) bitsLt_bf16_f32
/-- The new key's codes. -/
def kcRow (kn : Vec F S1x1x96x128 .bf16) (ks : Vec F S1x96x128 .f32) : Vec F S1x1x96x128 .i8 :=
  shapeCast S1x1x96x128 (quant (wide kn) (shapeCast S96x128 ks shapeCasts_S1x96x128_S96x128)) shapeCasts_S96x128_S1x1x96x128
/-- The new value's scale. -/
def vsRow (vn : Vec F S1x1x96x128 .bf16) : FVec F S1x128 .f32 :=
  have a : FVec F S1x128 .f32 := shapeCast S1x128 (multiReduction .maximumf [0] S128 (absf (wide vn)) 0xFF800000#32 reduces_S96x128_S128 (.inl rfl) rfl) shapeCasts_S128_S1x128
  select (cmpf .oeq a (broadcast S1x128 (Scalar.ofBits .f32 0x00000000#32))) (broadcast S1x128 (Scalar.ofBits .f32 0x3F800000#32))
    (divf a (broadcast S1x128 (Scalar.ofBits .f32 0x42FE0000#32)))
/-- The new value's codes. -/
def vcRow (vn : Vec F S1x1x96x128 .bf16) : Vec F S1x1x96x128 .i8 :=
  shapeCast S1x1x96x128 (quant (wide vn) (broadcastTo S96x128 (vsRow vn) broadcasts_S1x128_S96x128)) shapeCasts_S96x128_S1x1x96x128
/-- The scale as it is stored. -/
def vsnRow (vn : Vec F S1x1x96x128 .bf16) : Vec F S1x1x128 .f32 := shapeCast S1x1x128 (vsRow vn) shapeCasts_S1x128_S1x1x128
/-- The key scales, through bf16. -/
def ksRow (ks : Vec F S1x96x128 .f32) : FVec F S1x96x128 .f32 :=
  shapeCast S1x96x128 (extf .f32 (truncf .bf16 (shapeCast S96x128 ks shapeCasts_S1x96x128_S96x128) bitsLt_bf16_f32) bitsLt_bf16_f32) shapeCasts_S96x128_S1x96x128
/-- One query row of every sequence, padded to 128 columns. -/
def qRow (x : Vec F S1x1x96x128 .bf16) : FVec F S128x128 .f32 :=
  shapeCast S128x128 (transpose S128x128 [1, 0] (concatenate S128x128 0 [⟨S96x128, wide x⟩, ⟨S32x128, (broadcast S32x128 (Scalar.ofBits .f32 0x00000000#32) : FVec F S32x128 .f32)⟩] concatenates_S96x128_S32x128_S128x128_d0) transposes_S128x128_p1_0_S128x128) shapeCasts_S128x128_S128x128
/-- A padding query row. -/
def qPad : FVec F S128x128 .f32 := shapeCast S128x128 (broadcast S128x128 (Scalar.ofBits .f32 0x00000000#32) : FVec F S128x128 .f32) shapeCasts_S128x128_S128x128
/-- The score of a query against a new key. -/
def tNew (c : F .f32) (x k : FVec F S96x128 .f32) : FVec F S1x128 .f32 :=
  mulf (shapeCast S1x128 (multiReduction .add [0] S128 (mulf x k) 0x00000000#32 reduces_S96x128_S128 (.inl rfl) rfl) shapeCasts_S128_S1x128) (broadcast S1x128 c)
/-- A row of zeros. -/
def zero1 : FVec F S1x128 .f32 := broadcast S1x128 (Scalar.ofBits .f32 0x00000000#32)
/-- A row of ones. -/
def one1 : FVec F S1x128 .f32 := broadcast S1x128 (Scalar.ofBits .f32 0x3F800000#32)
/-- A row of minus infinity. -/
def ninf1 : FVec F S1x128 .f32 := broadcast S1x128 (Scalar.ofBits .f32 0xFF800000#32)
/-- The weight sum of one score. -/
def lSum1 (t : FVec F S1x128 .f32) : FVec F S1x128 .f32 := addf zero1 (exp2 (subf t t))
/-- The weight sum of two. -/
def lSum2 (t u : FVec F S1x128 .f32) : FVec F S1x128 .f32 :=
  addf (addf zero1 (exp2 (subf t (maximumf t u)))) (exp2 (subf u (maximumf t u)))
/-- A row of scores in the shape it is stored in. -/
abbrev tSt (t : FVec F S1x128 .f32) : FVec F S1x1x128 .f32 := shapeCast S1x1x128 t shapeCasts_S1x128_S1x1x128
/-- A row of maxima or sums in the shape it is stored in. -/
abbrev rSt (t : FVec F S1x128 .f32) : FVec F S1x128 .f32 := shapeCast S1x128 t shapeCasts_S1x128_S1x128

/-- The lanes of the sequence at hand. -/
def mine (bl : BitVec 32) : IVec S16x128 1 := cmpi .eq (iota .tc S16x128 32 [1] iota_S16x128_d1_w32) (broadcast S16x128 bl)
/-- The cache positions filled. -/
def valid (n : BitVec 32) : IVec S16x512 1 := cmpi .slt (iota .tc S16x512 32 [1] iota_S16x512_d1_w32) (broadcast S16x512 n)
/-- The lane the key scales are taken at. -/
def lane (bl : BitVec 32) : IVec S96x128 32 :=
  shapeCast S96x128 (shapeCast S96x128x1 (select (cmpi .slt (broadcast S96x128 bl) (broadcast S96x128 0#32)) (addi (broadcast S96x128 bl) (broadcast S96x128 128#32)) (broadcast S96x128 bl)) shapeCasts_S96x128_S96x128x1) shapeCasts_S96x128x1_S96x128
/-- The key scales of the sequence at hand, in every lane of 128. -/
def kScale (bl : BitVec 32) (ks : Vec F S1x96x128 .f32) : FVec F S96x128 .bf16 :=
  truncf .bf16 (dynamicGather 1 (shapeCast S96x128 ks shapeCasts_S1x96x128_S96x128 : FVec F S96x128 .f32) (lane bl)) bitsLt_bf16_f32
/-- The keys read out of the cache. -/
def kDeq (bl : BitVec 32) (ks : Vec F S1x96x128 .f32) (k : Vec F S1x1x96x512 .i8) : FVec F S96x512 .bf16 :=
  mulf (sitofp .bf16 (shapeCast S96x512 k shapeCasts_S1x1x96x512_S96x512 : IVec S96x512 8))
    (concatenate S96x512 1 [⟨S96x128, kScale bl ks⟩, ⟨S96x128, kScale bl ks⟩, ⟨S96x128, kScale bl ks⟩, ⟨S96x128, kScale bl ks⟩] concatenates_S96x128_S96x128_S96x128_S96x128_S96x512_d1)
/-- The scores of the cache, masked. -/
def score (c : F .f32) (bl n : BitVec 32) (q : Vec F S16x128 .f32) (ks : Vec F S1x96x128 .f32) (k : Vec F S1x1x96x512 .i8) : FVec F S16x512 .f32 :=
  select (valid n) (mulf (matmul dot_S16x96_S96x512_S16x512_1_0_0_1_n_n none
      (extractStridedSlice S16x96 ![0, 0] (truncf .bf16 (q : FVec F S16x128 .f32) bitsLt_bf16_f32) slices_S16x128_o0_0_S16x96) (kDeq bl ks k)
      (constant S16x512 .f32 0x00000000#32)) (broadcast S16x512 c)) (broadcast S16x512 (Scalar.ofBits .f32 0xFF800000#32))
/-- The new keys' maximum, in the sequence's own lane. -/
def mTile (bl : BitVec 32) (mn : Vec F S16x128 .f32) : Vec F S16x128 .f32 :=
  select (mine bl) mn (broadcast S16x128 (Scalar.ofBits .f32 0xFF800000#32) : FVec F S16x128 .f32)
/-- The maximum over the cache and the new keys. -/
def mCol (s : FVec F S16x512 .f32) (mt : FVec F S16x128 .f32) : FVec F S16x1 .f32 :=
  shapeCast S16x1 (multiReduction .maximumf [1] S16
    (maximumf (maximumf (maximumf (maximumf mt (extractStridedSlice S16x128 ![0, 0] s slices_S16x512_o0_0_S16x128))
      (extractStridedSlice S16x128 ![0, 128] s slices_S16x512_o0_128_S16x128)) (extractStridedSlice S16x128 ![0, 256] s slices_S16x512_o0_256_S16x128))
      (extractStridedSlice S16x128 ![0, 384] s slices_S16x512_o0_384_S16x128)) 0xFF800000#32 reduces_S16x128_S16 (.inl rfl) rfl) shapeCasts_S16_S16x1
/-- The cache's weights. -/
def eTile (s : FVec F S16x512 .f32) (m : FVec F S16x1 .f32) : FVec F S16x512 .f32 := exp2 (subf s (broadcastTo S16x512 m broadcasts_S16x1_S16x512))
/-- One over the sum of all weights. -/
def iCol (e : FVec F S16x512 .f32) (mt : FVec F S16x128 .f32) (m : FVec F S16x1 .f32) (ln : Vec F S16x128 .f32) : FVec F S16x1 .f32 :=
  divf (broadcast S16x1 (Scalar.ofBits .f32 0x3F800000#32))
    (shapeCast S16x1 (multiReduction .add [1] S16
      (addf (addf (addf (addf (mulf (exp2 (subf mt (broadcastTo S16x128 m broadcasts_S16x1_S16x128))) (ln : FVec F S16x128 .f32))
        (extractStridedSlice S16x128 ![0, 0] e slices_S16x512_o0_0_S16x128)) (extractStridedSlice S16x128 ![0, 128] e slices_S16x512_o0_128_S16x128))
        (extractStridedSlice S16x128 ![0, 256] e slices_S16x512_o0_256_S16x128)) (extractStridedSlice S16x128 ![0, 384] e slices_S16x512_o0_384_S16x128))
      0x00000000#32 reduces_S16x128_S16 (.inl rfl) rfl) shapeCasts_S16_S16x1)
/-- A column put in the sequence's own lane. -/
def putLane (bl : BitVec 32) (m : FVec F S16x1 .f32) (old : Vec F S16x128 .f32) : FVec F S16x128 .f32 :=
  shapeCast S16x128 (select (mine bl) (broadcastTo S16x128 (shapeCast S16x1 m shapeCasts_S16x1_S16x1) broadcasts_S16x1_S16x128) old : FVec F S16x128 .f32) shapeCasts_S16x128_S16x128
/-- The cache's probabilities times the value scales. -/
def pTile (e : FVec F S16x512 .f32) (inv : FVec F S16x1 .f32) (vs : Vec F S1x1x512 .f32) : FVec F S16x512 .bf16 :=
  truncf .bf16 (mulf (mulf e (broadcastTo S16x512 inv broadcasts_S16x1_S16x512))
    (broadcastTo S16x512 (shapeCast S1x512 vs shapeCasts_S1x1x512_S1x512 : FVec F S1x512 .f32) broadcasts_S1x512_S16x512)) bitsLt_bf16_f32
/-- Set at head `kv`'s rows among sixty-four, zero elsewhere. -/
def pPad (kv : Fin 4) (p : FVec F S16x512 .bf16) : FVec F S64x512 .bf16 :=
  match kv with
  | ⟨0, _⟩ => concatenate S64x512 0 [⟨S16x512, p⟩, ⟨S48x512, (broadcast S48x512 (Scalar.ofBits .bf16 0x0000#16) : FVec F S48x512 .bf16)⟩] concatenates_S16x512_S48x512_S64x512_d0
  | ⟨1, _⟩ => concatenate S64x512 0 [⟨S16x512, (broadcast S16x512 (Scalar.ofBits .bf16 0x0000#16) : FVec F S16x512 .bf16)⟩, ⟨S16x512, p⟩, ⟨S32x512, (broadcast S32x512 (Scalar.ofBits .bf16 0x0000#16) : FVec F S32x512 .bf16)⟩] concatenates_S16x512_S16x512_S32x512_S64x512_d0
  | ⟨2, _⟩ => concatenate S64x512 0 [⟨S32x512, (broadcast S32x512 (Scalar.ofBits .bf16 0x0000#16) : FVec F S32x512 .bf16)⟩, ⟨S16x512, p⟩, ⟨S16x512, (broadcast S16x512 (Scalar.ofBits .bf16 0x0000#16) : FVec F S16x512 .bf16)⟩] concatenates_S32x512_S16x512_S16x512_S64x512_d0
  | ⟨3, _⟩ => concatenate S64x512 0 [⟨S48x512, (broadcast S48x512 (Scalar.ofBits .bf16 0x0000#16) : FVec F S48x512 .bf16)⟩, ⟨S16x512, p⟩] concatenates_S48x512_S16x512_S64x512_d0
/-- The values of the cache, weighted. -/
def vDot (v : Vec F S1x1x96x512 .i8) (pp : FVec F S64x512 .bf16) : FVec F S96x64 .f32 :=
  matmul dot_S96x512_S64x512_S96x64_1_1_0_0_n_n none (sitofp .bf16 (shapeCast S96x512 v shapeCasts_S1x1x96x512_S96x512 : IVec S96x512 8)) pp (constant S96x64 .f32 0x00000000#32)
/-- The four heads' sums turned into sixty-four rows. -/
def oRow (ot : FVec F S96x64 .f32) : FVec F S64x128 .f32 :=
  shapeCast S64x128 (extractStridedSlice S64x128 ![0, 0] (transpose S128x128 [1, 0] (concatenate S128x128 0 [⟨S96x128, (concatenate S96x128 1 [⟨S96x64, ot⟩, ⟨S96x64, (broadcast S96x64 (Scalar.ofBits .f32 0x00000000#32) : FVec F S96x64 .f32)⟩] concatenates_S96x64_S96x64_S96x128_d1 : FVec F S96x128 .f32)⟩, ⟨S32x128, (broadcast S32x128 (Scalar.ofBits .f32 0x00000000#32) : FVec F S32x128 .f32)⟩] concatenates_S96x128_S32x128_S128x128_d0) transposes_S128x128_p1_0_S128x128) slices_S128x128_o0_0_S64x128) shapeCasts_S64x128_S64x128

/-- Row `r` of every sequence's result so far. -/
def oCol (o : Vec F S128x128 .f32) : FVec F S96x128 .f32 :=
  extractStridedSlice S96x128 ![0, 0] (transpose S128x128 [1, 0] (o : FVec F S128x128 .f32) transposes_S128x128_p1_0_S128x128) slices_S128x128_o0_0_S96x128
/-- A new value's weighted row. -/
def pv (t : Vec F S1x1x128 .f32) (m i : Vec F S1x128 .f32) (v : FVec F S96x128 .f32) : FVec F S96x128 .f32 :=
  mulf (broadcastTo S96x128 (extf .f32 (truncf .bf16 (mulf (exp2 (subf (shapeCast S1x128 t shapeCasts_S1x1x128_S1x128 : FVec F S1x128 .f32) (m : FVec F S1x128 .f32))) (i : FVec F S1x128 .f32)) bitsLt_bf16_f32) bitsLt_bf16_f32) broadcasts_S1x128_S96x128) v
/-- The result row as stored. -/
def outRow (o : FVec F S96x128 .f32) : Vec F S1x1x96x128 .bf16 :=
  shapeCast S1x1x96x128 (truncf .bf16 o bitsLt_bf16_f32 : FVec F S96x128 .bf16) shapeCasts_S96x128_S1x1x96x128

/-! ## Programs -/

section Prog

variable {τ : Topo} {sig : RefSig}
variable (M : (j : Fin 19) → Memref sig .tc .vmem (bsh j) (bel j)) (hM : ∀ j, (M j).IsWhole) (c : F .f32)

/-- A program on these buffers and the table. -/
abbrev P (α : Type) : Type _ := Prog (Op bsh bel S1536 (Elt F) (Dsl.Ok M)) α

variable {M} in
/-- Load a rectangle of buffer `j`. -/
def ld (j : Fin 19) (r : LoadRect (bsh j)) (h : 0 < r.shape.numel) : P (F := F) M (r.shape.Idx → Elt F (bel j)) := Prog.lift (.ld j r h)
variable {M} in
/-- Store to a rectangle of buffer `j`. -/
def st (j : Fin 19) (r : Rect (bsh j)) (w : r.shape.Idx → Elt F (bel j)) (h : Dsl.Ok M j r) : P (F := F) M PUnit := Prog.lift (.st j r w h)
variable {M} in
/-- Read a word of the table. -/
def tb (r : Rect S1536) (h1 : r.shape.numel = 1) : P (F := F) M (BitVec 32) := Prog.lift (.tb r h1)
variable {M} in
/-- One after another, over a list. -/
def loop {α : Type} (f : α → P (F := F) M PUnit) : List α → P (F := F) M PUnit
  | [] => pure ⟨⟩
  | a :: l => f a >>= fun _ => loop f l

/-- The codes and the scale of new row `(j, kv)`. -/
def newRow (j : Fin 2) (kv : Fin 4) : P (F := F) M PUnit := do
  let kn : Vec F S1x1x96x128 .bf16 ← ld 1 (r4 j kv).toLoadRect h_S1x1x96x128
  let ks : Vec F S1x96x128 .f32 ← ld 4 (rs kv).toLoadRect h_S1x96x128
  let _ ← ld 8 (r4 j kv).toLoadRect h_S1x1x96x128
  st 8 (r4 j kv) (kcRow kn ks) (View.stores_vmem h_S1x1x96x128 ((hM 8).storeExact_slice rfl _ (packed4 j kv)) (fun _ => rfl))
  let vn : Vec F S1x1x96x128 .bf16 ← ld 2 (r4 j kv).toLoadRect h_S1x1x96x128
  let _ ← ld 9 (r4 j kv).toLoadRect h_S1x1x96x128
  st 9 (r4 j kv) (vcRow vn) (View.stores_vmem h_S1x1x96x128 ((hM 9).storeExact_slice rfl _ (packed4 j kv)) (fun _ => rfl))
  let _ ← ld 10 (rn j kv).toLoadRect h_S1x1x128
  st 10 (rn j kv) (vsnRow vn) (View.stores_vmem_bits_univ h_S1x1x128 rfl)

/-- Row of head `kv`, place `gs`. -/
abbrev rowOf (kv : Fin 4) (gs : Fin 16) : Fin 64 := ⟨16 * kv.val + gs.val, by omega⟩
/-- Query head of head `kv`, place `gs` (five to a position). -/
abbrev headOf (kv : Fin 4) (g : Fin 5) : Fin 20 := ⟨5 * kv.val + g.val, by omega⟩

/-- Store one query row of every sequence. -/
def qStore (kv : Fin 4) (p : Fin 2 × Fin 5) : P (F := F) M PUnit := do
  let x : Vec F S1x1x96x128 .bf16 ← ld 0 (r20 p.1 (headOf kv p.2)).toLoadRect h_S1x1x96x128
  let _ ← ld 11 (lq (rowOf kv ⟨5 * p.1.val + p.2.val, by omega⟩)) h_S128x128
  st 11 (rq (rowOf kv ⟨5 * p.1.val + p.2.val, by omega⟩)) (qRow x) (View.stores_vmem_bits_univ h_S128x128 rfl)
/-- Store a padding query row. -/
def qPadStore (kv : Fin 4) (gs : Fin 16) : P (F := F) M PUnit := do
  let _ ← ld 11 (lq (rowOf kv gs)) h_S128x128
  st 11 (rq (rowOf kv gs)) qPad (View.stores_vmem_bits_univ h_S128x128 rfl)

/-- Store a row's scores, their maximum and their weight sum. -/
def tStore (r : Fin 64) (t u m l : FVec F S1x128 .f32) : P (F := F) M PUnit := do
  let _ ← ld 13 (rt 0 r).toLoadRect h_S1x1x128
  st 13 (rt 0 r) (tSt t) (View.stores_vmem_bits_univ h_S1x1x128 rfl)
  let _ ← ld 13 (rt 1 r).toLoadRect h_S1x1x128
  st 13 (rt 1 r) (tSt u) (View.stores_vmem_bits_univ h_S1x1x128 rfl)
  let _ ← ld 14 (rr r).toLoadRect h_S1x128
  st 14 (rr r) (rSt m) (View.stores_vmem_bits_univ h_S1x128 rfl)
  let _ ← ld 15 (rr r).toLoadRect h_S1x128
  st 15 (rr r) (rSt l) (View.stores_vmem_bits_univ h_S1x128 rfl)

/-- The scores of a query at the first position: the first new key only. -/
def tRow0 (kv : Fin 4) (k0 : FVec F S96x128 .f32) (g : Fin 5) : P (F := F) M PUnit := do
  let x : Vec F S1x1x96x128 .bf16 ← ld 0 (r20 0 (headOf kv g)).toLoadRect h_S1x1x96x128
  tStore M (rowOf kv ⟨g.val, by omega⟩) (tNew c (wide x) k0) ninf1 (tNew c (wide x) k0) (lSum1 (tNew c (wide x) k0))
/-- The scores of a query at the second position: both new keys. -/
def tRow1 (kv : Fin 4) (k0 k1 : FVec F S96x128 .f32) (g : Fin 5) : P (F := F) M PUnit := do
  let x : Vec F S1x1x96x128 .bf16 ← ld 0 (r20 1 (headOf kv g)).toLoadRect h_S1x1x96x128
  tStore M (rowOf kv ⟨5 + g.val, by omega⟩) (tNew c (wide x) k0) (tNew c (wide x) k1)
    (maximumf (tNew c (wide x) k0) (tNew c (wide x) k1)) (lSum2 (tNew c (wide x) k0) (tNew c (wide x) k1))
/-- The scores of a padding row. -/
def tPad (kv : Fin 4) (gs : Fin 16) : P (F := F) M PUnit := tStore M (rowOf kv gs) ninf1 ninf1 zero1 one1

/-- Head `kv`'s key scales, queries and new keys' scores. -/
def headRows (kv : Fin 4) : P (F := F) M PUnit := do
  let ks : Vec F S1x96x128 .f32 ← ld 4 (rs kv).toLoadRect h_S1x96x128
  let _ ← ld 12 (rs kv).toLoadRect h_S1x96x128
  st 12 (rs kv) (ksRow ks) (View.stores_vmem_bits_univ h_S1x96x128 rfl)
  loop (qStore M kv) [(0, 0), (0, 1), (0, 2), (0, 3), (0, 4), (1, 0), (1, 1), (1, 2), (1, 3), (1, 4)]
  loop (qPadStore M kv) [10, 11, 12, 13, 14, 15]
  let k0 : Vec F S1x1x96x128 .bf16 ← ld 1 (r4 0 kv).toLoadRect h_S1x1x96x128
  let k1 : Vec F S1x1x96x128 .bf16 ← ld 1 (r4 1 kv).toLoadRect h_S1x1x96x128
  loop (tRow0 M c kv (wide k0)) [0, 1, 2, 3, 4]
  loop (tRow1 M c kv (wide k0) (wide k1)) [0, 1, 2, 3, 4]
  loop (tPad M kv) [10, 11, 12, 13, 14, 15]

/-- The first part. -/
def prologue : P (F := F) M PUnit := do
  loop (fun p : Fin 2 × Fin 4 => newRow M hM p.1 p.2) [(0, 0), (0, 1), (0, 2), (0, 3), (1, 0), (1, 1), (1, 2), (1, 3)]
  loop (headRows M c) [0, 1, 2, 3]

/-- Sequence `r` of the point, as its number in the block of 128. -/
abbrev blOf (i : grid0.Coords) (r : Fin 8) : BitVec 32 := Scalar.addi (Scalar.muli (BitVec.ofNat 32 (i 1).val) 8#32) (BitVec.ofNat 32 r.val)

/-- Head `kv` of sequence `r`: its weights, its maximum and its inverse sum stored, its weighted cache values returned. -/
def head (i : grid0.Coords) (r : Fin 8) (n : BitVec 32) (kv : Fin 4) : P (F := F) M (FVec F S96x64 .f32) := do
  let q : Vec F S16x128 .f32 ← ld 11 (rq16 i r kv).toLoadRect h_S16x128
  let ks : Vec F S1x96x128 .f32 ← ld 12 (rs kv).toLoadRect h_S1x96x128
  let k : Vec F S1x1x96x512 .i8 ← ld 3 (rk r kv).toLoadRect h_S1x1x96x512
  let mn : Vec F S16x128 .f32 ← ld 14 (r16 kv).toLoadRect h_S16x128
  let ln : Vec F S16x128 .f32 ← ld 15 (r16 kv).toLoadRect h_S16x128
  let om : Vec F S16x128 .f32 ← ld 16 (r16 kv).toLoadRect h_S16x128
  let _ ← ld 16 (r16 kv).toLoadRect h_S16x128
  st 16 (r16 kv) (putLane (blOf i r) (mCol (score c (blOf i r) n q ks k) (mTile (blOf i r) mn)) om) (View.stores_vmem_bits_univ h_S16x128 rfl)
  let oi : Vec F S16x128 .f32 ← ld 17 (r16 kv).toLoadRect h_S16x128
  let _ ← ld 17 (r16 kv).toLoadRect h_S16x128
  st 17 (r16 kv) (putLane (blOf i r) (iCol (eTile (score c (blOf i r) n q ks k) (mCol (score c (blOf i r) n q ks k) (mTile (blOf i r) mn)))
    (mTile (blOf i r) mn) (mCol (score c (blOf i r) n q ks k) (mTile (blOf i r) mn)) ln) oi) (View.stores_vmem_bits_univ h_S16x128 rfl)
  let vs : Vec F S1x1x512 .f32 ← ld 6 (rvs r kv).toLoadRect h_S1x1x512
  let v : Vec F S1x1x96x512 .i8 ← ld 5 (rk r kv).toLoadRect h_S1x1x96x512
  pure (vDot v (pPad kv (pTile (eTile (score c (blOf i r) n q ks k) (mCol (score c (blOf i r) n q ks k) (mTile (blOf i r) mn)))
    (iCol (eTile (score c (blOf i r) n q ks k) (mCol (score c (blOf i r) n q ks k) (mTile (blOf i r) mn)))
      (mTile (blOf i r) mn) (mCol (score c (blOf i r) n q ks k) (mTile (blOf i r) mn)) ln) vs)))

/-- Sequence `r` of the point. -/
def seqn (i : grid0.Coords) (r : Fin 8) : P (F := F) M PUnit := do
  let n : BitVec 32 ← tb (rtb i r) numel1_S1
  let d0 ← head M c i r n 0
  let d1 ← head M c i r n 1
  let d2 ← head M c i r n 2
  let d3 ← head M c i r n 3
  let _ ← ld 18 (ro i r).toLoadRect h_S64x128
  st 18 (ro i r) (oRow (addf (addf (addf d0 d1) d2) d3)) (View.stores_vmem_bits_univ h_S64x128 rfl)

/-- The main part. -/
def mainPart (i : grid0.Coords) : P (F := F) M PUnit := loop (seqn M c i) [0, 1, 2, 3, 4, 5, 6, 7]

/-- The result row of a query at the first position. -/
def outRow0 (kv : Fin 4) (v0 : FVec F S96x128 .f32) (g : Fin 5) : P (F := F) M PUnit := do
  let o : Vec F S128x128 .f32 ← ld 18 (lq (rowOf kv ⟨g.val, by omega⟩)) h_S128x128
  let t : Vec F S1x1x128 .f32 ← ld 13 (rt 0 (rowOf kv ⟨g.val, by omega⟩)).toLoadRect h_S1x1x128
  let m : Vec F S1x128 .f32 ← ld 16 (rr (rowOf kv ⟨g.val, by omega⟩)).toLoadRect h_S1x128
  let l : Vec F S1x128 .f32 ← ld 17 (rr (rowOf kv ⟨g.val, by omega⟩)).toLoadRect h_S1x128
  let _ ← ld 7 (r20 0 (headOf kv g)).toLoadRect h_S1x1x96x128
  st 7 (r20 0 (headOf kv g)) (outRow (addf (oCol o) (pv t m l v0))) (View.stores_vmem h_S1x1x96x128 ((hM 7).storeExact_slice rfl _ (packed20 0 (headOf kv g))) (fun _ => rfl))
/-- The result row of a query at the second position. -/
def outRow1 (kv : Fin 4) (v0 v1 : FVec F S96x128 .f32) (g : Fin 5) : P (F := F) M PUnit := do
  let o : Vec F S128x128 .f32 ← ld 18 (lq (rowOf kv ⟨5 + g.val, by omega⟩)) h_S128x128
  let t : Vec F S1x1x128 .f32 ← ld 13 (rt 0 (rowOf kv ⟨5 + g.val, by omega⟩)).toLoadRect h_S1x1x128
  let m : Vec F S1x128 .f32 ← ld 16 (rr (rowOf kv ⟨5 + g.val, by omega⟩)).toLoadRect h_S1x128
  let l : Vec F S1x128 .f32 ← ld 17 (rr (rowOf kv ⟨5 + g.val, by omega⟩)).toLoadRect h_S1x128
  let u : Vec F S1x1x128 .f32 ← ld 13 (rt 1 (rowOf kv ⟨5 + g.val, by omega⟩)).toLoadRect h_S1x1x128
  let m' : Vec F S1x128 .f32 ← ld 16 (rr (rowOf kv ⟨5 + g.val, by omega⟩)).toLoadRect h_S1x128
  let l' : Vec F S1x128 .f32 ← ld 17 (rr (rowOf kv ⟨5 + g.val, by omega⟩)).toLoadRect h_S1x128
  let _ ← ld 7 (r20 1 (headOf kv g)).toLoadRect h_S1x1x96x128
  st 7 (r20 1 (headOf kv g)) (outRow (addf (addf (oCol o) (pv t m l v0)) (pv u m' l' v1))) (View.stores_vmem h_S1x1x96x128 ((hM 7).storeExact_slice rfl _ (packed20 1 (headOf kv g))) (fun _ => rfl))
/-- Head `kv`'s result rows. -/
def outHead (kv : Fin 4) : P (F := F) M PUnit := do
  let v0 : Vec F S1x1x96x128 .bf16 ← ld 2 (r4 0 kv).toLoadRect h_S1x1x96x128
  let v1 : Vec F S1x1x96x128 .bf16 ← ld 2 (r4 1 kv).toLoadRect h_S1x1x96x128
  loop (outRow0 M hM kv (wide v0)) [0, 1, 2, 3, 4]
  loop (outRow1 M hM kv (wide v0) (wide v1)) [0, 1, 2, 3, 4]
/-- The last part. -/
def epilogue : P (F := F) M PUnit := loop (outHead M hM) [0, 1, 2, 3]

/-- The whole body. -/
def body (i : grid0.Coords) : P (F := F) M PUnit :=
  (if k0_cond1 i = 1#1 then prologue M hM c else pure ⟨⟩) >>= fun _ => mainPart M c i >>= fun _ =>
    (if k0_cond2 i = 1#1 then epilogue M hM else pure ⟨⟩)

end Prog

section Fam
variable {sig : RefSig}
/-- The nineteen buffers as a family. -/
abbrev fam (a0 : Memref sig .tc .vmem (bsh 0) (bel 0)) (a1 : Memref sig .tc .vmem (bsh 1) (bel 1)) (a2 : Memref sig .tc .vmem (bsh 2) (bel 2)) (a3 : Memref sig .tc .vmem (bsh 3) (bel 3)) (a4 : Memref sig .tc .vmem (bsh 4) (bel 4)) (a5 : Memref sig .tc .vmem (bsh 5) (bel 5)) (a6 : Memref sig .tc .vmem (bsh 6) (bel 6)) (a7 : Memref sig .tc .vmem (bsh 7) (bel 7)) (a8 : Memref sig .tc .vmem (bsh 8) (bel 8)) (a9 : Memref sig .tc .vmem (bsh 9) (bel 9)) (a10 : Memref sig .tc .vmem (bsh 10) (bel 10)) (a11 : Memref sig .tc .vmem (bsh 11) (bel 11)) (a12 : Memref sig .tc .vmem (bsh 12) (bel 12)) (a13 : Memref sig .tc .vmem (bsh 13) (bel 13)) (a14 : Memref sig .tc .vmem (bsh 14) (bel 14)) (a15 : Memref sig .tc .vmem (bsh 15) (bel 15)) (a16 : Memref sig .tc .vmem (bsh 16) (bel 16)) (a17 : Memref sig .tc .vmem (bsh 17) (bel 17)) (a18 : Memref sig .tc .vmem (bsh 18) (bel 18))
    : (j : Fin 19) → Memref sig .tc .vmem (bsh j) (bel j)
  | ⟨0, _⟩ => a0
  | ⟨1, _⟩ => a1
  | ⟨2, _⟩ => a2
  | ⟨3, _⟩ => a3
  | ⟨4, _⟩ => a4
  | ⟨5, _⟩ => a5
  | ⟨6, _⟩ => a6
  | ⟨7, _⟩ => a7
  | ⟨8, _⟩ => a8
  | ⟨9, _⟩ => a9
  | ⟨10, _⟩ => a10
  | ⟨11, _⟩ => a11
  | ⟨12, _⟩ => a12
  | ⟨13, _⟩ => a13
  | ⟨14, _⟩ => a14
  | ⟨15, _⟩ => a15
  | ⟨16, _⟩ => a16
  | ⟨17, _⟩ => a17
  | ⟨18, _⟩ => a18
  | ⟨n + 19, h⟩ => absurd h (by omega)
/-- All whole when each is. -/
theorem fam_whole {a0 : Memref sig .tc .vmem (bsh 0) (bel 0)} {a1 : Memref sig .tc .vmem (bsh 1) (bel 1)} {a2 : Memref sig .tc .vmem (bsh 2) (bel 2)} {a3 : Memref sig .tc .vmem (bsh 3) (bel 3)} {a4 : Memref sig .tc .vmem (bsh 4) (bel 4)} {a5 : Memref sig .tc .vmem (bsh 5) (bel 5)} {a6 : Memref sig .tc .vmem (bsh 6) (bel 6)} {a7 : Memref sig .tc .vmem (bsh 7) (bel 7)} {a8 : Memref sig .tc .vmem (bsh 8) (bel 8)} {a9 : Memref sig .tc .vmem (bsh 9) (bel 9)} {a10 : Memref sig .tc .vmem (bsh 10) (bel 10)} {a11 : Memref sig .tc .vmem (bsh 11) (bel 11)} {a12 : Memref sig .tc .vmem (bsh 12) (bel 12)} {a13 : Memref sig .tc .vmem (bsh 13) (bel 13)} {a14 : Memref sig .tc .vmem (bsh 14) (bel 14)} {a15 : Memref sig .tc .vmem (bsh 15) (bel 15)} {a16 : Memref sig .tc .vmem (bsh 16) (bel 16)} {a17 : Memref sig .tc .vmem (bsh 17) (bel 17)} {a18 : Memref sig .tc .vmem (bsh 18) (bel 18)} (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole)
    : ∀ j, (fam a0 a1 a2 a3 a4 a5 a6 a7 a8 a9 a10 a11 a12 a13 a14 a15 a16 a17 a18 j).IsWhole
  | ⟨0, _⟩ => h0
  | ⟨1, _⟩ => h1
  | ⟨2, _⟩ => h2
  | ⟨3, _⟩ => h3
  | ⟨4, _⟩ => h4
  | ⟨5, _⟩ => h5
  | ⟨6, _⟩ => h6
  | ⟨7, _⟩ => h7
  | ⟨8, _⟩ => h8
  | ⟨9, _⟩ => h9
  | ⟨10, _⟩ => h10
  | ⟨11, _⟩ => h11
  | ⟨12, _⟩ => h12
  | ⟨13, _⟩ => h13
  | ⟨14, _⟩ => h14
  | ⟨15, _⟩ => h15
  | ⟨16, _⟩ => h16
  | ⟨17, _⟩ => h17
  | ⟨18, _⟩ => h18
  | ⟨n + 19, h⟩ => absurd h (by omega)
end Fam

end Cert.Body

end
-- ==== Proof.KBody.lean ====
/- The kernel's body is the program of Body.lean. -/
module

public import proofs.«01_k».proof.Proof.Body
public import proofs.«01_k».proof.Kernel
public import Idealize.ShloMosaic.Lib.Pipeline.Regions

@[expose] public section

set_option maxRecDepth 65536

noncomputable section

namespace Cert.Kernel.Gen

open Idealize.ShloMosaic Idealize.ShloMosaic.TcCoe Idealize.ShloMosaic.Tactic
open Idealize.SL Idealize.SL.Sem
open Cert.Dsl (interp)

variable {F : FTy → Type} [FloatOps F]

/-- The score scale the kernel multiplies by. -/
abbrev kc : F .f32 := Scalar.ofBits .f32 0x3E16C740#32

/-- Every point is the one at its coordinates. -/
theorem crd_eta (i : grid0.Coords) : Cert.Body.crd (i 0) (i 1) = i := by
  funext a; match a with | ⟨0, _⟩ => rfl | ⟨1, _⟩ => rfl | ⟨n + 2, h⟩ => exact absurd h (by show ¬ n + 2 < 2; omega)

section
variable (x : Fin 12) (arg2 : Memref sig .tc .smem S1536 .i32) (harg2 : arg2.IsWhole) (arg3 : Memref sig .tc .vmem (Cert.Body.bsh 0) (Cert.Body.bel 0)) (harg3 : arg3.IsWhole) (arg4 : Memref sig .tc .vmem (Cert.Body.bsh 1) (Cert.Body.bel 1)) (harg4 : arg4.IsWhole) (arg5 : Memref sig .tc .vmem (Cert.Body.bsh 2) (Cert.Body.bel 2)) (harg5 : arg5.IsWhole) (arg6 : Memref sig .tc .vmem (Cert.Body.bsh 3) (Cert.Body.bel 3)) (harg6 : arg6.IsWhole) (arg7 : Memref sig .tc .vmem (Cert.Body.bsh 4) (Cert.Body.bel 4)) (harg7 : arg7.IsWhole) (arg8 : Memref sig .tc .vmem (Cert.Body.bsh 5) (Cert.Body.bel 5)) (harg8 : arg8.IsWhole) (arg9 : Memref sig .tc .vmem (Cert.Body.bsh 6) (Cert.Body.bel 6)) (harg9 : arg9.IsWhole) (arg10 : Memref sig .tc .vmem (Cert.Body.bsh 7) (Cert.Body.bel 7)) (harg10 : arg10.IsWhole) (arg11 : Memref sig .tc .vmem (Cert.Body.bsh 8) (Cert.Body.bel 8)) (harg11 : arg11.IsWhole) (arg12 : Memref sig .tc .vmem (Cert.Body.bsh 9) (Cert.Body.bel 9)) (harg12 : arg12.IsWhole) (arg13 : Memref sig .tc .vmem (Cert.Body.bsh 10) (Cert.Body.bel 10)) (harg13 : arg13.IsWhole) (arg14 : Memref sig .tc .vmem (Cert.Body.bsh 11) (Cert.Body.bel 11)) (harg14 : arg14.IsWhole) (arg15 : Memref sig .tc .vmem (Cert.Body.bsh 12) (Cert.Body.bel 12)) (harg15 : arg15.IsWhole) (arg16 : Memref sig .tc .vmem (Cert.Body.bsh 13) (Cert.Body.bel 13)) (harg16 : arg16.IsWhole) (arg17 : Memref sig .tc .vmem (Cert.Body.bsh 14) (Cert.Body.bel 14)) (harg17 : arg17.IsWhole) (arg18 : Memref sig .tc .vmem (Cert.Body.bsh 15) (Cert.Body.bel 15)) (harg18 : arg18.IsWhole) (arg19 : Memref sig .tc .vmem (Cert.Body.bsh 16) (Cert.Body.bel 16)) (harg19 : arg19.IsWhole) (arg20 : Memref sig .tc .vmem (Cert.Body.bsh 17) (Cert.Body.bel 17)) (harg20 : arg20.IsWhole) (arg21 : Memref sig .tc .vmem (Cert.Body.bsh 18) (Cert.Body.bel 18)) (harg21 : arg21.IsWhole)

/-- The body at a point is the program of Body.lean there. -/
abbrev BodyIs (i : grid0.Coords) : Prop :=
    cc0__lambda_ (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      = interp (Cert.Body.fam arg3 arg4 arg5 arg6 arg7 arg8 arg9 arg10 arg11 arg12 arg13 arg14 arg15 arg16 arg17 arg18 arg19 arg20 arg21) arg2 (Cert.Body.body (F := F) (Cert.Body.fam arg3 arg4 arg5 arg6 arg7 arg8 arg9 arg10 arg11 arg12 arg13 arg14 arg15 arg16 arg17 arg18 arg19 arg20 arg21) (Cert.Body.fam_whole harg3 harg4 harg5 harg6 harg7 harg8 harg9 harg10 harg11 harg12 harg13 harg14 harg15 harg16 harg17 harg18 harg19 harg20 harg21) kc i)

/-- At place 0 of a block the generated body is the body program. -/
theorem body_at0 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨0, by omega⟩) := by
  show _ = _
  chain_rfl
/-- At place 1 of a block the generated body is the body program. -/
theorem body_at1 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨1, by omega⟩) := by
  show _ = _
  chain_rfl
/-- At place 2 of a block the generated body is the body program. -/
theorem body_at2 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨2, by omega⟩) := by
  show _ = _
  chain_rfl
/-- At place 3 of a block the generated body is the body program. -/
theorem body_at3 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨3, by omega⟩) := by
  show _ = _
  chain_rfl
/-- At place 4 of a block the generated body is the body program. -/
theorem body_at4 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨4, by omega⟩) := by
  show _ = _
  chain_rfl
/-- At place 5 of a block the generated body is the body program. -/
theorem body_at5 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨5, by omega⟩) := by
  show _ = _
  chain_rfl
/-- At place 6 of a block the generated body is the body program. -/
theorem body_at6 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨6, by omega⟩) := by
  show _ = _
  chain_rfl
/-- At place 7 of a block the generated body is the body program. -/
theorem body_at7 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨7, by omega⟩) := by
  show _ = _
  chain_rfl
/-- At place 8 of a block the generated body is the body program. -/
theorem body_at8 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨8, by omega⟩) := by
  show _ = _
  chain_rfl
/-- At place 9 of a block the generated body is the body program. -/
theorem body_at9 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨9, by omega⟩) := by
  show _ = _
  chain_rfl
/-- At place 10 of a block the generated body is the body program. -/
theorem body_at10 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨10, by omega⟩) := by
  show _ = _
  chain_rfl
/-- At place 11 of a block the generated body is the body program. -/
theorem body_at11 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨11, by omega⟩) := by
  show _ = _
  chain_rfl
/-- At place 12 of a block the generated body is the body program. -/
theorem body_at12 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨12, by omega⟩) := by
  show _ = _
  chain_rfl
/-- At place 13 of a block the generated body is the body program. -/
theorem body_at13 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨13, by omega⟩) := by
  show _ = _
  chain_rfl
/-- At place 14 of a block the generated body is the body program. -/
theorem body_at14 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨14, by omega⟩) := by
  show _ = _
  chain_rfl
/-- At place 15 of a block the generated body is the body program. -/
theorem body_at15 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨15, by omega⟩) := by
  show _ = _
  chain_rfl

/-- At every point the generated body is the body program. -/
theorem body_is (i : grid0.Coords) : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i := by
  rw [← crd_eta i]
  match i 1 with
  | ⟨0, _⟩ => exact body_at0 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨1, _⟩ => exact body_at1 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨2, _⟩ => exact body_at2 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨3, _⟩ => exact body_at3 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨4, _⟩ => exact body_at4 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨5, _⟩ => exact body_at5 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨6, _⟩ => exact body_at6 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨7, _⟩ => exact body_at7 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨8, _⟩ => exact body_at8 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨9, _⟩ => exact body_at9 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨10, _⟩ => exact body_at10 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨11, _⟩ => exact body_at11 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨12, _⟩ => exact body_at12 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨13, _⟩ => exact body_at13 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨14, _⟩ => exact body_at14 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨15, _⟩ => exact body_at15 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨n + 16, h⟩ => exact absurd h (by show ¬ n + 16 < 16; omega)
end

end Cert.Kernel.Gen

end
-- ==== Proof.Vals.lean ====
/- What the buffers hold: every buffer's contents as a function of the block's inputs, and what it is for a program of Body.lean
   to write nothing else. -/
module

public import proofs.«01_k».proof.Proof.Body
public import Idealize.ShloMosaic.Lib.Pointwise.Index

@[expose] public section

set_option maxRecDepth 16384

noncomputable section

namespace Cert.Body

open Idealize.ShloMosaic Idealize.ShloMosaic.TcCoe
open Idealize.SL Idealize.SL.Sem
open Cert.Kernel Cert.Kernel.Facts₀ Cert.Kernel.Facts
open Cert.Dsl (Op State run run_bind put put_emb put_not)

variable {F : FTy → Type} [FloatOps F]

/-- A block's inputs: the queries, the new rows, the key scales, and each place's slice of the caches; the table; the block's number. -/
structure Inp (F : FTy → Type) where
  x : S2x20x96x128.Idx → F .bf16
  kn : S2x4x96x128.Idx → F .bf16
  vn : S2x4x96x128.Idx → F .bf16
  ks : S4x96x128.Idx → F .f32
  k : Fin 16 → S8x4x96x512.Idx → BitVec 8
  v : Fin 16 → S8x4x96x512.Idx → BitVec 8
  vs : Fin 16 → S8x4x512.Idx → F .f32
  T : S1536.Idx → BitVec 32
  B : Fin 12

/-- Row `r`'s head and its place among the head's sixteen. -/
def kvR (r : Fin 64) : Fin 4 := ⟨r.val / 16, by omega⟩
/-- Row `r`'s place among its head's sixteen. -/
def gsR (r : Fin 64) : Fin 16 := ⟨r.val % 16, by omega⟩
/-- The head of the row of a head and a place. -/
theorem kvR_rowOf (kv : Fin 4) (gs : Fin 16) : kvR (rowOf kv gs) = kv := Fin.ext (by show (16 * kv.val + gs.val) / 16 = kv.val; omega)
/-- The place of the row of a head and a place. -/
theorem gsR_rowOf (kv : Fin 4) (gs : Fin 16) : gsR (rowOf kv gs) = gs := Fin.ext (by show (16 * kv.val + gs.val) % 16 = gs.val; omega)
/-- A row is that of its head and its place. -/
theorem rowOf_R (r : Fin 64) : rowOf (kvR r) (gsR r) = r := Fin.ext (by show 16 * (r.val / 16) + r.val % 16 = r.val; omega)
/-- A place's query position and its number in the head. -/
def sG (gs : Fin 16) (h : gs.val < 10) : Fin 2 := ⟨gs.val / 5, by omega⟩
/-- A place's number in the head, of five. -/
def gG (gs : Fin 16) : Fin 5 := ⟨gs.val % 5, by omega⟩

section V
variable (c : F .f32) (I : Inp F)

/-! ### The first part -/

/-- A new key's codes. -/
def kcOf (j : Fin 2) (kv : Fin 4) : Vec F S1x1x96x128 .i8 := kcRow (fun x => I.kn ((r4 j kv).emb x)) (fun x => I.ks ((rs kv).emb x))
/-- A new value's codes. -/
def vcOf (j : Fin 2) (kv : Fin 4) : Vec F S1x1x96x128 .i8 := vcRow (fun x => I.vn ((r4 j kv).emb x))
/-- A new value's scale. -/
def vsnOf (j : Fin 2) (kv : Fin 4) : Vec F S1x1x128 .f32 := vsnRow (fun x => I.vn ((r4 j kv).emb x))
/-- A head's key scales. -/
def ksOf (kv : Fin 4) : FVec F S1x96x128 .f32 := ksRow (fun x => I.ks ((rs kv).emb x))
/-- A query row of every sequence; a padding row past the tenth. -/
def qOf (kv : Fin 4) (gs : Fin 16) : FVec F S128x128 .f32 :=
  if h : gs.val < 10 then qRow (fun x => I.x ((r20 (sG gs h) (headOf kv (gG gs))).emb x)) else qPad
/-- A query's score against a new key; minus infinity where masked or padding. -/
def tOf (j : Fin 2) (kv : Fin 4) (gs : Fin 16) : FVec F S1x128 .f32 :=
  if h : gs.val < 10 then
    (if j.val ≤ gs.val / 5 then tNew c (wide (fun x => I.x ((r20 (sG gs h) (headOf kv (gG gs))).emb x))) (wide (fun x => I.kn ((r4 j kv).emb x))) else ninf1)
  else ninf1
/-- The maximum of a query's scores against the new keys. -/
def mOf (kv : Fin 4) (gs : Fin 16) : FVec F S1x128 .f32 :=
  if gs.val < 5 then tOf c I 0 kv gs else if gs.val < 10 then maximumf (tOf c I 0 kv gs) (tOf c I 1 kv gs) else zero1
/-- The weight sum of a query's scores against the new keys. -/
def lOf (kv : Fin 4) (gs : Fin 16) : FVec F S1x128 .f32 :=
  if gs.val < 5 then lSum1 (tOf c I 0 kv gs) else if gs.val < 10 then lSum2 (tOf c I 0 kv gs) (tOf c I 1 kv gs) else one1

/-- The codes of the new keys, of the new values, and the new values' scales. -/
def V8 : S2x4x96x128.Idx → BitVec 8 := fun y => kcOf I (y 0) (y 1) (ix4 0 0 (y 2) (y 3))
/-- What buffer 9 holds: the new values' codes. -/
def V9 : S2x4x96x128.Idx → BitVec 8 := fun y => vcOf I (y 0) (y 1) (ix4 0 0 (y 2) (y 3))
/-- What buffer 10 holds: the new values' scales. -/
def V10 : S2x4x128.Idx → F .f32 := fun y => vsnOf I (y 0) (y 1) (ix3 0 0 (y 2))
/-- The queries, the key scales, and the new keys' scores with their maximum and weight sum. -/
def V11 : S8192x128.Idx → F .f32 := fun y =>
  qOf I (kvR ⟨(y 0).val % 64, Nat.mod_lt _ (by decide)⟩) (gsR ⟨(y 0).val % 64, Nat.mod_lt _ (by decide)⟩)
    (ix2 ⟨(y 0).val / 64, by have : (y 0).val < 8192 := (y 0).isLt; omega⟩ (y 1))
/-- What buffer 12 holds: the key scales. -/
def V12 : S4x96x128.Idx → F .f32 := fun y => ksOf I (y 0) (ix3 0 (y 1) (y 2))
/-- What buffer 13 holds: the new keys' scores. -/
def V13 : S2x64x128.Idx → F .f32 := fun y => tSt (tOf c I (y 0) (kvR (y 1)) (gsR (y 1))) (ix3 0 0 (y 2))
/-- What buffer 14 holds: the new keys' maxima. -/
def V14 : S64x128.Idx → F .f32 := fun y => rSt (mOf c I (kvR (y 0)) (gsR (y 0))) (ix2 0 (y 1))
/-- What buffer 15 holds: the new keys' weight sums. -/
def V15 : S64x128.Idx → F .f32 := fun y => rSt (lOf c I (kvR (y 0)) (gsR (y 0))) (ix2 0 (y 1))

/-! ### The main part -/

/-- A sequence's length. -/
def nOf (s : Fin 16) (r : Fin 8) : BitVec 32 := I.T ((rtb (crd I.B s) r).emb (Shape.Idx.first (numel1_S1.symm ▸ Nat.one_pos)))
/-- A head's masked scores over the cache. -/
def scoreOf (s : Fin 16) (r : Fin 8) (kv : Fin 4) : FVec F S16x512 .f32 :=
  score c (blOf (crd I.B s) r) (nOf I s r) (fun x => V11 I ((rq16 (crd I.B s) r kv).emb x)) (fun x => V12 I ((rs kv).emb x)) (fun x => I.k s ((rk r kv).emb x))
/-- A head's new keys' maxima, in the sequence's own lane. -/
def mtOf (s : Fin 16) (r : Fin 8) (kv : Fin 4) : FVec F S16x128 .f32 := mTile (blOf (crd I.B s) r) (fun x => V14 c I ((r16 kv).emb x))
/-- A head's maxima over the cache and the new keys. -/
def mcOf (s : Fin 16) (r : Fin 8) (kv : Fin 4) : FVec F S16x1 .f32 := mCol (scoreOf c I s r kv) (mtOf c I s r kv)
/-- A head's weights over the cache. -/
def etOf (s : Fin 16) (r : Fin 8) (kv : Fin 4) : FVec F S16x512 .f32 := eTile (scoreOf c I s r kv) (mcOf c I s r kv)
/-- One over a head's sums of all weights. -/
def icOf (s : Fin 16) (r : Fin 8) (kv : Fin 4) : FVec F S16x1 .f32 :=
  iCol (etOf c I s r kv) (mtOf c I s r kv) (mcOf c I s r kv) (fun x => V15 c I ((r16 kv).emb x))
/-- A head's cached values, weighted. -/
def dotOf (s : Fin 16) (r : Fin 8) (kv : Fin 4) : FVec F S96x64 .f32 :=
  vDot (fun x => I.v s ((rk r kv).emb x)) (pPad kv (pTile (etOf c I s r kv) (icOf c I s r kv) (fun x => I.vs s ((rvs r kv).emb x))))
/-- A sequence's sixty-four rows over the cache. -/
def orOf (s : Fin 16) (r : Fin 8) : FVec F S64x128 .f32 :=
  oRow (addf (addf (addf (dotOf c I s r 0) (dotOf c I s r 1)) (dotOf c I s r 2)) (dotOf c I s r 3))

/-- A lane's place and its sequence there. -/
def sL (l : Fin 128) : Fin 16 := ⟨l.val / 8, by omega⟩
/-- A lane's sequence at its place. -/
def rL (l : Fin 128) : Fin 8 := ⟨l.val % 8, by omega⟩
/-- The maxima, the inverse sums, and the cache's sums. -/
def V16 : S64x128.Idx → F .f32 := fun y => mcOf c I (sL (y 1)) (rL (y 1)) (kvR (y 0)) (ix2 (gsR (y 0)) 0)
/-- What buffer 17 holds: the inverse sums. -/
def V17 : S64x128.Idx → F .f32 := fun y => icOf c I (sL (y 1)) (rL (y 1)) (kvR (y 0)) (ix2 (gsR (y 0)) 0)
/-- What buffer 18 holds: the cache's sums. -/
def V18 : S8192x128.Idx → F .f32 := fun y =>
  orOf c I (sL ⟨(y 0).val / 64, by have : (y 0).val < 8192 := (y 0).isLt; omega⟩) (rL ⟨(y 0).val / 64, by have : (y 0).val < 8192 := (y 0).isLt; omega⟩)
    (ix2 ⟨(y 0).val % 64, Nat.mod_lt _ (by decide)⟩ (y 1))

/-! ### The last part -/

/-- A row of every sequence over the cache. -/
def oOf (kv : Fin 4) (gs : Fin 16) : FVec F S96x128 .f32 := oCol (fun x => V18 c I ((rq (rowOf kv gs)).emb x))
/-- A new value's weighted row. -/
def pvOf (j : Fin 2) (kv : Fin 4) (gs : Fin 16) : FVec F S96x128 .f32 :=
  pv (fun x => V13 c I ((rt j (rowOf kv gs)).emb x)) (fun x => V16 c I ((rr (rowOf kv gs)).emb x)) (fun x => V17 c I ((rr (rowOf kv gs)).emb x))
    (wide (fun x => I.vn ((r4 j kv).emb x)))
/-- A result row. -/
def outOf (s : Fin 2) (kv : Fin 4) (g : Fin 5) : Vec F S1x1x96x128 .bf16 :=
  if s.val = 0 then outRow (addf (oOf c I kv ⟨g.val, by omega⟩) (pvOf c I 0 kv ⟨g.val, by omega⟩))
  else outRow (addf (addf (oOf c I kv ⟨5 + g.val, by omega⟩) (pvOf c I 0 kv ⟨5 + g.val, by omega⟩)) (pvOf c I 1 kv ⟨5 + g.val, by omega⟩))
/-- The result. -/
def V7 : S2x20x96x128.Idx → F .bf16 := fun y =>
  outOf c I (y 0) ⟨(y 1).val / 5, by have : (y 1).val < 20 := (y 1).isLt; omega⟩ ⟨(y 1).val % 5, Nat.mod_lt _ (by decide)⟩ (ix4 0 0 (y 2) (y 3))

/-- All buffers at place `s`. -/
def VV (s : Fin 16) : State bsh bel (Elt F)
  | ⟨0, _⟩ => I.x | ⟨1, _⟩ => I.kn | ⟨2, _⟩ => I.vn | ⟨3, _⟩ => I.k s | ⟨4, _⟩ => I.ks | ⟨5, _⟩ => I.v s | ⟨6, _⟩ => I.vs s
  | ⟨7, _⟩ => V7 c I | ⟨8, _⟩ => V8 I | ⟨9, _⟩ => V9 I | ⟨10, _⟩ => V10 I
  | ⟨11, _⟩ => V11 I | ⟨12, _⟩ => V12 I | ⟨13, _⟩ => V13 c I | ⟨14, _⟩ => V14 c I | ⟨15, _⟩ => V15 c I
  | ⟨16, _⟩ => V16 c I | ⟨17, _⟩ => V17 c I | ⟨18, _⟩ => V18 c I
  | ⟨n + 19, h⟩ => absurd h (by omega)

end V

/-! ## What a program writes -/

section Wr

variable {τ : Topo} {sig : RefSig}
variable (M : (j : Fin 19) → Memref sig .tc .vmem (bsh j) (bel j))

/-- Places of the buffers. -/
abbrev Reg : Type := (j : Fin 19) → (bsh j).Idx → Prop

/-- Run from buffers that hold `V` on `Fx`, the program returns `a`, leaves `V` at every place of `R`, and leaves `V` wherever it was. -/
def Wr (T : S1536.Idx → BitVec 32) (V : State bsh bel (Elt F)) (Fx : Fin 19 → Prop) {α : Type} (p : P (F := F) M α) (R : Reg) (a : α) : Prop :=
  ∀ σ : State bsh bel (Elt F), (∀ j, Fx j → σ j = V j) →
    (run T p σ).1 = a ∧ ∀ j y, (R j y ∨ σ j y = V j y) → (run T p σ).2 j y = V j y

/-- The places of a rectangle of buffer `j`. -/
inductive Hit (j : Fin 19) (r : Rect (bsh j)) : Reg
  | mk (x : r.shape.Idx) : Hit j r j (r.emb x)

variable {M} {T : S1536.Idx → BitVec 32} {V : State bsh bel (Elt F)} {Fx : Fin 19 → Prop}

/-- The buffers fixed stay as they were. -/
theorem wr_keep {α : Type} {p : P (F := F) M α} {R : Reg} {a : α} (h : Wr M T V Fx p R a) {σ : State bsh bel (Elt F)} (hσ : ∀ j, Fx j → σ j = V j) :
    ∀ j, Fx j → (run T p σ).2 j = V j := fun j hj => funext fun y => (h σ hσ).2 j y (.inr (congrFun (hσ j hj) y))

/-- A program that does nothing writes nothing. -/
theorem wr_pure {α : Type} (a : α) : Wr M T V Fx (pure a : P (F := F) M α) (fun _ _ => False) a :=
  fun σ hσ => ⟨rfl, fun j y h => h.elim False.elim id⟩

/-- It is also so for fewer places. -/
theorem wr_mono {α : Type} {p : P (F := F) M α} {R R' : Reg} {a : α} (h : Wr M T V Fx p R a) (hR : ∀ j y, R' j y → R j y) : Wr M T V Fx p R' a :=
  fun σ hσ => ⟨(h σ hσ).1, fun j y hy => (h σ hσ).2 j y (hy.imp (hR j y) id)⟩

/-- A load of a fixed buffer reads what it is known to hold. -/
theorem wr_ld {α : Type} (j : Fin 19) (r : LoadRect (bsh j)) (h : 0 < r.shape.numel) {k : (r.shape.Idx → Elt F (bel j)) → P (F := F) M α} {R : Reg} {a : α}
    (hj : Fx j) (hk : Wr M T V Fx (k fun x => V j (r.idx x)) R a) : Wr M T V Fx (ld j r h >>= k) R a := fun σ hσ => by
  show (run T (k fun x => σ j (r.idx x)) σ).1 = a ∧ ∀ j' y, (R j' y ∨ σ j' y = V j' y) → (run T (k fun x => σ j (r.idx x)) σ).2 j' y = V j' y
  rw [hσ j hj]; exact hk σ hσ

/-- A load whose answer is not used. -/
theorem wr_skip {α : Type} (j : Fin 19) (r : LoadRect (bsh j)) (h : 0 < r.shape.numel) {k : (r.shape.Idx → Elt F (bel j)) → P (F := F) M α} {R : Reg} {a : α}
    (hk : ∀ v, Wr M T V Fx (k v) R a) : Wr M T V Fx (ld j r h >>= k) R a := fun σ hσ => hk (fun x => σ j (r.idx x)) σ hσ

/-- A read of the table answers the table's word. -/
theorem wr_tb {α : Type} (r : Rect S1536) (h1 : r.shape.numel = 1) {k : BitVec 32 → P (F := F) M α} {R : Reg} {a : α}
    (hk : Wr M T V Fx (k (T (r.emb (Shape.Idx.first (h1.symm ▸ Nat.one_pos))))) R a) : Wr M T V Fx (tb r h1 >>= k) R a := hk

/-- One program after another writes the places of both. -/
theorem wr_bind {α β : Type} {p : P (F := F) M α} {k : α → P (F := F) M β} {R R' : Reg} {a : α} {b : β}
    (hp : Wr M T V Fx p R a) (hk : Wr M T V Fx (k a) R' b) : Wr M T V Fx (p >>= k) (fun j y => R j y ∨ R' j y) b := fun σ hσ => by
  rw [run_bind, (hp σ hσ).1]
  have h2 := hk _ (wr_keep hp hσ)
  refine ⟨h2.1, fun j y h => h2.2 j y ?_⟩
  rcases h with (h | h) | h
  · exact .inr ((hp σ hσ).2 j y (.inl h))
  · exact .inl h
  · exact .inr ((hp σ hσ).2 j y (.inr h))

/-- A store of what is wanted there, and what follows. -/
theorem wr_st {α : Type} (j : Fin 19) (r : Rect (bsh j)) (w : r.shape.Idx → Elt F (bel j)) (h : Dsl.Ok M j r) {k : PUnit → P (F := F) M α} {R : Reg} {a : α}
    (hw : ∀ x, w x = V j (r.emb x)) (hk : Wr M T V Fx (k ⟨⟩) R a) : Wr M T V Fx (st j r w h >>= k) (fun j' y => Hit j r j' y ∨ R j' y) a := fun σ hσ => by
  have hup : ∀ j' y, (Hit j r j' y ∨ σ j' y = V j' y) → Function.update σ j (put (σ j) r w) j' y = V j' y := by
    intro j' y h'
    by_cases e : j' = j
    · subst e
      rw [Function.update_self]
      by_cases hx : ∃ x, r.emb x = y
      · obtain ⟨x, rfl⟩ := hx; rw [put_emb, hw]
      · rw [put_not _ _ _ hx]
        rcases h' with h' | h'
        · cases h' with | mk x => exact absurd ⟨x, rfl⟩ hx
        · exact h'
    · rw [Function.update_of_ne e]
      rcases h' with h' | h'
      · cases h'; exact absurd rfl e
      · exact h'
  have hs : ∀ j', Fx j' → Function.update σ j (put (σ j) r w) j' = V j' := fun j' hj => funext fun y => hup j' y (.inr (congrFun (hσ j' hj) y))
  have h2 := hk _ hs
  refine ⟨h2.1, fun j' y h' => h2.2 j' y ?_⟩
  rcases h' with (h' | h') | h'
  · exact .inr (hup j' y (.inl h'))
  · exact .inl h'
  · exact .inr (hup j' y (.inr h'))

/-- A store of what is wanted there. -/
theorem wr_st' (j : Fin 19) (r : Rect (bsh j)) (w : r.shape.Idx → Elt F (bel j)) (h : Dsl.Ok M j r)
    (hw : ∀ x, w x = V j (r.emb x)) : Wr M T V Fx (st j r w h) (Hit j r) ⟨⟩ :=
  wr_mono (wr_st (α := PUnit) (k := fun _ => pure PUnit.unit) j r w h hw (wr_pure _)) fun _ _ h => .inl h

/-- A loop writes the places of every turn. -/
theorem wr_loop {ι : Type} {f : ι → P (F := F) M PUnit} {R : ι → Reg} (l : List ι) (hf : ∀ i ∈ l, Wr M T V Fx (f i) (R i) ⟨⟩) :
    Wr M T V Fx (loop f l) (fun j y => ∃ i ∈ l, R i j y) ⟨⟩ := by
  induction l with
  | nil => exact wr_mono (wr_pure _) (by rintro j y ⟨i, hi, -⟩; cases hi)
  | cons i l ih =>
    refine wr_mono (wr_bind (hf i (List.mem_cons_self ..)) (ih fun i' h => hf i' (List.mem_cons_of_mem _ h))) ?_
    rintro j y ⟨i', hi, h⟩
    rcases List.mem_cons.mp hi with rfl | hi
    · exact .inl h
    · exact .inr ⟨i', hi, h⟩

end Wr

end Cert.Body

end
-- ==== Proof.Spec.lean ====
/- What each part of the body writes: the contents Vals.lean names. -/
module

public import proofs.«01_k».proof.Proof.Vals
public import Idealize.ShloMosaic.Lib.Pointwise

@[expose] public section

set_option maxRecDepth 16384

noncomputable section

namespace Cert.Body

open Idealize.ShloMosaic Idealize.ShloMosaic.TcCoe
open Idealize.SL Idealize.SL.Sem
open Cert.Kernel Cert.Kernel.Facts₀ Cert.Kernel.Facts
open Cert.Dsl (Op State run run_bind put put_emb put_not)

variable {F : FTy → Type} [FloatOps F]

section Upd
variable {τ : Topo} {sig : RefSig}
variable {M : (j : Fin 19) → Memref sig .tc .vmem (bsh j) (bel j)}
variable {T : S1536.Idx → BitVec 32} {V : State bsh bel (Elt F)} {Fx : Fin 19 → Prop}

/-- The places of a rectangle whose coordinates satisfy `Q`. -/
inductive HitQ (j : Fin 19) (r : Rect (bsh j)) (Q : r.shape.Idx → Prop) : Reg
  | mk (x : r.shape.Idx) (hx : Q x) : HitQ j r Q j (r.emb x)

/-- A rectangle read, changed at some of its places to what is wanted there, and written back. -/
theorem wr_upd {α : Type} (j : Fin 19) (r : Rect (bsh j)) (r' : LoadRect (bsh j)) (h : 0 < r.toLoadRect.shape.numel) (h' : 0 < r'.shape.numel)
    (w : (r.shape.Idx → Elt F (bel j)) → r.shape.Idx → Elt F (bel j)) (hs : Dsl.Ok M j r) (Q : r.shape.Idx → Prop)
    {k : PUnit → P (F := F) M α} {R : Reg} {a : α}
    (hw : ∀ o x, Q x → w o x = V j (r.emb x)) (hw' : ∀ o x, ¬ Q x → w o x = o x) (hk : Wr M T V Fx (k ⟨⟩) R a) :
    Wr M T V Fx (ld j r.toLoadRect h >>= fun o => ld j r' h' >>= fun _ => st j r (w o) hs >>= k) (fun j' y => HitQ j r Q j' y ∨ R j' y) a := fun σ hσ => by
  have hup : ∀ j' y, (HitQ j r Q j' y ∨ σ j' y = V j' y) →
      Function.update σ j (put (σ j) r (w fun x => σ j (r.emb x))) j' y = V j' y := by
    intro j' y h'
    by_cases e : j' = j
    · subst e
      rw [Function.update_self]
      by_cases hx : ∃ x, r.emb x = y
      · obtain ⟨x, rfl⟩ := hx; rw [put_emb]
        by_cases hq : Q x
        · exact hw _ _ hq
        · rw [hw' _ _ hq]
          rcases h' with h' | h'
          · generalize hy : r.emb x = y at h'
            cases h' with | mk x' hx' => exact absurd hx' (r.emb.injective hy ▸ hq)
          · exact h'
      · rw [put_not _ _ _ hx]
        rcases h' with h' | h'
        · cases h' with | mk x _ => exact absurd ⟨x, rfl⟩ hx
        · exact h'
    · rw [Function.update_of_ne e]
      rcases h' with h' | h'
      · cases h'; exact absurd rfl e
      · exact h'
  have hs : ∀ j', Fx j' → Function.update σ j (put (σ j) r (w fun x => σ j (r.emb x))) j' = V j' :=
    fun j' hj => funext fun y => hup j' y (.inr (congrFun (hσ j' hj) y))
  have h2 := hk _ hs
  refine ⟨h2.1, fun j' y h' => h2.2 j' y ?_⟩
  rcases h' with (h' | h') | h'
  · exact .inr (hup j' y (.inl h'))
  · exact .inl h'
  · exact .inr (hup j' y (.inr h'))
end Upd

/-! ## Rectangles' places -/

/-- A place of a new row, in its buffer. -/
theorem emb_r4 (j : Fin 2) (kv : Fin 4) (x : S1x1x96x128.Idx) : (r4 j kv).emb x = (ix4 j kv (x 2) (x 3) : S2x4x96x128.Idx) := by
  funext a; apply Fin.ext
  match a with
  | ⟨0, _⟩ => show j.val + 1 * (x 0).val = j.val; have : (x 0).val < 1 := (x 0).isLt; omega
  | ⟨1, _⟩ => show kv.val + 1 * (x 1).val = kv.val; have : (x 1).val < 1 := (x 1).isLt; omega
  | ⟨2, _⟩ => show 0 + 1 * (x 2).val = (x 2).val; omega
  | ⟨3, _⟩ => show 0 + 1 * (x 3).val = (x 3).val; omega
  | ⟨n + 4, h⟩ => exact absurd h (by show ¬ n + 4 < 4; omega)
/-- A place of a query or result row, in its buffer. -/
theorem emb_r20 (j : Fin 2) (h : Fin 20) (x : S1x1x96x128.Idx) : (r20 j h).emb x = (ix4 j h (x 2) (x 3) : S2x20x96x128.Idx) := by
  funext a; apply Fin.ext
  match a with
  | ⟨0, _⟩ => show j.val + 1 * (x 0).val = j.val; have : (x 0).val < 1 := (x 0).isLt; omega
  | ⟨1, _⟩ => show h.val + 1 * (x 1).val = h.val; have : (x 1).val < 1 := (x 1).isLt; omega
  | ⟨2, _⟩ => show 0 + 1 * (x 2).val = (x 2).val; omega
  | ⟨3, _⟩ => show 0 + 1 * (x 3).val = (x 3).val; omega
  | ⟨n + 4, h⟩ => exact absurd h (by show ¬ n + 4 < 4; omega)
/-- A place of a head's key scales, in its buffer. -/
theorem emb_rs (kv : Fin 4) (x : S1x96x128.Idx) : (rs kv).emb x = (ix3 kv (x 1) (x 2) : S4x96x128.Idx) := by
  funext a; apply Fin.ext
  match a with
  | ⟨0, _⟩ => show kv.val + 1 * (x 0).val = kv.val; have : (x 0).val < 1 := (x 0).isLt; omega
  | ⟨1, _⟩ => show 0 + 1 * (x 1).val = (x 1).val; omega
  | ⟨2, _⟩ => show 0 + 1 * (x 2).val = (x 2).val; omega
  | ⟨n + 3, h⟩ => exact absurd h (by show ¬ n + 3 < 3; omega)
/-- A place of a new value's scale row, in its buffer. -/
theorem emb_rn (j : Fin 2) (kv : Fin 4) (x : S1x1x128.Idx) : (rn j kv).emb x = (ix3 j kv (x 2) : S2x4x128.Idx) := by
  funext a; apply Fin.ext
  match a with
  | ⟨0, _⟩ => show j.val + 1 * (x 0).val = j.val; have : (x 0).val < 1 := (x 0).isLt; omega
  | ⟨1, _⟩ => show kv.val + 1 * (x 1).val = kv.val; have : (x 1).val < 1 := (x 1).isLt; omega
  | ⟨2, _⟩ => show 0 + 1 * (x 2).val = (x 2).val; omega
  | ⟨n + 3, h⟩ => exact absurd h (by show ¬ n + 3 < 3; omega)
/-- A place of a row of new keys' scores, in its buffer. -/
theorem emb_rt (j : Fin 2) (r : Fin 64) (x : S1x1x128.Idx) : (rt j r).emb x = (ix3 j r (x 2) : S2x64x128.Idx) := by
  funext a; apply Fin.ext
  match a with
  | ⟨0, _⟩ => show j.val + 1 * (x 0).val = j.val; have : (x 0).val < 1 := (x 0).isLt; omega
  | ⟨1, _⟩ => show r.val + 1 * (x 1).val = r.val; have : (x 1).val < 1 := (x 1).isLt; omega
  | ⟨2, _⟩ => show 0 + 1 * (x 2).val = (x 2).val; omega
  | ⟨n + 3, h⟩ => exact absurd h (by show ¬ n + 3 < 3; omega)
/-- A place of a row among the sixty-four, in its buffer. -/
theorem emb_rr (r : Fin 64) (x : S1x128.Idx) : (rr r).emb x = (ix2 r (x 1) : S64x128.Idx) := by
  funext a; apply Fin.ext
  match a with
  | ⟨0, _⟩ => show r.val + 1 * (x 0).val = r.val; have : (x 0).val < 1 := (x 0).isLt; omega
  | ⟨1, _⟩ => show 0 + 1 * (x 1).val = (x 1).val; omega
  | ⟨n + 2, h⟩ => exact absurd h (by show ¬ n + 2 < 2; omega)
/-- A place of a head's sixteen rows, in its buffer. -/
theorem emb_r16 (kv : Fin 4) (x : S16x128.Idx) : (r16 kv).emb x = (ix2 (rowOf kv (x 0)) (x 1) : S64x128.Idx) := by
  funext a; apply Fin.ext
  match a with
  | ⟨0, _⟩ => show 16 * kv.val + 1 * (x 0).val = 16 * kv.val + (x 0).val; omega
  | ⟨1, _⟩ => show 0 + 1 * (x 1).val = (x 1).val; omega
  | ⟨n + 2, h⟩ => exact absurd h (by show ¬ n + 2 < 2; omega)
/-- Row `r` of sequence `b` among the 8192. -/
abbrev row8 (b : Fin 128) (r : Fin 64) : Fin 8192 := ⟨64 * b.val + r.val, by omega⟩
/-- A place of row `r` of every sequence, in its buffer. -/
theorem emb_rq (r : Fin 64) (x : S128x128.Idx) : (rq r).emb x = (ix2 (row8 (x 0) r) (x 1) : S8192x128.Idx) := by
  funext a; apply Fin.ext
  match a with
  | ⟨0, _⟩ => show r.val + 64 * (x 0).val = 64 * (x 0).val + r.val; omega
  | ⟨1, _⟩ => show 0 + 1 * (x 1).val = (x 1).val; omega
  | ⟨n + 2, h⟩ => exact absurd h (by show ¬ n + 2 < 2; omega)
/-- Sequence `r` of place `s` among the block's 128. -/
abbrev lanOf (s : Fin 16) (r : Fin 8) : Fin 128 := ⟨8 * s.val + r.val, by omega⟩
/-- A place of a head's sixteen rows of one sequence, in its buffer. -/
theorem emb_rq16 (B : Fin 12) (s : Fin 16) (r : Fin 8) (kv : Fin 4) (x : S16x128.Idx) :
    (rq16 (crd B s) r kv).emb x = (ix2 (row8 (lanOf s r) (rowOf kv (x 0))) (x 1) : S8192x128.Idx) := by
  have e := Cert.Kernel.Gen.k0_off2_eq (crd B s) r kv
  funext a; apply Fin.ext
  match a with
  | ⟨0, _⟩ =>
    have h0 : k0_off2 (crd B s) (BitVec.ofNat 32 r.val) (BitVec.ofNat 32 (16 * kv.val)) (0 : Fin 2) = 512 * s.val + 64 * r.val + 16 * kv.val := congrFun e 0
    refine (congrArg (· + 1 * (x 0).val) h0).trans ?_
    show 512 * s.val + 64 * r.val + 16 * kv.val + 1 * (x 0).val = 64 * (8 * s.val + r.val) + (16 * kv.val + (x 0).val)
    omega
  | ⟨1, _⟩ =>
    have h0 : k0_off2 (crd B s) (BitVec.ofNat 32 r.val) (BitVec.ofNat 32 (16 * kv.val)) (1 : Fin 2) = 0 := congrFun e 1
    refine (congrArg (· + 1 * (x 1).val) h0).trans ?_
    show 0 + 1 * (x 1).val = (x 1).val
    omega
  | ⟨n + 2, h⟩ => exact absurd h (by show ¬ n + 2 < 2; omega)
/-- A place of a sequence's sixty-four rows, in its buffer. -/
theorem emb_ro (B : Fin 12) (s : Fin 16) (r : Fin 8) (x : S64x128.Idx) :
    (ro (crd B s) r).emb x = (ix2 (row8 (lanOf s r) (x 0)) (x 1) : S8192x128.Idx) := by
  have e := Cert.Kernel.Gen.k0_off3_eq (crd B s) r
  funext a; apply Fin.ext
  match a with
  | ⟨0, _⟩ =>
    have h0 : k0_off3 (crd B s) (BitVec.ofNat 32 r.val) (0 : Fin 2) = 512 * s.val + 64 * r.val := congrFun e 0
    refine (congrArg (· + 1 * (x 0).val) h0).trans ?_
    show 512 * s.val + 64 * r.val + 1 * (x 0).val = 64 * (8 * s.val + r.val) + (x 0).val
    omega
  | ⟨1, _⟩ =>
    have h0 : k0_off3 (crd B s) (BitVec.ofNat 32 r.val) (1 : Fin 2) = 0 := congrFun e 1
    refine (congrArg (· + 1 * (x 1).val) h0).trans ?_
    show 0 + 1 * (x 1).val = (x 1).val
    omega
  | ⟨n + 2, h⟩ => exact absurd h (by show ¬ n + 2 < 2; omega)

/-! ## A block's first coordinates are zero -/
/-- An index whose first two coordinates are of one, among four. -/
theorem x1x1 (x : S1x1x96x128.Idx) : x = ix4 0 0 (x 2) (x 3) := by
  rw [eq_ix4 x]; congr 1 <;> exact Subsingleton.elim (α := Fin 1) _ _
/-- An index whose first coordinate is of one. -/
theorem x1r (x : S1x96x128.Idx) : x = ix3 0 (x 1) (x 2) := by
  rw [eq_ix3 x]; congr 1; exact Subsingleton.elim (α := Fin 1) _ _
/-- An index whose first two coordinates are of one. -/
theorem x1n (x : S1x1x128.Idx) : x = ix3 0 0 (x 2) := by
  rw [eq_ix3 x]; congr 1 <;> exact Subsingleton.elim (α := Fin 1) _ _
/-- An index of a single row. -/
theorem x1t (x : S1x128.Idx) : x = ix2 0 (x 1) := by
  rw [eq_ix2 x]; congr 1; exact Subsingleton.elim (α := Fin 1) _ _

section Parts

variable {τ : Topo} {sig : RefSig}
variable (M : (j : Fin 19) → Memref sig .tc .vmem (bsh j) (bel j)) (hM : ∀ j, (M j).IsWhole) (c : F .f32) (I : Inp F) (s : Fin 16)

/-- The seven inputs. -/
abbrev FxP : Fin 19 → Prop := fun j => j.val < 7
/-- All but the result and what the main part writes. -/
abbrev FxM : Fin 19 → Prop := fun j => j.val ≠ 7 ∧ j.val < 16
/-- All but the result. -/
abbrev FxE : Fin 19 → Prop := fun j => j.val ≠ 7

/-- A new row's program writes its codes and its scale. -/
theorem wr_newRow (j : Fin 2) (kv : Fin 4) :
    Wr M I.T (VV c I s) FxP (newRow M hM j kv) (fun j' y => Hit 8 (r4 j kv) j' y ∨ Hit 9 (r4 j kv) j' y ∨ Hit 10 (rn j kv) j' y) ⟨⟩ := by
  refine wr_ld _ _ _ (by decide) (wr_ld _ _ _ (by decide) (wr_skip _ _ _ fun _ => wr_st _ _ _ _ ?_
    (wr_ld _ _ _ (by decide) (wr_skip _ _ _ fun _ => wr_st _ _ _ _ ?_ (wr_skip _ _ _ fun _ => wr_st' _ _ _ _ ?_)))))
  · intro x
    rw [emb_r4]
    exact congrArg (kcOf I j kv) (x1x1 x)
  · intro x
    rw [emb_r4]
    exact congrArg (vcOf I j kv) (x1x1 x)
  · intro x
    rw [emb_rn]
    exact congrArg (vsnOf I j kv) (x1n x)

/-- The buffer of query rows, at a sequence's row. -/
theorem V11_row (b : Fin 128) (kv : Fin 4) (gs : Fin 16) (l : Fin 128) : V11 I (ix2 (row8 b (rowOf kv gs)) l) = qOf I kv gs (ix2 b l) := by
  have e1 : (⟨(row8 b (rowOf kv gs)).val % 64, Nat.mod_lt _ (by decide)⟩ : Fin 64) = rowOf kv gs := Fin.ext (by show (64 * b.val + (16 * kv.val + gs.val)) % 64 = 16 * kv.val + gs.val; omega)
  have e2 : (⟨(row8 b (rowOf kv gs)).val / 64, by have := (row8 b (rowOf kv gs)).isLt; omega⟩ : Fin 128) = b := Fin.ext (by show (64 * b.val + (16 * kv.val + gs.val)) / 64 = b.val; omega)
  show qOf I (kvR ⟨(row8 b (rowOf kv gs)).val % 64, _⟩) (gsR ⟨(row8 b (rowOf kv gs)).val % 64, _⟩) (ix2 ⟨(row8 b (rowOf kv gs)).val / 64, _⟩ l) = _
  rw [e1, e2, kvR_rowOf, gsR_rowOf]

/-- A query row at a position and a number. -/
theorem qOf_at (kv : Fin 4) (p : Fin 2) (g : Fin 5) :
    qOf I kv ⟨5 * p.val + g.val, by omega⟩ = qRow (fun x => I.x ((r20 p (headOf kv g)).emb x)) := by
  have h : 5 * p.val + g.val < 10 := by omega
  have e1 : sG ⟨5 * p.val + g.val, by omega⟩ h = p := Fin.ext (by show (5 * p.val + g.val) / 5 = p.val; omega)
  have e2 : gG ⟨5 * p.val + g.val, by omega⟩ = g := Fin.ext (by show (5 * p.val + g.val) % 5 = g.val; omega)
  unfold qOf
  rw [dif_pos h, e1, e2]
/-- A row past the tenth is padding. -/
theorem qOf_pad (kv : Fin 4) (gs : Fin 16) (h : ¬ gs.val < 10) : qOf I kv gs = qPad := by unfold qOf; rw [dif_neg h]

/-- Storing a query row writes that row. -/
theorem wr_qStore (kv : Fin 4) (p : Fin 2 × Fin 5) :
    Wr M I.T (VV c I s) FxP (qStore M kv p) (Hit 11 (rq (rowOf kv ⟨5 * p.1.val + p.2.val, by omega⟩))) ⟨⟩ := by
  refine wr_ld _ _ _ (by decide) (wr_skip _ _ _ fun _ => wr_st' _ _ _ _ ?_)
  intro x
  rw [emb_rq]
  refine Eq.trans ?_ (V11_row I (x 0) kv ⟨5 * p.1.val + p.2.val, by omega⟩ (x 1)).symm
  rw [qOf_at]
  exact congrArg (qRow (F := F) _) (eq_ix2 x)

/-- Storing a padding row writes that row. -/
theorem wr_qPadStore (kv : Fin 4) (gs : Fin 16) (h : ¬ gs.val < 10) :
    Wr M I.T (VV c I s) FxP (qPadStore M kv gs) (Hit 11 (rq (rowOf kv gs))) ⟨⟩ := by
  refine wr_skip _ _ _ fun _ => wr_st' _ _ _ _ ?_
  intro x
  rw [emb_rq]
  refine Eq.trans ?_ (V11_row I (x 0) kv gs (x 1)).symm
  rw [qOf_pad I kv gs h]
  exact congrArg (qPad (F := F)) (eq_ix2 x)

/-- Storing a row's scores, maximum and sum writes them. -/
theorem wr_tStore (kv : Fin 4) (gs : Fin 16) (t u m l : FVec F S1x128 .f32)
    (ht : t = tOf c I 0 kv gs) (hu : u = tOf c I 1 kv gs) (hm : m = mOf c I kv gs) (hl : l = lOf c I kv gs) :
    Wr M I.T (VV c I s) FxP (tStore M (rowOf kv gs) t u m l) (fun j' y => Hit 13 (rt 0 (rowOf kv gs)) j' y ∨ Hit 13 (rt 1 (rowOf kv gs)) j' y
      ∨ Hit 14 (rr (rowOf kv gs)) j' y ∨ Hit 15 (rr (rowOf kv gs)) j' y) ⟨⟩ := by
  subst ht hu hm hl
  refine wr_skip _ _ _ fun _ => wr_st _ _ _ _ ?_ (wr_skip _ _ _ fun _ => wr_st _ _ _ _ ?_ (wr_skip _ _ _ fun _ => wr_st _ _ _ _ ?_
    (wr_skip _ _ _ fun _ => wr_st' _ _ _ _ ?_)))
  · intro x
    rw [emb_rt]
    show _ = tSt (tOf c I 0 (kvR (rowOf kv gs)) (gsR (rowOf kv gs))) (ix3 0 0 (x 2))
    rw [kvR_rowOf, gsR_rowOf]; exact congrArg (tSt _) (x1n x)
  · intro x
    rw [emb_rt]
    show _ = tSt (tOf c I 1 (kvR (rowOf kv gs)) (gsR (rowOf kv gs))) (ix3 0 0 (x 2))
    rw [kvR_rowOf, gsR_rowOf]; exact congrArg (tSt _) (x1n x)
  · intro x
    rw [emb_rr]
    show _ = rSt (mOf c I (kvR (rowOf kv gs)) (gsR (rowOf kv gs))) (ix2 0 (x 1))
    rw [kvR_rowOf, gsR_rowOf]; exact congrArg (rSt _) (x1t x)
  · intro x
    rw [emb_rr]
    show _ = rSt (lOf c I (kvR (rowOf kv gs)) (gsR (rowOf kv gs))) (ix2 0 (x 1))
    rw [kvR_rowOf, gsR_rowOf]; exact congrArg (rSt _) (x1t x)

/-- The places a row's scores, maximum and sum take. -/
abbrev RegT (r : Fin 64) : Reg := fun j' y => Hit 13 (rt 0 r) j' y ∨ Hit 13 (rt 1 r) j' y ∨ Hit 14 (rr r) j' y ∨ Hit 15 (rr r) j' y

/-- A query's score against a new key it may see. -/
theorem tOf_at (j : Fin 2) (kv : Fin 4) (p : Fin 2) (g : Fin 5) (h : j.val ≤ p.val) :
    tOf c I j kv ⟨5 * p.val + g.val, by omega⟩ = tNew c (wide (fun x => I.x ((r20 p (headOf kv g)).emb x))) (wide (fun x => I.kn ((r4 j kv).emb x))) := by
  have h10 : 5 * p.val + g.val < 10 := by omega
  have e1 : sG ⟨5 * p.val + g.val, by omega⟩ h10 = p := Fin.ext (by show (5 * p.val + g.val) / 5 = p.val; omega)
  have e2 : gG ⟨5 * p.val + g.val, by omega⟩ = g := Fin.ext (by show (5 * p.val + g.val) % 5 = g.val; omega)
  unfold tOf
  rw [dif_pos h10, if_pos (by show j.val ≤ (5 * p.val + g.val) / 5; omega), e1, e2]
/-- A masked or padding score is minus infinity. -/
theorem tOf_none (j : Fin 2) (kv : Fin 4) (gs : Fin 16) (h : gs.val / 5 < j.val ∨ 10 ≤ gs.val) : tOf c I j kv gs = ninf1 := by
  unfold tOf
  by_cases h10 : gs.val < 10
  · rw [dif_pos h10, if_neg (by omega)]
  · rw [dif_neg h10]

/-- The scores at the first position are written. -/
theorem wr_tRow0 (kv : Fin 4) (g : Fin 5) :
    Wr M I.T (VV c I s) FxP (tRow0 M c kv (wide (fun x => I.kn ((r4 0 kv).emb x))) g) (RegT (rowOf kv ⟨g.val, by omega⟩)) ⟨⟩ := by
  have e : (⟨5 * (0 : Fin 2).val + g.val, by have := g.isLt; show 5 * 0 + g.val < 16; omega⟩ : Fin 16) = ⟨g.val, by omega⟩ := Fin.ext (by show 5 * 0 + g.val = g.val; omega)
  have e0 := tOf_at c I 0 kv 0 g (by decide)
  rw [e] at e0
  refine wr_ld _ _ _ (by decide) (wr_tStore M c I s kv ⟨g.val, by omega⟩ _ _ _ _ e0.symm ?_ ?_ ?_)
  · exact (tOf_none c I 1 kv _ (.inl (by show g.val / 5 < 1; omega))).symm
  · unfold mOf; rw [if_pos (by show g.val < 5; omega), e0]; rfl
  · unfold lOf; rw [if_pos (by show g.val < 5; omega), e0]; rfl

/-- The scores at the second position are written. -/
theorem wr_tRow1 (kv : Fin 4) (g : Fin 5) :
    Wr M I.T (VV c I s) FxP (tRow1 M c kv (wide (fun x => I.kn ((r4 0 kv).emb x))) (wide (fun x => I.kn ((r4 1 kv).emb x))) g)
      (RegT (rowOf kv ⟨5 + g.val, by omega⟩)) ⟨⟩ := by
  have e : (⟨5 * (1 : Fin 2).val + g.val, by have := g.isLt; show 5 * 1 + g.val < 16; omega⟩ : Fin 16) = ⟨5 + g.val, by omega⟩ := Fin.ext (by show 5 * 1 + g.val = 5 + g.val; omega)
  have e0 := tOf_at c I 0 kv 1 g (by decide)
  have e1 := tOf_at c I 1 kv 1 g (by decide)
  rw [e] at e0 e1
  refine wr_ld _ _ _ (by decide) (wr_tStore M c I s kv ⟨5 + g.val, by omega⟩ _ _ _ _ e0.symm e1.symm ?_ ?_)
  · unfold mOf; rw [if_neg (by show ¬ 5 + g.val < 5; omega), if_pos (by show 5 + g.val < 10; omega), e0, e1]; rfl
  · unfold lOf; rw [if_neg (by show ¬ 5 + g.val < 5; omega), if_pos (by show 5 + g.val < 10; omega), e0, e1]; rfl

/-- A padding row's scores are written. -/
theorem wr_tPad (kv : Fin 4) (gs : Fin 16) (h : 10 ≤ gs.val) :
    Wr M I.T (VV c I s) FxP (tPad M kv gs) (RegT (rowOf kv gs)) ⟨⟩ := by
  refine wr_tStore M c I s kv gs _ _ _ _ (tOf_none c I 0 kv gs (.inr h)).symm (tOf_none c I 1 kv gs (.inr h)).symm ?_ ?_
  · unfold mOf; rw [if_neg (by omega), if_neg (by omega)]
  · unfold lOf; rw [if_neg (by omega), if_neg (by omega)]

/-- The places head `kv`'s rows take. -/
def RegH (kv : Fin 4) : Reg := fun j y => Hit 12 (rs kv) j y ∨ (∃ gs : Fin 16, Hit 11 (rq (rowOf kv gs)) j y ∨ RegT (rowOf kv gs) j y)

/-- A head's key scales, queries and new scores are written. -/
theorem wr_headRows (kv : Fin 4) : Wr M I.T (VV c I s) FxP (headRows M c kv) (RegH kv) ⟨⟩ := by
  have h := wr_ld (M := M) (T := I.T) (V := VV c I s) (Fx := FxP) (α := PUnit) 4 (rs kv).toLoadRect h_S1x96x128
    (k := fun ks => ld 12 (rs kv).toLoadRect h_S1x96x128 >>= fun _ => st 12 (rs kv) (ksRow ks) (View.stores_vmem_bits_univ h_S1x96x128 rfl) >>= fun _ =>
      loop (qStore M kv) [(0, 0), (0, 1), (0, 2), (0, 3), (0, 4), (1, 0), (1, 1), (1, 2), (1, 3), (1, 4)] >>= fun _ =>
      loop (qPadStore M kv) [10, 11, 12, 13, 14, 15] >>= fun _ => ld 1 (r4 0 kv).toLoadRect h_S1x1x96x128 >>= fun k0 => ld 1 (r4 1 kv).toLoadRect h_S1x1x96x128 >>= fun k1 =>
      loop (tRow0 M c kv (wide k0)) [0, 1, 2, 3, 4] >>= fun _ => loop (tRow1 M c kv (wide k0) (wide k1)) [0, 1, 2, 3, 4] >>= fun _ =>
      loop (tPad M kv) [10, 11, 12, 13, 14, 15]) (by decide)
    (wr_skip _ _ _ fun _ => wr_st _ _ _ _ (fun x => by rw [emb_rs]; exact congrArg (ksOf I kv) (x1r x))
      (wr_bind (wr_loop _ fun p _ => wr_qStore M c I s kv p)
      (wr_bind (wr_loop (R := fun gs => Hit 11 (rq (rowOf kv gs))) _ fun gs hgs => wr_qPadStore M c I s kv gs (by revert gs; decide))
      (wr_ld _ _ _ (by decide) (wr_ld _ _ _ (by decide)
      (wr_bind (wr_loop _ fun g _ => wr_tRow0 M c I s kv g)
      (wr_bind (wr_loop _ fun g _ => wr_tRow1 M c I s kv g)
      (wr_loop (R := fun gs => RegT (rowOf kv gs)) _ fun gs hgs => wr_tPad M c I s kv gs (by revert gs; decide)))))))))
  refine wr_mono h ?_
  rintro j y (h | ⟨gs, h⟩)
  · exact .inl h
  · refine .inr ?_
    have key : gs.val < 5 ∨ (5 ≤ gs.val ∧ gs.val < 10) ∨ 10 ≤ gs.val := by omega
    have hp : gs ∈ ([10, 11, 12, 13, 14, 15] : List (Fin 16)) ∨ gs.val < 10 := by clear h key; revert gs; decide
    rcases h with h | h
    · rcases hp with hp | hp
      · exact .inr (.inl ⟨gs, hp, h⟩)
      · refine .inl ⟨(sG gs hp, gG gs), ?_, ?_⟩
        · clear h; revert gs; decide
        · have e : (⟨5 * (sG gs hp).val + (gG gs).val, by omega⟩ : Fin 16) = gs := Fin.ext (by show 5 * (gs.val / 5) + gs.val % 5 = gs.val; omega)
          show Hit 11 (rq (rowOf kv ⟨5 * (sG gs hp).val + (gG gs).val, _⟩)) j y
          rw [e]; exact h
    · refine .inr (.inr ?_)
      rcases key with k | k | k
      · exact .inl ⟨⟨gs.val, k⟩, by clear h hp; revert gs; decide, h⟩
      · refine .inr (.inl ⟨⟨gs.val - 5, by omega⟩, by clear h hp; revert gs; decide, ?_⟩)
        have e : (⟨5 + (gs.val - 5), by omega⟩ : Fin 16) = gs := Fin.ext (by show 5 + (gs.val - 5) = gs.val; omega)
        show RegT (rowOf kv ⟨5 + (gs.val - 5), _⟩) j y
        rw [e]; exact h
      · exact .inr (.inr ⟨gs, by clear h hp; revert gs; decide, h⟩)

/-! ### The first part -/

/-- The places the first part writes. -/
def RegP : Reg := fun j y => (∃ p : Fin 2 × Fin 4, Hit 8 (r4 p.1 p.2) j y ∨ Hit 9 (r4 p.1 p.2) j y ∨ Hit 10 (rn p.1 p.2) j y) ∨ ∃ kv, RegH kv j y

/-- The first part writes all of `RegP`. -/
theorem wr_prologue : Wr M I.T (VV c I s) FxP (prologue M hM c) RegP ⟨⟩ := by
  refine wr_mono (wr_bind (wr_loop _ fun p _ => wr_newRow M hM c I s p.1 p.2) (wr_loop _ fun kv _ => wr_headRows M c I s kv)) ?_
  rintro j y (⟨p, h⟩ | ⟨kv, h⟩)
  · exact .inl ⟨p, by clear h; revert p; decide, h⟩
  · exact .inr ⟨kv, by clear h; revert kv; decide, h⟩

/-- The first part writes all of eight buffers. -/
theorem regP_8 (y : S2x4x96x128.Idx) : RegP 8 y := by
  obtain ⟨j, kv, a, b, rfl⟩ : ∃ (j : Fin 2) (kv : Fin 4) (a : Fin 96) (b : Fin 128), y = ix4 j kv a b := ⟨_, _, _, _, eq_ix4 y⟩
  have h := Hit.mk (j := 8) (r := r4 j kv) (ix4 0 0 a b : S1x1x96x128.Idx)
  have e : (r4 j kv).emb (ix4 0 0 a b : S1x1x96x128.Idx) = (ix4 j kv a b : S2x4x96x128.Idx) := emb_r4 j kv _
  exact .inl ⟨(j, kv), .inl (e ▸ h)⟩
/-- The first part writes every place of buffer 9 (the new values' codes). -/
theorem regP_9 (y : S2x4x96x128.Idx) : RegP 9 y := by
  obtain ⟨j, kv, a, b, rfl⟩ : ∃ (j : Fin 2) (kv : Fin 4) (a : Fin 96) (b : Fin 128), y = ix4 j kv a b := ⟨_, _, _, _, eq_ix4 y⟩
  have h := Hit.mk (j := 9) (r := r4 j kv) (ix4 0 0 a b : S1x1x96x128.Idx)
  have e : (r4 j kv).emb (ix4 0 0 a b : S1x1x96x128.Idx) = (ix4 j kv a b : S2x4x96x128.Idx) := emb_r4 j kv _
  exact .inl ⟨(j, kv), .inr (.inl (e ▸ h))⟩
/-- The first part writes every place of buffer 10 (the new values' scales). -/
theorem regP_10 (y : S2x4x128.Idx) : RegP 10 y := by
  obtain ⟨j, kv, b, rfl⟩ : ∃ (j : Fin 2) (kv : Fin 4) (b : Fin 128), y = ix3 j kv b := ⟨_, _, _, eq_ix3 y⟩
  have h := Hit.mk (j := 10) (r := rn j kv) (ix3 0 0 b : S1x1x128.Idx)
  have e : (rn j kv).emb (ix3 0 0 b : S1x1x128.Idx) = (ix3 j kv b : S2x4x128.Idx) := emb_rn j kv _
  exact .inl ⟨(j, kv), .inr (.inr (e ▸ h))⟩
/-- The first part writes every place of buffer 12 (the key scales). -/
theorem regP_12 (y : S4x96x128.Idx) : RegP 12 y := by
  obtain ⟨kv, a, b, rfl⟩ : ∃ (kv : Fin 4) (a : Fin 96) (b : Fin 128), y = ix3 kv a b := ⟨_, _, _, eq_ix3 y⟩
  have h := Hit.mk (j := 12) (r := rs kv) (ix3 0 a b : S1x96x128.Idx)
  have e : (rs kv).emb (ix3 0 a b : S1x96x128.Idx) = (ix3 kv a b : S4x96x128.Idx) := emb_rs kv _
  exact .inr ⟨kv, .inl (e ▸ h)⟩
/-- Every row of queries and scores is in the region of the first part. -/
theorem regP_row (r : Fin 64) (j : Fin 19) (y : (bsh j).Idx) (h : Hit 11 (rq r) j y ∨ RegT r j y) : RegP j y :=
  .inr ⟨kvR r, .inr ⟨gsR r, by rw [rowOf_R]; exact h⟩⟩
/-- A row among the 8192 as a sequence's row. -/
theorem row8_ex (z : Fin 8192) : ∃ (b : Fin 128) (r : Fin 64), z = row8 b r :=
  ⟨⟨z.val / 64, by omega⟩, ⟨z.val % 64, by omega⟩, Fin.ext (by show z.val = 64 * (z.val / 64) + z.val % 64; omega)⟩
/-- The first part writes every place of buffer 11 (the query rows). -/
theorem regP_11 (y : S8192x128.Idx) : RegP 11 y := by
  obtain ⟨z, l, rfl⟩ : ∃ (z : Fin 8192) (l : Fin 128), y = ix2 z l := ⟨_, _, eq_ix2 y⟩
  obtain ⟨b, r, rfl⟩ := row8_ex z
  have h := Hit.mk (j := 11) (r := rq r) (ix2 b l : S128x128.Idx)
  have e : (rq r).emb (ix2 b l : S128x128.Idx) = (ix2 (row8 b r) l : S8192x128.Idx) := emb_rq r _
  exact regP_row r _ _ (.inl (e ▸ h))
/-- The first part writes every place of buffer 13 (the new keys' scores). -/
theorem regP_13 (y : S2x64x128.Idx) : RegP 13 y := by
  obtain ⟨j, r, b, rfl⟩ : ∃ (j : Fin 2) (r : Fin 64) (b : Fin 128), y = ix3 j r b := ⟨_, _, _, eq_ix3 y⟩
  have h := Hit.mk (j := 13) (r := rt j r) (ix3 0 0 b : S1x1x128.Idx)
  have e : (rt j r).emb (ix3 0 0 b : S1x1x128.Idx) = (ix3 j r b : S2x64x128.Idx) := emb_rt j r _
  have h2 : j = 0 ∨ j = 1 := by clear h e; revert j; decide
  refine regP_row r _ _ (.inr ?_)
  rcases h2 with rfl | rfl
  · exact .inl (e ▸ h)
  · exact .inr (.inl (e ▸ h))
/-- The first part writes every place of buffer 14 (the new keys' maxima). -/
theorem regP_14 (y : S64x128.Idx) : RegP 14 y := by
  obtain ⟨r, b, rfl⟩ : ∃ (r : Fin 64) (b : Fin 128), y = ix2 r b := ⟨_, _, eq_ix2 y⟩
  have h := Hit.mk (j := 14) (r := rr r) (ix2 0 b : S1x128.Idx)
  have e : (rr r).emb (ix2 0 b : S1x128.Idx) = (ix2 r b : S64x128.Idx) := emb_rr r _
  exact regP_row r _ _ (.inr (.inr (.inr (.inl (e ▸ h)))))
/-- The first part writes every place of buffer 15 (the new keys' weight sums). -/
theorem regP_15 (y : S64x128.Idx) : RegP 15 y := by
  obtain ⟨r, b, rfl⟩ : ∃ (r : Fin 64) (b : Fin 128), y = ix2 r b := ⟨_, _, eq_ix2 y⟩
  have h := Hit.mk (j := 15) (r := rr r) (ix2 0 b : S1x128.Idx)
  have e : (rr r).emb (ix2 0 b : S1x128.Idx) = (ix2 r b : S64x128.Idx) := emb_rr r _
  exact regP_row r _ _ (.inr (.inr (.inr (.inr (e ▸ h)))))

/-! ### The main part -/

/-- A column put in a lane: the column there, the old contents elsewhere. -/
theorem putLane_eq (bl : BitVec 32) (m : FVec F S16x1 .f32) (old : Vec F S16x128 .f32) (x : S16x128.Idx) :
    putLane bl m old x = if BitVec.ofNat 32 (x 1).val = bl then m (ix2 (x 0) 0) else old x := by
  unfold putLane mine
  pointwise
  by_cases h : BitVec.ofNat 32 (x 1).val = bl
  · rw [if_pos h, h]; simp [Scalar.select, IntOp.cmpi]
  · have h' : (BitVec.ofNat 32 (x 1).val == bl) = false := by simpa using h
    rw [if_neg h]; simp [Scalar.select, IntOp.cmpi, h']

/-- The lanes of the sequence at hand in head `kv`'s rows. -/
abbrev RegL (s : Fin 16) (r : Fin 8) (kv : Fin 4) : Reg := fun j y =>
  HitQ 16 (r16 kv) (fun x => BitVec.ofNat 32 (x 1).val = blOf (crd I.B s) r) j y ∨ HitQ 17 (r16 kv) (fun x => BitVec.ofNat 32 (x 1).val = blOf (crd I.B s) r) j y

/-- A sequence's number in the block of 128. -/
theorem bl_nat (B : Fin 12) (s : Fin 16) (r : Fin 8) : blOf (crd B s) r = BitVec.ofNat 32 (8 * s.val + r.val) := by
  show Scalar.addi (Scalar.muli (BitVec.ofNat 32 s.val) 8#32) (BitVec.ofNat 32 r.val) = BitVec.ofNat 32 (8 * s.val + r.val)
  revert s r; decide +kernel

/-- A lane with a sequence's number is at that place and that sequence. -/
theorem bl_eq (s : Fin 16) (r : Fin 8) (l : Fin 128) (h : BitVec.ofNat 32 l.val = blOf (crd I.B s) r) : sL l = s ∧ rL l = r := by
  have e : l.val = 8 * s.val + r.val := by
    rw [bl_nat] at h
    have h2 := congrArg BitVec.toNat h
    rw [BitVec.toNat_ofNat, BitVec.toNat_ofNat] at h2
    omega
  exact ⟨Fin.ext (by show l.val / 8 = s.val; omega), Fin.ext (by show l.val % 8 = r.val; omega)⟩

/-- A head's program writes the lane's maxima and inverse sums, and answers its weighted cached values. -/
theorem wr_head (r : Fin 8) (kv : Fin 4) :
    Wr M I.T (VV c I s) FxM (head M c (crd I.B s) r (nOf I s r) kv) (RegL I s r kv) (dotOf c I s r kv) := by
  refine wr_mono (wr_ld _ _ _ (by decide) (wr_ld _ _ _ (by decide) (wr_ld _ _ _ (by decide) (wr_ld _ _ _ (by decide) (wr_ld _ _ _ (by decide)
    (wr_upd 16 (r16 kv) _ _ _ (fun om => putLane (blOf (crd I.B s) r) (mcOf c I s r kv) om) _ (fun x => BitVec.ofNat 32 (x 1).val = blOf (crd I.B s) r) ?_ ?_
    (wr_upd 17 (r16 kv) _ _ _ (fun om => putLane (blOf (crd I.B s) r) (icOf c I s r kv) om) _ (fun x => BitVec.ofNat 32 (x 1).val = blOf (crd I.B s) r) ?_ ?_
    (wr_ld _ _ _ (by decide) (wr_ld _ _ _ (by decide) (wr_pure _)))))))))) ?_
  · intro o x hx
    rw [putLane_eq, if_pos hx, emb_r16]
    obtain ⟨a, l, rfl⟩ : ∃ (a : Fin 16) (l : Fin 128), x = (ix2 a l : S16x128.Idx) := ⟨_, _, eq_ix2 x⟩
    obtain ⟨e1, e2⟩ := bl_eq I s r l hx
    show mcOf c I s r kv (ix2 a 0) = mcOf c I (sL l) (rL l) (kvR (rowOf kv a)) (ix2 (gsR (rowOf kv a)) 0)
    rw [e1, e2, kvR_rowOf, gsR_rowOf]
  · intro o x hx; rw [putLane_eq, if_neg hx]
  · intro o x hx
    rw [putLane_eq, if_pos hx, emb_r16]
    obtain ⟨a, l, rfl⟩ : ∃ (a : Fin 16) (l : Fin 128), x = (ix2 a l : S16x128.Idx) := ⟨_, _, eq_ix2 x⟩
    obtain ⟨e1, e2⟩ := bl_eq I s r l hx
    show icOf c I s r kv (ix2 a 0) = icOf c I (sL l) (rL l) (kvR (rowOf kv a)) (ix2 (gsR (rowOf kv a)) 0)
    rw [e1, e2, kvR_rowOf, gsR_rowOf]
  · intro o x hx; rw [putLane_eq, if_neg hx]
  · rintro j y (h | h)
    · exact .inl h
    · exact .inr (.inl h)

/-- The buffer of the cache's sums, at a sequence's row. -/
theorem V18_row (s : Fin 16) (r : Fin 8) (q : Fin 64) (l : Fin 128) : V18 c I (ix2 (row8 (lanOf s r) q) l) = orOf c I s r (ix2 q l) := by
  have e1 : (⟨(row8 (lanOf s r) q).val % 64, Nat.mod_lt _ (by decide)⟩ : Fin 64) = q := Fin.ext (by show (64 * (8 * s.val + r.val) + q.val) % 64 = q.val; omega)
  have e2 : (⟨(row8 (lanOf s r) q).val / 64, by have := (row8 (lanOf s r) q).isLt; omega⟩ : Fin 128) = lanOf s r := Fin.ext (by show (64 * (8 * s.val + r.val) + q.val) / 64 = 8 * s.val + r.val; omega)
  show orOf c I (sL ⟨(row8 (lanOf s r) q).val / 64, _⟩) (rL ⟨(row8 (lanOf s r) q).val / 64, _⟩) (ix2 ⟨(row8 (lanOf s r) q).val % 64, _⟩ l) = _
  rw [e1, e2]
  have e3 : sL (lanOf s r) = s := Fin.ext (by show (8 * s.val + r.val) / 8 = s.val; omega)
  have e4 : rL (lanOf s r) = r := Fin.ext (by show (8 * s.val + r.val) % 8 = r.val; omega)
  rw [e3, e4]

/-- The places sequence `r` of the point writes. -/
def RegS (r : Fin 8) : Reg := fun j y => (∃ kv, RegL I s r kv j y) ∨ Hit 18 (ro (crd I.B s) r) j y

/-- A sequence's program writes its lane and its rows. -/
theorem wr_seqn (r : Fin 8) : Wr M I.T (VV c I s) FxM (seqn M c (crd I.B s) r) (RegS I s r) ⟨⟩ := by
  refine wr_mono (wr_tb _ _ (wr_bind (wr_head M c I s r 0) (wr_bind (wr_head M c I s r 1) (wr_bind (wr_head M c I s r 2) (wr_bind (wr_head M c I s r 3)
    (wr_skip _ _ _ fun _ => wr_st' _ _ _ _ ?_)))))) ?_
  · intro x
    rw [emb_ro]
    exact (congrArg (orOf c I s r) (eq_ix2 x)).trans (V18_row c I s r (x 0) (x 1)).symm
  · rintro j y (⟨kv, h⟩ | h)
    · have : kv = 0 ∨ kv = 1 ∨ kv = 2 ∨ kv = 3 := by clear h; revert kv; decide
      rcases this with rfl | rfl | rfl | rfl
      · exact .inl h
      · exact .inr (.inl h)
      · exact .inr (.inr (.inl h))
      · exact .inr (.inr (.inr (.inl h)))
    · exact .inr (.inr (.inr (.inr h)))

/-- The main part writes the lanes and rows of its eight sequences. -/
theorem wr_mainPart : Wr M I.T (VV c I s) FxM (mainPart M c (crd I.B s)) (fun j y => ∃ r, RegS I s r j y) ⟨⟩ := by
  refine wr_mono (wr_loop _ fun r _ => wr_seqn M c I s r) ?_
  rintro j y ⟨r, h⟩
  exact ⟨r, by clear h; revert r; decide, h⟩

/-- The main part writes the cache's sums at every row of its place's sequences. -/
theorem regM_18 (y : S8192x128.Idx) (h : (y 0).val / 512 = s.val) : ∃ r, RegS I s r 18 y := by
  obtain ⟨z, l, rfl⟩ : ∃ (z : Fin 8192) (l : Fin 128), y = ix2 z l := ⟨_, _, eq_ix2 y⟩
  have hz : z.val / 512 = s.val := h
  have hh := Hit.mk (j := 18) (r := ro (crd I.B s) ⟨z.val / 64 % 8, by omega⟩) (ix2 ⟨z.val % 64, by omega⟩ l : S64x128.Idx)
  have e0 : row8 (lanOf s ⟨z.val / 64 % 8, by omega⟩) ⟨z.val % 64, by omega⟩ = z :=
    Fin.ext (by show 64 * (8 * s.val + z.val / 64 % 8) + z.val % 64 = z.val; omega)
  have e : (ro (crd I.B s) ⟨z.val / 64 % 8, by omega⟩).emb (ix2 ⟨z.val % 64, by omega⟩ l : S64x128.Idx) = (ix2 z l : S8192x128.Idx) :=
    (emb_ro I.B s _ _).trans (congrArg (fun z => (ix2 z l : S8192x128.Idx)) e0)
  exact ⟨_, .inr (e ▸ hh)⟩

/-- The lane of a sequence has its number. -/
theorem regM_lane (r : Fin 8) (l : Fin 128) (h : l.val = 8 * s.val + r.val) :
    BitVec.ofNat 32 l.val = blOf (crd I.B s) r := by
  rw [bl_nat, h]

/-- The main part writes buffer 16 (the maxima) at every lane of its place. -/
theorem regM_16 (y : S64x128.Idx) (h : (y 1).val / 8 = s.val) : ∃ r, RegS I s r 16 y := by
  obtain ⟨z, l, rfl⟩ : ∃ (z : Fin 64) (l : Fin 128), y = ix2 z l := ⟨_, _, eq_ix2 y⟩
  have hl : l.val / 8 = s.val := h
  have hh := HitQ.mk (j := 16) (r := r16 (kvR z)) (Q := fun x => BitVec.ofNat 32 (x 1).val = blOf (crd I.B s) (rL l)) (ix2 (gsR z) l : S16x128.Idx)
    (regM_lane I s (rL l) l (by show l.val = 8 * s.val + l.val % 8; omega))
  have e : (r16 (kvR z)).emb (ix2 (gsR z) l : S16x128.Idx) = (ix2 z l : S64x128.Idx) :=
    (emb_r16 (kvR z) _).trans (congrArg (fun z => (ix2 z l : S64x128.Idx)) (rowOf_R z))
  exact ⟨_, .inl ⟨_, .inl (e ▸ hh)⟩⟩
/-- The main part writes buffer 17 (the inverse sums) at every lane of its place. -/
theorem regM_17 (y : S64x128.Idx) (h : (y 1).val / 8 = s.val) : ∃ r, RegS I s r 17 y := by
  obtain ⟨z, l, rfl⟩ : ∃ (z : Fin 64) (l : Fin 128), y = ix2 z l := ⟨_, _, eq_ix2 y⟩
  have hl : l.val / 8 = s.val := h
  have hh := HitQ.mk (j := 17) (r := r16 (kvR z)) (Q := fun x => BitVec.ofNat 32 (x 1).val = blOf (crd I.B s) (rL l)) (ix2 (gsR z) l : S16x128.Idx)
    (regM_lane I s (rL l) l (by show l.val = 8 * s.val + l.val % 8; omega))
  have e : (r16 (kvR z)).emb (ix2 (gsR z) l : S16x128.Idx) = (ix2 z l : S64x128.Idx) :=
    (emb_r16 (kvR z) _).trans (congrArg (fun z => (ix2 z l : S64x128.Idx)) (rowOf_R z))
  exact ⟨_, .inl ⟨_, .inr (e ▸ hh)⟩⟩

/-! ### The last part -/

/-- The result row at the first position is written. -/
theorem wr_outRow0 (kv : Fin 4) (g : Fin 5) :
    Wr M I.T (VV c I s) FxE (outRow0 M hM kv (wide (fun x => I.vn ((r4 0 kv).emb x))) g) (Hit 7 (r20 0 (headOf kv g))) ⟨⟩ := by
  refine wr_ld _ _ _ (by decide) (wr_ld _ _ _ (by decide) (wr_ld _ _ _ (by decide) (wr_ld _ _ _ (by decide) (wr_skip _ _ _ fun _ => wr_st' _ _ _ _ ?_))))
  intro x
  rw [emb_r20]
  have e1 : (⟨(headOf kv g).val / 5, by have := (headOf kv g).isLt; omega⟩ : Fin 4) = kv := Fin.ext (by show (5 * kv.val + g.val) / 5 = kv.val; omega)
  have e2 : (⟨(headOf kv g).val % 5, Nat.mod_lt _ (by decide)⟩ : Fin 5) = g := Fin.ext (by show (5 * kv.val + g.val) % 5 = g.val; omega)
  show _ = outOf c I 0 ⟨(headOf kv g).val / 5, _⟩ ⟨(headOf kv g).val % 5, _⟩ (ix4 0 0 (x 2) (x 3))
  rw [e1, e2]
  unfold outOf
  rw [if_pos (by rfl)]
  exact congrArg (outRow (F := F) _) (x1x1 x)

/-- The result row at the second position is written. -/
theorem wr_outRow1 (kv : Fin 4) (g : Fin 5) :
    Wr M I.T (VV c I s) FxE (outRow1 M hM kv (wide (fun x => I.vn ((r4 0 kv).emb x))) (wide (fun x => I.vn ((r4 1 kv).emb x))) g) (Hit 7 (r20 1 (headOf kv g))) ⟨⟩ := by
  refine wr_ld _ _ _ (by decide) (wr_ld _ _ _ (by decide) (wr_ld _ _ _ (by decide) (wr_ld _ _ _ (by decide)
    (wr_ld _ _ _ (by decide) (wr_ld _ _ _ (by decide) (wr_ld _ _ _ (by decide) (wr_skip _ _ _ fun _ => wr_st' _ _ _ _ ?_)))))))
  intro x
  rw [emb_r20]
  have e1 : (⟨(headOf kv g).val / 5, by have := (headOf kv g).isLt; omega⟩ : Fin 4) = kv := Fin.ext (by show (5 * kv.val + g.val) / 5 = kv.val; omega)
  have e2 : (⟨(headOf kv g).val % 5, Nat.mod_lt _ (by decide)⟩ : Fin 5) = g := Fin.ext (by show (5 * kv.val + g.val) % 5 = g.val; omega)
  show _ = outOf c I 1 ⟨(headOf kv g).val / 5, _⟩ ⟨(headOf kv g).val % 5, _⟩ (ix4 0 0 (x 2) (x 3))
  rw [e1, e2]
  unfold outOf
  rw [if_neg (by decide)]
  exact congrArg (outRow (F := F) _) (x1x1 x)

/-- The last part writes every result row. -/
theorem wr_epilogue : Wr M I.T (VV c I s) FxE (epilogue M hM) (fun j y => ∃ (p : Fin 2) (kv : Fin 4) (g : Fin 5), Hit 7 (r20 p (headOf kv g)) j y) ⟨⟩ := by
  refine wr_mono (wr_loop (R := fun kv j y => ∃ (p : Fin 2) (g : Fin 5), Hit 7 (r20 p (headOf kv g)) j y) _ fun kv _ => ?_) ?_
  · refine wr_mono (wr_ld _ _ _ (by decide) (wr_ld _ _ _ (by decide) (wr_bind (wr_loop _ fun g _ => wr_outRow0 M hM c I s kv g)
      (wr_loop _ fun g _ => wr_outRow1 M hM c I s kv g)))) ?_
    rintro j y ⟨p, g, h⟩
    have hg : g ∈ ([0, 1, 2, 3, 4] : List (Fin 5)) := by clear h; revert g; decide
    have h2 : p = 0 ∨ p = 1 := by clear h; revert p; decide
    rcases h2 with rfl | rfl
    · exact .inl ⟨g, hg, h⟩
    · exact .inr ⟨g, hg, h⟩
  · rintro j y ⟨p, kv, g, h⟩
    exact ⟨kv, by clear h; revert kv; decide, p, g, h⟩

/-- Every place of the result is in a result row. -/
theorem regE_7 (y : S2x20x96x128.Idx) : ∃ (p : Fin 2) (kv : Fin 4) (g : Fin 5), Hit 7 (r20 p (headOf kv g)) 7 y := by
  obtain ⟨j, hd, a, b, rfl⟩ : ∃ (j : Fin 2) (hd : Fin 20) (a : Fin 96) (b : Fin 128), y = ix4 j hd a b := ⟨_, _, _, _, eq_ix4 y⟩
  have h := Hit.mk (j := 7) (r := r20 j hd) (ix4 0 0 a b : S1x1x96x128.Idx)
  have e : (r20 j hd).emb (ix4 0 0 a b : S1x1x96x128.Idx) = (ix4 j hd a b : S2x20x96x128.Idx) := emb_r20 j hd _
  have e0 : headOf ⟨hd.val / 5, by omega⟩ ⟨hd.val % 5, by omega⟩ = hd := Fin.ext (by show 5 * (hd.val / 5) + hd.val % 5 = hd.val; omega)
  refine ⟨j, ⟨hd.val / 5, by omega⟩, ⟨hd.val % 5, by omega⟩, ?_⟩
  rw [e0]
  exact e ▸ h

end Parts

end Cert.Body

end
-- ==== Proof.Step.lean ====
/- One point of the kernel on its buffers' contents. -/
module

public import proofs.«01_k».proof.Proof.Spec

@[expose] public section

set_option maxRecDepth 16384

noncomputable section

namespace Cert.Body

open Idealize.ShloMosaic Idealize.SL.Sem
open Cert.Dsl Cert.Kernel

variable {F : FTy → Type} [FloatOps F]
variable {sig : RefSig}
variable (M : (j : Fin 19) → Memref sig .tc .vmem (bsh j) (bel j)) (hM : ∀ j, (M j).IsWhole) (c : F .f32) (I : Inp F)

/-- What the buffers hold as the kernel enters place `s` of a block: past the first place, everything the first place writes; the
    lanes and rows of the sequences already done. -/
structure Inv (s : ℕ) (σ : State bsh bel (Elt F)) : Prop where
  pro : 0 < s → ∀ j : Fin 19, 8 ≤ j.val → j.val < 16 → σ j = VV c I 0 j
  h16 : ∀ y, (y 1).val < 8 * s → σ 16 y = V16 c I y
  h17 : ∀ y, (y 1).val < 8 * s → σ 17 y = V17 c I y
  h18 : ∀ y, (y 0).val < 512 * s → σ 18 y = V18 c I y

/-- The buffers from the eighth on hold the same at every place. -/
theorem VV_late (s s' : Fin 16) (j : Fin 19) (h : 7 ≤ j.val) : VV c I s j = VV c I s' j := by
  match j, h with
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl
  | ⟨14, _⟩, _ => rfl
  | ⟨15, _⟩, _ => rfl
  | ⟨16, _⟩, _ => rfl
  | ⟨17, _⟩, _ => rfl
  | ⟨18, _⟩, _ => rfl
  | ⟨n + 19, h'⟩, _ => exact absurd h' (by omega)

/-- The first part writes all of buffers eight to fifteen. -/
theorem regP_all (j : Fin 19) (h8 : 8 ≤ j.val) (h16 : j.val < 16) (y : (bsh j).Idx) : RegP j y := by
  match j, h8, h16, y with
  | ⟨8, _⟩, _, _, y => exact regP_8 y
  | ⟨9, _⟩, _, _, y => exact regP_9 y
  | ⟨10, _⟩, _, _, y => exact regP_10 y
  | ⟨11, _⟩, _, _, y => exact regP_11 y
  | ⟨12, _⟩, _, _, y => exact regP_12 y
  | ⟨13, _⟩, _, _, y => exact regP_13 y
  | ⟨14, _⟩, _, _, y => exact regP_14 y
  | ⟨15, _⟩, _, _, y => exact regP_15 y
  | ⟨n + 16, _⟩, _, h, _ => exact absurd h (by show ¬ n + 16 < 16; omega)

/-- The first part runs at the first place of a block only. -/
theorem cond1_iff : ∀ (B : Fin 12) (s : Fin 16), k0_cond1 (crd B s) = 1#1 ↔ s = 0 := by decide +kernel
/-- The last part runs at the last place of a block only. -/
theorem cond2_iff : ∀ (B : Fin 12) (s : Fin 16), k0_cond2 (crd B s) = 1#1 ↔ s = 15 := by decide +kernel

/-- A program run on contents, from what it writes. -/
theorem of_wr {T : S1536.Idx → BitVec 32} {V : State bsh bel (Elt F)} {Fx : Fin 19 → Prop} {p : P (F := F) M PUnit} {R : Reg}
    (w : Wr M T V Fx p R ⟨⟩) (σ : State bsh bel (Elt F)) (h : ∀ j, Fx j → σ j = V j) :
    ∃ σ', run T p σ = (⟨⟩, σ') ∧ (∀ j y, σ j y = V j y → σ' j y = V j y) ∧ ∀ j y, R j y → σ' j y = V j y :=
  ⟨(run T p σ).2, rfl, fun j y hy => (w σ h).2 j y (.inr hy), fun j y hy => (w σ h).2 j y (.inl hy)⟩

variable {M} in
/-- After the first part, run or not, all that it writes is in place. -/
theorem step_pro {p1 : P (F := F) M PUnit} (s : Fin 16) (σ : State bsh bel (Elt F)) (w1 : Wr M I.T (VV c I s) FxP p1 RegP ⟨⟩)
    (hin : ∀ j : Fin 19, j.val < 7 → σ j = VV c I s j) (hI : Inv c I s.val σ) (b : Prop) [Decidable b] (hb : b ↔ s = 0) :
    ∃ σ1, (run I.T (if b then p1 else pure ⟨⟩) σ) = (⟨⟩, σ1)
      ∧ (∀ j y, σ j y = VV c I s j y → σ1 j y = VV c I s j y) ∧ (∀ j : Fin 19, 8 ≤ j.val → j.val < 16 → σ1 j = VV c I s j) := by
  by_cases h : b
  · rw [if_pos h]
    obtain ⟨σ1, e, k, r⟩ := of_wr M w1 σ (fun j hj => hin j hj)
    exact ⟨σ1, e, k, fun j h8 h16 => funext fun y => r j y (regP_all j h8 h16 y)⟩
  · rw [if_neg h]
    have hs : 0 < s.val := Nat.pos_of_ne_zero fun e => h (hb.mpr (Fin.ext e))
    exact ⟨σ, rfl, fun j y hy => hy, fun j h8 h16 => (hI.pro hs j h8 h16).trans (VV_late c I _ _ j (by omega))⟩

variable {M} in
/-- After the main part, the lanes and rows up to the next place are in place. -/
theorem step_main {p2 : P (F := F) M PUnit} (s : Fin 16) (σ σ1 : State bsh bel (Elt F))
    (w2 : Wr M I.T (VV c I s) FxM p2 (fun j y => ∃ r, RegS I s r j y) ⟨⟩) (hI : Inv c I s.val σ)
    (k1 : ∀ j y, σ j y = VV c I s j y → σ1 j y = VV c I s j y)
    (i1 : ∀ j : Fin 19, j.val < 7 → σ1 j = VV c I s j) (a1 : ∀ j : Fin 19, 8 ≤ j.val → j.val < 16 → σ1 j = VV c I s j) :
    ∃ σ2, run I.T p2 σ1 = (⟨⟩, σ2) ∧ (∀ j : Fin 19, j.val < 7 → σ2 j = VV c I s j) ∧ (∀ j : Fin 19, 8 ≤ j.val → j.val < 16 → σ2 j = VV c I s j)
      ∧ (∀ y, (y 1).val < 8 * (s.val + 1) → σ2 16 y = VV c I s 16 y) ∧ (∀ y, (y 1).val < 8 * (s.val + 1) → σ2 17 y = VV c I s 17 y)
      ∧ (∀ y, (y 0).val < 512 * (s.val + 1) → σ2 18 y = VV c I s 18 y) := by
  obtain ⟨σ2, e2, k2, r2⟩ := of_wr M w2 σ1 (fun j hj => by
    rcases Nat.lt_or_ge j.val 7 with h | h
    · exact i1 j h
    · exact a1 j (by have : j.val ≠ 7 := hj.1; omega) hj.2)
  refine ⟨σ2, e2, fun j hj => funext fun y => k2 j y (congrFun (i1 j hj) y), fun j h8 h16 => funext fun y => k2 j y (congrFun (a1 j h8 h16) y), ?_, ?_, ?_⟩
  · intro y hy
    rcases Nat.lt_or_ge (y 1).val (8 * s.val) with h | h
    · exact k2 16 y (k1 16 y (hI.h16 y h))
    · exact r2 16 y (regM_16 I s y (by omega))
  · intro y hy
    rcases Nat.lt_or_ge (y 1).val (8 * s.val) with h | h
    · exact k2 17 y (k1 17 y (hI.h17 y h))
    · exact r2 17 y (regM_17 I s y (by omega))
  · intro y hy
    rcases Nat.lt_or_ge (y 0).val (512 * s.val) with h | h
    · exact k2 18 y (k1 18 y (hI.h18 y h))
    · exact r2 18 y (regM_18 I s y (by omega))

/-- The last three buffers. -/
theorem last3 (j : Fin 19) (h : 16 ≤ j.val) : j = 16 ∨ j = 17 ∨ j = 18 := by revert j; decide

variable {M} in
/-- After the last part, run or not. -/
theorem step_epi {p3 : P (F := F) M PUnit} (s : Fin 16) (σ2 : State bsh bel (Elt F))
    (w3 : Wr M I.T (VV c I s) FxE p3 (fun j y => ∃ (p : Fin 2) (kv : Fin 4) (g : Fin 5), Hit 7 (r20 p (headOf kv g)) j y) ⟨⟩)
    (i2 : ∀ j : Fin 19, j.val < 7 → σ2 j = VV c I s j) (a2 : ∀ j : Fin 19, 8 ≤ j.val → j.val < 16 → σ2 j = VV c I s j)
    (l16 : ∀ y, (y 1).val < 8 * (s.val + 1) → σ2 16 y = VV c I s 16 y) (l17 : ∀ y, (y 1).val < 8 * (s.val + 1) → σ2 17 y = VV c I s 17 y)
    (l18 : ∀ y, (y 0).val < 512 * (s.val + 1) → σ2 18 y = VV c I s 18 y) (b : Prop) [Decidable b] (hb : b ↔ s = 15) :
    ∃ σ3, (run I.T (if b then p3 else pure ⟨⟩) σ2) = (⟨⟩, σ3)
      ∧ (∀ j y, σ2 j y = VV c I s j y → σ3 j y = VV c I s j y) ∧ (s = 15 → σ3 7 = V7 c I) := by
  by_cases h : b
  · rw [if_pos h]
    have hs15 : s.val = 15 := congrArg Fin.val (hb.mp h)
    obtain ⟨σ3, e, k, r⟩ := of_wr M w3 σ2 (fun j hj => by
      have h7 : j.val ≠ 7 := hj
      rcases Nat.lt_or_ge j.val 7 with h | h
      · exact i2 j h
      · rcases Nat.lt_or_ge j.val 16 with h' | h'
        · exact a2 j (by omega) h'
        · rcases last3 j h' with rfl | rfl | rfl
          · exact funext fun y => l16 y (by have : (y 1).val < 128 := (y 1).isLt; omega)
          · exact funext fun y => l17 y (by have : (y 1).val < 128 := (y 1).isLt; omega)
          · exact funext fun y => l18 y (by have : (y 0).val < 8192 := (y 0).isLt; omega))
    exact ⟨σ3, e, k, fun _ => funext fun y => r 7 y (regE_7 y)⟩
  · rw [if_neg h]
    exact ⟨σ2, rfl, fun j y hy => hy, fun e => absurd (hb.mpr e) h⟩

/-- One point: the contents it is entered with, the inputs in place, give the contents of the next. -/
theorem step (s : Fin 16) (σ : State bsh bel (Elt F)) (hin : ∀ j : Fin 19, j.val < 7 → σ j = VV c I s j) (hI : Inv c I s.val σ) :
    ∃ σ', run I.T (body M hM c (crd I.B s)) σ = (⟨⟩, σ') ∧ (∀ j : Fin 19, j.val < 7 → σ' j = VV c I s j) ∧ Inv c I (s.val + 1) σ' ∧ (s = 15 → σ' 7 = V7 c I) := by
  obtain ⟨σ1, e1, k1, a1⟩ := step_pro c I s σ (wr_prologue M hM c I s) hin hI _ (cond1_iff I.B s)
  have i1 : ∀ j : Fin 19, j.val < 7 → σ1 j = VV c I s j := fun j hj => funext fun y => k1 j y (congrFun (hin j hj) y)
  obtain ⟨σ2, e2, i2, a2, l16, l17, l18⟩ := step_main c I s σ σ1 (wr_mainPart M c I s) hI k1 i1 a1
  obtain ⟨σ3, e3, k3, o3⟩ := step_epi c I s σ2 (wr_epilogue M hM c I s) i2 a2 l16 l17 l18 _ (cond2_iff I.B s)
  refine ⟨σ3, ?_, fun j hj => funext fun y => k3 j y (congrFun (i2 j hj) y),
    ⟨fun _ j h8 h16 => (funext fun y => k3 j y (congrFun (a2 j h8 h16) y)).trans (VV_late c I _ _ j (by omega)),
      fun y hy => k3 16 y (l16 y hy), fun y hy => k3 17 y (l17 y hy), fun y hy => k3 18 y (l18 y hy)⟩, o3⟩
  unfold body
  rw [run_bind, e1, run_bind, e2, e3]

end Cert.Body

end
-- ==== Proof.KBlk.lean ====
/- The blocks the region stages at a point, read off the arrays, and the inputs of a block of sequences. -/
module

public import proofs.«01_k».proof.Proof.KFrame
public import proofs.«01_k».proof.Proof.KBody
public import proofs.«01_k».proof.Proof.Step
public import Idealize.ShloMosaic.Lib.Pipeline.ValueKit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Body (bsh bel VV Inp V7 V8 V9 V10)

variable {F : FTy → Type} [FloatOps F]

local notation "𝕄" => MT nD τ sig Unit (Elt F) ℕ (UR sig nD τ) ℕ

variable (m : (ℓ : Loc nD τ sig) → Buf (Elt F) ℓ)

/-- No index map reads the table: the pipeline is right at every table. -/
theorem hO : Ok m := trivial

/-- Point `t`'s block of sequences and its place in the block. -/
def bOf (t : Fin grid0.N) : Fin 12 := ⟨t.val / 16, by have : t.val < 192 := t.isLt; omega⟩
/-- The place of point `t` in its block. -/
def sOf (t : Fin grid0.N) : Fin 16 := ⟨t.val % 16, by omega⟩
/-- The point at a block and a place. -/
def pt (B : Fin 12) (s : Fin 16) : Fin grid0.N := ⟨16 * B.val + s.val, by show _ < 192; omega⟩

/-- A point is the one at its block and place. -/
theorem pt_of (t : Fin grid0.N) : pt (bOf t) (sOf t) = t := Fin.ext (by show 16 * (t.val / 16) + t.val % 16 = t.val; omega)
/-- The block of the point at a block and a place. -/
theorem bOf_pt (B : Fin 12) (s : Fin 16) : bOf (pt B s) = B := Fin.ext (by show (16 * B.val + s.val) / 16 = B.val; omega)
/-- The place of the point at a block and a place. -/
theorem sOf_pt (B : Fin 12) (s : Fin 16) : sOf (pt B s) = s := Fin.ext (by show (16 * B.val + s.val) % 16 = s.val; omega)

/-- A point's grid coordinates are its block and its place. -/
theorem coords_eq (t : Fin grid0.N) : grid0.coords t = Cert.Body.crd (bOf t) (sOf t) := by
  have h0 : ∀ t : Fin grid0.N, (grid0.coords t (0 : Fin 2)).val = (bOf t).val := by decide +kernel
  have h1 : ∀ t : Fin grid0.N, (grid0.coords t (1 : Fin 2)).val = (sOf t).val := by decide +kernel
  rw [← crd_eta (grid0.coords t)]
  exact congrArg₂ Cert.Body.crd (Fin.ext (h0 t)) (Fin.ext (h1 t))

/-- The block index of each window. -/
theorem tr0 : ∀ (B : Fin 12) (s : Fin 16), cc0_transform_0 (Cert.Body.crd B s) = ![0, 0, 0, B.val] := by decide +kernel
/-- The block index of window 0 (the queries) at a point. -/
theorem idx0 (t : Fin grid0.N) : ((cfgM m (hO m)).win 0).index t = ![0, 0, 0, (bOf t).val] := by
  show cc0_transform_0 (grid0.coords t) = _
  rw [coords_eq, tr0]
/-- The index map of window 1 at a block and a place. -/
theorem tr1 : ∀ (B : Fin 12) (s : Fin 16), cc0_transform_1 (Cert.Body.crd B s) = ![0, 0, 0, B.val] := by decide +kernel
/-- The block index of window 1 (the new keys) at a point. -/
theorem idx1 (t : Fin grid0.N) : ((cfgM m (hO m)).win 1).index t = ![0, 0, 0, (bOf t).val] := by
  show cc0_transform_1 (grid0.coords t) = _
  rw [coords_eq, tr1]
/-- The index map of window 2 at a block and a place. -/
theorem tr2 : ∀ (B : Fin 12) (s : Fin 16), cc0_transform_2 (Cert.Body.crd B s) = ![0, 0, 0, B.val] := by decide +kernel
/-- The block index of window 2 (the new values) at a point. -/
theorem idx2 (t : Fin grid0.N) : ((cfgM m (hO m)).win 2).index t = ![0, 0, 0, (bOf t).val] := by
  show cc0_transform_2 (grid0.coords t) = _
  rw [coords_eq, tr2]
/-- The index map of window 3 at a block and a place. -/
theorem tr3 : ∀ (B : Fin 12) (s : Fin 16), cc0_transform_3 (Cert.Body.crd B s) = ![16 * B.val + s.val, 0, 0, 0] := by decide +kernel
/-- The block index of window 3 (the cached keys) at a point. -/
theorem idx3 (t : Fin grid0.N) : ((cfgM m (hO m)).win 3).index t = ![16 * (bOf t).val + (sOf t).val, 0, 0, 0] := by
  show cc0_transform_3 (grid0.coords t) = _
  rw [coords_eq, tr3]
/-- The index map of window 4 at a block and a place. -/
theorem tr4 : ∀ (B : Fin 12) (s : Fin 16), cc0_transform_4 (Cert.Body.crd B s) = ![0, 0, B.val] := by decide +kernel
/-- The block index of window 4 (the key scales) at a point. -/
theorem idx4 (t : Fin grid0.N) : ((cfgM m (hO m)).win 4).index t = ![0, 0, (bOf t).val] := by
  show cc0_transform_4 (grid0.coords t) = _
  rw [coords_eq, tr4]
/-- The index map of window 5 at a block and a place. -/
theorem tr5 : ∀ (B : Fin 12) (s : Fin 16), cc0_transform_5 (Cert.Body.crd B s) = ![16 * B.val + s.val, 0, 0, 0] := by decide +kernel
/-- The block index of window 5 (the cached values) at a point. -/
theorem idx5 (t : Fin grid0.N) : ((cfgM m (hO m)).win 5).index t = ![16 * (bOf t).val + (sOf t).val, 0, 0, 0] := by
  show cc0_transform_5 (grid0.coords t) = _
  rw [coords_eq, tr5]
/-- The index map of window 6 at a block and a place. -/
theorem tr6 : ∀ (B : Fin 12) (s : Fin 16), cc0_transform_6 (Cert.Body.crd B s) = ![16 * B.val + s.val, 0, 0] := by decide +kernel
/-- The block index of window 6 (the cached values' scales) at a point. -/
theorem idx6 (t : Fin grid0.N) : ((cfgM m (hO m)).win 6).index t = ![16 * (bOf t).val + (sOf t).val, 0, 0] := by
  show cc0_transform_6 (grid0.coords t) = _
  rw [coords_eq, tr6]
/-- The index map of window 7 at a block and a place. -/
theorem tr7 : ∀ (B : Fin 12) (s : Fin 16), cc0_transform_7 (Cert.Body.crd B s) = ![0, 0, 0, B.val] := by decide +kernel
/-- The block index of window 7 (the attention result) at a point. -/
theorem idx7 (t : Fin grid0.N) : ((cfgM m (hO m)).win 7).index t = ![0, 0, 0, (bOf t).val] := by
  show cc0_transform_7 (grid0.coords t) = _
  rw [coords_eq, tr7]
/-- The index map of window 8 at a block and a place. -/
theorem tr8 : ∀ (B : Fin 12) (s : Fin 16), cc0_transform_8 (Cert.Body.crd B s) = ![0, 0, 0, B.val] := by decide +kernel
/-- The block index of window 8 (the new keys' codes) at a point. -/
theorem idx8 (t : Fin grid0.N) : ((cfgM m (hO m)).win 8).index t = ![0, 0, 0, (bOf t).val] := by
  show cc0_transform_8 (grid0.coords t) = _
  rw [coords_eq, tr8]
/-- The index map of window 9 at a block and a place. -/
theorem tr9 : ∀ (B : Fin 12) (s : Fin 16), cc0_transform_9 (Cert.Body.crd B s) = ![0, 0, 0, B.val] := by decide +kernel
/-- The block index of window 9 (the new values' codes) at a point. -/
theorem idx9 (t : Fin grid0.N) : ((cfgM m (hO m)).win 9).index t = ![0, 0, 0, (bOf t).val] := by
  show cc0_transform_9 (grid0.coords t) = _
  rw [coords_eq, tr9]
/-- The index map of window 10 at a block and a place. -/
theorem tr10 : ∀ (B : Fin 12) (s : Fin 16), cc0_transform_10 (Cert.Body.crd B s) = ![0, 0, B.val] := by decide +kernel
/-- The block index of window 10 (the new values' scales) at a point. -/
theorem idx10 (t : Fin grid0.N) : ((cfgM m (hO m)).win 10).index t = ![0, 0, (bOf t).val] := by
  show cc0_transform_10 (grid0.coords t) = _
  rw [coords_eq, tr10]

/-! The staged blocks, and where their elements lie in the arrays. -/

/-- What window 0 (the queries) stages at a point. -/
def blk0 (c : Dev nD) (t : Fin grid0.N) : S2x20x96x128.Idx → F .bf16 := iblk m (hO m) c 0 t
/-- An entry of what window 0 stages is the array's entry at the point's sequences. -/
theorem blk0_eq (c : Dev nD) (t : Fin grid0.N) (j : Fin 2) (h : Fin 20) (a : Fin 96) (b : Fin 128) :
    blk0 m c t (ix4 j h a b) = V m c main_v0 (ix4 j h a ⟨128 * (bOf t).val + b.val, by omega⟩) := by
  unfold blk0
  blk_ext [iblk, idx0 m t]
/-- Window 0 stages at every place of a block what it stages at the first. -/
theorem blk0_first (c : Dev nD) (t : Fin grid0.N) : blk0 m c t = blk0 m c (pt (bOf t) 0) := by
  funext y
  obtain ⟨j, h, a, b, rfl⟩ : ∃ (j : Fin 2) (h : Fin 20) (a : Fin 96) (b : Fin 128), y = ix4 j h a b := ⟨_, _, _, _, eq_ix4 y⟩
  rw [blk0_eq, blk0_eq]; simp only [bOf_pt]
/-- What window 1 (the new keys) stages at a point. -/
def blk1 (c : Dev nD) (t : Fin grid0.N) : S2x4x96x128.Idx → F .bf16 := iblk m (hO m) c 1 t
/-- An entry of what window 1 stages is the array's entry at the point's sequences. -/
theorem blk1_eq (c : Dev nD) (t : Fin grid0.N) (j : Fin 2) (h : Fin 4) (a : Fin 96) (b : Fin 128) :
    blk1 m c t (ix4 j h a b) = V m c main_v1 (ix4 j h a ⟨128 * (bOf t).val + b.val, by omega⟩) := by
  unfold blk1
  blk_ext [iblk, idx1 m t]
/-- Window 1 stages at every place of a block what it stages at the first. -/
theorem blk1_first (c : Dev nD) (t : Fin grid0.N) : blk1 m c t = blk1 m c (pt (bOf t) 0) := by
  funext y
  obtain ⟨j, h, a, b, rfl⟩ : ∃ (j : Fin 2) (h : Fin 4) (a : Fin 96) (b : Fin 128), y = ix4 j h a b := ⟨_, _, _, _, eq_ix4 y⟩
  rw [blk1_eq, blk1_eq]; simp only [bOf_pt]
/-- What window 2 (the new values) stages at a point. -/
def blk2 (c : Dev nD) (t : Fin grid0.N) : S2x4x96x128.Idx → F .bf16 := iblk m (hO m) c 2 t
/-- An entry of what window 2 stages is the array's entry at the point's sequences. -/
theorem blk2_eq (c : Dev nD) (t : Fin grid0.N) (j : Fin 2) (h : Fin 4) (a : Fin 96) (b : Fin 128) :
    blk2 m c t (ix4 j h a b) = V m c main_v2 (ix4 j h a ⟨128 * (bOf t).val + b.val, by omega⟩) := by
  unfold blk2
  blk_ext [iblk, idx2 m t]
/-- Window 2 stages at every place of a block what it stages at the first. -/
theorem blk2_first (c : Dev nD) (t : Fin grid0.N) : blk2 m c t = blk2 m c (pt (bOf t) 0) := by
  funext y
  obtain ⟨j, h, a, b, rfl⟩ : ∃ (j : Fin 2) (h : Fin 4) (a : Fin 96) (b : Fin 128), y = ix4 j h a b := ⟨_, _, _, _, eq_ix4 y⟩
  rw [blk2_eq, blk2_eq]; simp only [bOf_pt]
/-- What window 3 (the cached keys) stages at a point. -/
def blk3 (c : Dev nD) (t : Fin grid0.N) : S8x4x96x512.Idx → BitVec 8 := iblk m (hO m) c 3 t
/-- An entry of what window 3 stages is the array's entry at the point's sequences. -/
theorem blk3_eq (c : Dev nD) (t : Fin grid0.N) (r : Fin 8) (h : Fin 4) (a : Fin 96) (p : Fin 512) :
    blk3 m c t (ix4 r h a p) = V m c main_v3 (ix4 ⟨8 * (16 * (bOf t).val + (sOf t).val) + r.val, by omega⟩ h a p) := by
  unfold blk3
  blk_ext [iblk, idx3 m t]
/-- What window 4 (the key scales) stages at a point. -/
def blk4 (c : Dev nD) (t : Fin grid0.N) : S4x96x128.Idx → F .f32 := iblk m (hO m) c 4 t
/-- An entry of what window 4 stages is the array's entry at the point's sequences. -/
theorem blk4_eq (c : Dev nD) (t : Fin grid0.N) (h : Fin 4) (a : Fin 96) (b : Fin 128) :
    blk4 m c t (ix3 h a b) = V m c main_v5 (ix3 h a ⟨128 * (bOf t).val + b.val, by omega⟩) := by
  unfold blk4
  blk_ext [iblk, idx4 m t]
/-- Window 4 stages at every place of a block what it stages at the first. -/
theorem blk4_first (c : Dev nD) (t : Fin grid0.N) : blk4 m c t = blk4 m c (pt (bOf t) 0) := by
  funext y
  obtain ⟨h, a, b, rfl⟩ : ∃ (h : Fin 4) (a : Fin 96) (b : Fin 128), y = ix3 h a b := ⟨_, _, _, eq_ix3 y⟩
  rw [blk4_eq, blk4_eq]; simp only [bOf_pt]
/-- What window 5 (the cached values) stages at a point. -/
def blk5 (c : Dev nD) (t : Fin grid0.N) : S8x4x96x512.Idx → BitVec 8 := iblk m (hO m) c 5 t
/-- An entry of what window 5 stages is the array's entry at the point's sequences. -/
theorem blk5_eq (c : Dev nD) (t : Fin grid0.N) (r : Fin 8) (h : Fin 4) (a : Fin 96) (p : Fin 512) :
    blk5 m c t (ix4 r h a p) = V m c main_v4 (ix4 ⟨8 * (16 * (bOf t).val + (sOf t).val) + r.val, by omega⟩ h a p) := by
  unfold blk5
  blk_ext [iblk, idx5 m t]
/-- What window 6 (the cached values' scales) stages at a point. -/
def blk6 (c : Dev nD) (t : Fin grid0.N) : S8x4x512.Idx → F .f32 := iblk m (hO m) c 6 t
/-- An entry of what window 6 stages is the array's entry at the point's sequences. -/
theorem blk6_eq (c : Dev nD) (t : Fin grid0.N) (r : Fin 8) (h : Fin 4) (p : Fin 512) :
    blk6 m c t (ix3 r h p) = V m c main_v6 (ix3 ⟨8 * (16 * (bOf t).val + (sOf t).val) + r.val, by omega⟩ h p) := by
  unfold blk6
  blk_ext [iblk, idx6 m t]

/-- What block `B` of sequences stages. -/
def inp (c : Dev nD) (B : Fin 12) : Inp F where
  x := blk0 m c (pt B 0)
  kn := blk1 m c (pt B 0)
  vn := blk2 m c (pt B 0)
  ks := blk4 m c (pt B 0)
  k s := blk3 m c (pt B s)
  v s := blk5 m c (pt B s)
  vs s := blk6 m c (pt B s)
  T := tbl m 0
  B := B

end Cert.Kernel.Gen

end
-- ==== Proof.KDat.lean ====
/- The kernel between its points: what each buffer holds, the body at a point, and the run of @main. -/
module

public import proofs.«01_k».proof.Proof.KBlk

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Body (bsh bel VV Inp V7 V8 V9 V10)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between points -/

/-- What the scratch buffers hold as place `s` of a block is entered: past the first place, all that the first place wrote; the
    lanes and rows of the sequences already done. -/
structure Scr (I : Inp F) (s : ℕ) (X : (j : Fin 19) → (bsh j).Idx → Elt F (bel j)) : Prop where
  pro : 0 < s → ∀ j : Fin 19, 11 ≤ j.val → j.val < 16 → X j = VV kc I 0 j
  h16 : ∀ y, (y 1).val < 8 * s → X 16 y = Cert.Body.V16 kc I y
  h17 : ∀ y, (y 1).val < 8 * s → X 17 y = Cert.Body.V17 kc I y
  h18 : ∀ y, (y 0).val < 512 * s → X 18 y = Cert.Body.V18 kc I y

/-- The block of the point numbered `n` (the last number of all is of no block). -/
def bN (n : ℕ) : Fin 12 := ⟨n / 16 % 12, by omega⟩
/-- The block of a point, by its number. -/
theorem bN_of (t : Fin grid0.N) : bN t.val = bOf t := Fin.ext (by
  have : t.val < 192 := t.isLt
  show t.val / 16 % 12 = t.val / 16; omega)

/-- The scratch buffers held at `X`. -/
def scrOwn (c : Dev nD) (X : (j : Fin 19) → (bsh j).Idx → Elt F (bel j)) : sProp 𝕄 :=
  iprop(owns (c : Thread nD τ) (Memref.whole cc0_scratch0) fullShare (X 11 : (bsh 11).Idx → Elt F (bel 11)) ∗ owns (c : Thread nD τ) (Memref.whole cc0_scratch1) fullShare (X 12 : (bsh 12).Idx → Elt F (bel 12)) ∗ owns (c : Thread nD τ) (Memref.whole cc0_scratch2) fullShare (X 13 : (bsh 13).Idx → Elt F (bel 13)) ∗ owns (c : Thread nD τ) (Memref.whole cc0_scratch3) fullShare (X 14 : (bsh 14).Idx → Elt F (bel 14)) ∗ owns (c : Thread nD τ) (Memref.whole cc0_scratch4) fullShare (X 15 : (bsh 15).Idx → Elt F (bel 15)) ∗ owns (c : Thread nD τ) (Memref.whole cc0_scratch5) fullShare (X 16 : (bsh 16).Idx → Elt F (bel 16)) ∗ owns (c : Thread nD τ) (Memref.whole cc0_scratch6) fullShare (X 17 : (bsh 17).Idx → Elt F (bel 17)) ∗ owns (c : Thread nD τ) (Memref.whole cc0_scratch7) fullShare (X 18 : (bsh 18).Idx → Elt F (bel 18)))

/-- The table held, as the body may read it. -/
def tblOwn (c : Dev nD) : sProp 𝕄 := owns (c : Thread nD τ) (Memref.whole main_arg7) fullShare.right (tbl m 0)

/-- The invariant between points. -/
def PhiK (c : Dev nD) (n : ℕ) : sProp 𝕄 :=
  iprop(∃ X, ⌜Scr (inp m c (bN n)) (n % 16) X⌝ ∗ scrOwn c X ∗ tblOwn m c ∗ ∃ r, prngReg c r)

/-- The proof data. -/
def datK (c : Dev nD) : Dat τ (Elt F) Unit ℕ (UR sig nD τ) ℕ (cfgM m (hO m)) c where
  A w := V m c (Pipeline.arrRef spec0 w)
  after := fun
    | 0 => fun t => blk0 m c t
    | 1 => fun t => blk1 m c t
    | 2 => fun t => blk2 m c t
    | 3 => fun t => blk3 m c t
    | 4 => fun t => blk4 m c t
    | 5 => fun t => blk5 m c t
    | 6 => fun t => blk6 m c t
    | 7 => fun t => V7 kc (inp m c (bOf t))
    | 8 => fun t => V8 (inp m c (bOf t))
    | 9 => fun t => V9 (inp m c (bOf t))
    | 10 => fun t => V10 (inp m c (bOf t))
    | ⟨_ + 11, h⟩ => absurd h (Nat.not_lt.2 (Nat.le_add_left _ _))
  Φ t := PhiK m c t.val
  q _ := fullShare
  owed _ := 0

/-! ## What the body finds -/

section Before
variable {c : Dev nD}

/-- The result window is not written at a point unless it is the last place of its block. -/
theorem idle7 (t : Fin grid0.N) : idle0 7 (grid0.coords t) = true ↔ t.val % 16 ≠ 15 := by
  rw [coords_eq]
  exact ((by decide +kernel : ∀ (B : Fin 12) (s : Fin 16), idle0 7 (Cert.Body.crd B s) = true ↔ s.val ≠ 15) _ _)
/-- Window 8 (the new keys' codes) is not written at a point unless it is the first place of its block. -/
theorem idle8 (t : Fin grid0.N) : idle0 8 (grid0.coords t) = true ↔ t.val % 16 ≠ 0 := by
  rw [coords_eq]
  exact ((by decide +kernel : ∀ (B : Fin 12) (s : Fin 16), idle0 8 (Cert.Body.crd B s) = true ↔ s.val ≠ 0) _ _)
/-- Window 9 (the new values' codes) is not written at a point unless it is the first place of its block. -/
theorem idle9 (t : Fin grid0.N) : idle0 9 (grid0.coords t) = true ↔ t.val % 16 ≠ 0 := by
  rw [coords_eq]
  exact ((by decide +kernel : ∀ (B : Fin 12) (s : Fin 16), idle0 9 (Cert.Body.crd B s) = true ↔ s.val ≠ 0) _ _)
/-- Window 10 (the new values' scales) is not written at a point unless it is the first place of its block. -/
theorem idle10 (t : Fin grid0.N) : idle0 10 (grid0.coords t) = true ↔ t.val % 16 ≠ 0 := by
  rw [coords_eq]
  exact ((by decide +kernel : ∀ (B : Fin 12) (s : Fin 16), idle0 10 (Cert.Body.crd B s) = true ↔ s.val ≠ 0) _ _)
/-- Before the body, window 0's buffer holds the queries of the point. -/
theorem bef0 (t : Fin (cfgM m (hO m)).N) (d) : (datK m c).before 0 t d = blk0 m c t :=
  before0_0_of m (hO m) (datK m c) rfl (fun _ => rfl) t d
/-- Before the body, window 1's buffer holds the new keys of the point. -/
theorem bef1 (t : Fin (cfgM m (hO m)).N) (d) : (datK m c).before 1 t d = blk1 m c t :=
  before0_1_of m (hO m) (datK m c) rfl (fun _ => rfl) t d
/-- Before the body, window 2's buffer holds the new values of the point. -/
theorem bef2 (t : Fin (cfgM m (hO m)).N) (d) : (datK m c).before 2 t d = blk2 m c t :=
  before0_2_of m (hO m) (datK m c) rfl (fun _ => rfl) t d
/-- Before the body, window 3's buffer holds the cached keys of the point. -/
theorem bef3 (t : Fin (cfgM m (hO m)).N) (d) : (datK m c).before 3 t d = blk3 m c t :=
  before0_3_of m (hO m) (datK m c) rfl (fun _ => rfl) t d
/-- Before the body, window 4's buffer holds the key scales of the point. -/
theorem bef4 (t : Fin (cfgM m (hO m)).N) (d) : (datK m c).before 4 t d = blk4 m c t :=
  before0_4_of m (hO m) (datK m c) rfl (fun _ => rfl) t d
/-- Before the body, window 5's buffer holds the cached values of the point. -/
theorem bef5 (t : Fin (cfgM m (hO m)).N) (d) : (datK m c).before 5 t d = blk5 m c t :=
  before0_5_of m (hO m) (datK m c) rfl (fun _ => rfl) t d
/-- Before the body, window 6's buffer holds the cached values' scales of the point. -/
theorem bef6 (t : Fin (cfgM m (hO m)).N) (d) : (datK m c).before 6 t d = blk6 m c t :=
  before0_6_of m (hO m) (datK m c) rfl (fun _ => rfl) t d

/-- The output's buffer holds anything until the last place. -/
theorem bef7 (d) : ∀ (n : ℕ) (h : n < (cfgM m (hO m)).N), (datK m c).before 7 ⟨n, h⟩ d = d
  | 0, h => by
    unfold Dat.before
    rw [if_neg (by rw [show ((cfgM m (hO m)).win 7).fetch _ = false from rfl]; exact Bool.false_ne_true), if_pos rfl]
  | n + 1, h => by
    have hn : n < (cfgM m (hO m)).N := Nat.lt_of_succ_lt h
    rw [Dat.before_of_pos _ _ _ (Nat.succ_ne_zero n) rfl]
    by_cases hf : n % 16 = 15
    · exact if_pos ((flush0_7 (adm m (hO m)) ⟨n, hn⟩).mpr hf)
    · refine (if_neg (fun e => hf ((flush0_7 (adm m (hO m)) ⟨n, hn⟩).mp e))).trans ?_
      have hi : (cfgM m (hO m)).idle 7 ((cfgM m (hO m)).grid.coords ⟨n, hn⟩) = true := (idle7 ⟨n, hn⟩).mpr hf
      unfold Dat.left
      show (match (cfgM m (hO m)).idle 7 ((cfgM m (hO m)).grid.coords ⟨n, hn⟩) with | true => _ | false => _) = _
      rw [hi]
      exact bef7 d n hn

/-- Past the first place, the buffer holds what the first place left. -/
theorem bef8 (d) : ∀ (n : ℕ) (h : n < (cfgM m (hO m)).N) (hn : n % 16 ≠ 0), (datK m c).before 8 ⟨n, h⟩ d = V8 (inp m c (bOf ⟨n, h⟩))
  | 0, h, hn => absurd rfl hn
  | n + 1, h, hn => by
    have hn' : n < (cfgM m (hO m)).N := Nat.lt_of_succ_lt h
    have hb : bOf ⟨n + 1, h⟩ = bOf ⟨n, hn'⟩ := Fin.ext (by show (n + 1) / 16 = n / 16; omega)
    rw [Dat.before_of_pos _ _ _ (Nat.succ_ne_zero n) rfl, hb]
    rw [if_neg (fun e => by have := (flush0_8 (adm m (hO m)) ⟨n, hn'⟩).mp e; simp only at this; omega)]
    unfold Dat.left
    show (match (cfgM m (hO m)).idle 8 ((cfgM m (hO m)).grid.coords ⟨n, hn'⟩) with | true => _ | false => _) = _
    by_cases h0 : n % 16 = 0
    · have hi : (cfgM m (hO m)).idle 8 ((cfgM m (hO m)).grid.coords ⟨n, hn'⟩) = false := by
        rw [Bool.eq_false_iff]; exact fun e => (idle8 ⟨n, hn'⟩).mp e h0
      rw [hi]; rfl
    · have hi : (cfgM m (hO m)).idle 8 ((cfgM m (hO m)).grid.coords ⟨n, hn'⟩) = true := (idle8 ⟨n, hn'⟩).mpr h0
      rw [hi]
      exact bef8 d n hn' h0

/-- Past the first place, the buffer holds what the first place left. -/
theorem bef9 (d) : ∀ (n : ℕ) (h : n < (cfgM m (hO m)).N) (hn : n % 16 ≠ 0), (datK m c).before 9 ⟨n, h⟩ d = V9 (inp m c (bOf ⟨n, h⟩))
  | 0, h, hn => absurd rfl hn
  | n + 1, h, hn => by
    have hn' : n < (cfgM m (hO m)).N := Nat.lt_of_succ_lt h
    have hb : bOf ⟨n + 1, h⟩ = bOf ⟨n, hn'⟩ := Fin.ext (by show (n + 1) / 16 = n / 16; omega)
    rw [Dat.before_of_pos _ _ _ (Nat.succ_ne_zero n) rfl, hb]
    rw [if_neg (fun e => by have := (flush0_9 (adm m (hO m)) ⟨n, hn'⟩).mp e; simp only at this; omega)]
    unfold Dat.left
    show (match (cfgM m (hO m)).idle 9 ((cfgM m (hO m)).grid.coords ⟨n, hn'⟩) with | true => _ | false => _) = _
    by_cases h0 : n % 16 = 0
    · have hi : (cfgM m (hO m)).idle 9 ((cfgM m (hO m)).grid.coords ⟨n, hn'⟩) = false := by
        rw [Bool.eq_false_iff]; exact fun e => (idle9 ⟨n, hn'⟩).mp e h0
      rw [hi]; rfl
    · have hi : (cfgM m (hO m)).idle 9 ((cfgM m (hO m)).grid.coords ⟨n, hn'⟩) = true := (idle9 ⟨n, hn'⟩).mpr h0
      rw [hi]
      exact bef9 d n hn' h0

/-- Past the first place, the buffer holds what the first place left. -/
theorem bef10 (d) : ∀ (n : ℕ) (h : n < (cfgM m (hO m)).N) (hn : n % 16 ≠ 0), (datK m c).before 10 ⟨n, h⟩ d = V10 (inp m c (bOf ⟨n, h⟩))
  | 0, h, hn => absurd rfl hn
  | n + 1, h, hn => by
    have hn' : n < (cfgM m (hO m)).N := Nat.lt_of_succ_lt h
    have hb : bOf ⟨n + 1, h⟩ = bOf ⟨n, hn'⟩ := Fin.ext (by show (n + 1) / 16 = n / 16; omega)
    rw [Dat.before_of_pos _ _ _ (Nat.succ_ne_zero n) rfl, hb]
    rw [if_neg (fun e => by have := (flush0_10 (adm m (hO m)) ⟨n, hn'⟩).mp e; simp only at this; omega)]
    unfold Dat.left
    show (match (cfgM m (hO m)).idle 10 ((cfgM m (hO m)).grid.coords ⟨n, hn'⟩) with | true => _ | false => _) = _
    by_cases h0 : n % 16 = 0
    · have hi : (cfgM m (hO m)).idle 10 ((cfgM m (hO m)).grid.coords ⟨n, hn'⟩) = false := by
        rw [Bool.eq_false_iff]; exact fun e => (idle10 ⟨n, hn'⟩).mp e h0
      rw [hi]; rfl
    · have hi : (cfgM m (hO m)).idle 10 ((cfgM m (hO m)).grid.coords ⟨n, hn'⟩) = true := (idle10 ⟨n, hn'⟩).mpr h0
      rw [hi]
      exact bef10 d n hn' h0

end Before

/-! ## The body at a point -/

/-- The eleven staged buffers' contents and the scratch buffers', as one. -/
def mix (a0 : (bsh 0).Idx → Elt F (bel 0)) (a1 : (bsh 1).Idx → Elt F (bel 1)) (a2 : (bsh 2).Idx → Elt F (bel 2)) (a3 : (bsh 3).Idx → Elt F (bel 3)) (a4 : (bsh 4).Idx → Elt F (bel 4)) (a5 : (bsh 5).Idx → Elt F (bel 5)) (a6 : (bsh 6).Idx → Elt F (bel 6)) (a7 : (bsh 7).Idx → Elt F (bel 7)) (a8 : (bsh 8).Idx → Elt F (bel 8)) (a9 : (bsh 9).Idx → Elt F (bel 9)) (a10 : (bsh 10).Idx → Elt F (bel 10)) (X : (j : Fin 19) → (bsh j).Idx → Elt F (bel j)) : (j : Fin 19) → (bsh j).Idx → Elt F (bel j)
  | ⟨0, _⟩ => a0
  | ⟨1, _⟩ => a1
  | ⟨2, _⟩ => a2
  | ⟨3, _⟩ => a3
  | ⟨4, _⟩ => a4
  | ⟨5, _⟩ => a5
  | ⟨6, _⟩ => a6
  | ⟨7, _⟩ => a7
  | ⟨8, _⟩ => a8
  | ⟨9, _⟩ => a9
  | ⟨10, _⟩ => a10
  | ⟨11, _⟩ => X 11
  | ⟨12, _⟩ => X 12
  | ⟨13, _⟩ => X 13
  | ⟨14, _⟩ => X 14
  | ⟨15, _⟩ => X 15
  | ⟨16, _⟩ => X 16
  | ⟨17, _⟩ => X 17
  | ⟨18, _⟩ => X 18
  | ⟨n + 19, h⟩ => absurd h (by omega)

/-- The buffers at point `t`. -/
abbrev fm (t : Fin (cfgM m (hO m)).N) : (j : Fin 19) → Memref sig .tc .vmem (bsh j) (bel j) :=
  Cert.Body.fam (spec0_0.stage ((cfgM m (hO m)).slots t 0)) (spec0_1.stage ((cfgM m (hO m)).slots t 1)) (spec0_2.stage ((cfgM m (hO m)).slots t 2)) (spec0_3.stage ((cfgM m (hO m)).slots t 3)) (spec0_4.stage ((cfgM m (hO m)).slots t 4)) (spec0_5.stage ((cfgM m (hO m)).slots t 5)) (spec0_6.stage ((cfgM m (hO m)).slots t 6)) (spec0_7.stage ((cfgM m (hO m)).slots t 7)) (spec0_8.stage ((cfgM m (hO m)).slots t 8)) (spec0_9.stage ((cfgM m (hO m)).slots t 9)) (spec0_10.stage ((cfgM m (hO m)).slots t 10)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)
/-- Every buffer of a point is a whole memref. -/
theorem fm_whole (t : Fin (cfgM m (hO m)).N) : ∀ j, (fm m t j).IsWhole :=
  Cert.Body.fam_whole (hstage0_0 (((cfgM m (hO m)).slots t 0).cast nbuf0_0)) (hstage0_1 (((cfgM m (hO m)).slots t 1).cast nbuf0_1)) (hstage0_2 (((cfgM m (hO m)).slots t 2).cast nbuf0_2)) (hstage0_3 (((cfgM m (hO m)).slots t 3).cast nbuf0_3)) (hstage0_4 (((cfgM m (hO m)).slots t 4).cast nbuf0_4)) (hstage0_5 (((cfgM m (hO m)).slots t 5).cast nbuf0_5)) (hstage0_6 (((cfgM m (hO m)).slots t 6).cast nbuf0_6)) (hstage0_7 (((cfgM m (hO m)).slots t 7).cast nbuf0_7)) (hstage0_8 (((cfgM m (hO m)).slots t 8).cast nbuf0_8)) (hstage0_9 (((cfgM m (hO m)).slots t 9).cast nbuf0_9)) (hstage0_10 (((cfgM m (hO m)).slots t 10).cast nbuf0_10)) (Memref.isWhole_whole _) (Memref.isWhole_whole _) (Memref.isWhole_whole _) (Memref.isWhole_whole _) (Memref.isWhole_whole _) (Memref.isWhole_whole _) (Memref.isWhole_whole _) (Memref.isWhole_whole _)

/-- The body's program at point `t`. -/
abbrev bodyT (t : Fin (cfgM m (hO m)).N) := Cert.Body.body (F := F) (fm m t) (fm_whole m t) kc (grid0.coords t)

/-- The generated body at a point is the program of the body, run by the machine. -/
theorem bodyAt_eq (t : Fin (cfgM m (hO m)).N) :
    bodyAt0 (adm m (hO m)) t = Cert.Dsl.interp (fm m t) (Memref.whole main_arg7) (bodyT m t) :=
  body_is (Memref.whole main_arg7) (Memref.isWhole_whole _) (spec0_0.stage ((cfgM m (hO m)).slots t 0)) (hstage0_0 (((cfgM m (hO m)).slots t 0).cast nbuf0_0)) (spec0_1.stage ((cfgM m (hO m)).slots t 1)) (hstage0_1 (((cfgM m (hO m)).slots t 1).cast nbuf0_1)) (spec0_2.stage ((cfgM m (hO m)).slots t 2)) (hstage0_2 (((cfgM m (hO m)).slots t 2).cast nbuf0_2)) (spec0_3.stage ((cfgM m (hO m)).slots t 3)) (hstage0_3 (((cfgM m (hO m)).slots t 3).cast nbuf0_3)) (spec0_4.stage ((cfgM m (hO m)).slots t 4)) (hstage0_4 (((cfgM m (hO m)).slots t 4).cast nbuf0_4)) (spec0_5.stage ((cfgM m (hO m)).slots t 5)) (hstage0_5 (((cfgM m (hO m)).slots t 5).cast nbuf0_5)) (spec0_6.stage ((cfgM m (hO m)).slots t 6)) (hstage0_6 (((cfgM m (hO m)).slots t 6).cast nbuf0_6)) (spec0_7.stage ((cfgM m (hO m)).slots t 7)) (hstage0_7 (((cfgM m (hO m)).slots t 7).cast nbuf0_7)) (spec0_8.stage ((cfgM m (hO m)).slots t 8)) (hstage0_8 (((cfgM m (hO m)).slots t 8).cast nbuf0_8)) (spec0_9.stage ((cfgM m (hO m)).slots t 9)) (hstage0_9 (((cfgM m (hO m)).slots t 9).cast nbuf0_9)) (spec0_10.stage ((cfgM m (hO m)).slots t 10)) (hstage0_10 (((cfgM m (hO m)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (grid0.coords t)

/-- Holding the nineteen buffers, written out. -/
theorem own_eq (c : Dev nD) (M : (j : Fin 19) → Memref sig .tc .vmem (bsh j) (bel j)) (σ : (j : Fin 19) → (bsh j).Idx → Elt F (bel j)) :
    (Cert.Dsl.own M c σ : sProp 𝕄) = iprop(owns (c : Thread nD τ) (M 0) fullShare (σ 0) ∗ owns (c : Thread nD τ) (M 1) fullShare (σ 1) ∗ owns (c : Thread nD τ) (M 2) fullShare (σ 2) ∗ owns (c : Thread nD τ) (M 3) fullShare (σ 3) ∗ owns (c : Thread nD τ) (M 4) fullShare (σ 4) ∗ owns (c : Thread nD τ) (M 5) fullShare (σ 5) ∗ owns (c : Thread nD τ) (M 6) fullShare (σ 6) ∗ owns (c : Thread nD τ) (M 7) fullShare (σ 7) ∗ owns (c : Thread nD τ) (M 8) fullShare (σ 8) ∗ owns (c : Thread nD τ) (M 9) fullShare (σ 9) ∗ owns (c : Thread nD τ) (M 10) fullShare (σ 10) ∗ owns (c : Thread nD τ) (M 11) fullShare (σ 11) ∗ owns (c : Thread nD τ) (M 12) fullShare (σ 12) ∗ owns (c : Thread nD τ) (M 13) fullShare (σ 13) ∗ owns (c : Thread nD τ) (M 14) fullShare (σ 14) ∗ owns (c : Thread nD τ) (M 15) fullShare (σ 15) ∗ owns (c : Thread nD τ) (M 16) fullShare (σ 16) ∗ owns (c : Thread nD τ) (M 17) fullShare (σ 17) ∗ owns (c : Thread nD τ) (M 18) fullShare (σ 18)) :=
  Idealize.SL.BI.bigSep_univ_eq_bigSepL [(0 : Fin 19), (1 : Fin 19), (2 : Fin 19), (3 : Fin 19), (4 : Fin 19), (5 : Fin 19), (6 : Fin 19), (7 : Fin 19), (8 : Fin 19), (9 : Fin 19), (10 : Fin 19), (11 : Fin 19), (12 : Fin 19), (13 : Fin 19), (14 : Fin 19), (15 : Fin 19), (16 : Fin 19), (17 : Fin 19), (18 : Fin 19)] (by decide) (by decide) _

/-- A point's inputs and what its buffers held before give what they hold after. -/
theorem step_at (c : Dev nD) (t : Fin grid0.N) (M : (j : Fin 19) → Memref sig .tc .vmem (bsh j) (bel j)) (hM : ∀ j, (M j).IsWhole)
    (a7 : (bsh 7).Idx → Elt F (bel 7)) (a8 : (bsh 8).Idx → Elt F (bel 8)) (a9 : (bsh 9).Idx → Elt F (bel 9)) (a10 : (bsh 10).Idx → Elt F (bel 10))
    (h8 : t.val % 16 ≠ 0 → a8 = V8 (inp m c (bOf t))) (h9 : t.val % 16 ≠ 0 → a9 = V9 (inp m c (bOf t))) (h10 : t.val % 16 ≠ 0 → a10 = V10 (inp m c (bOf t)))
    (X : (j : Fin 19) → (bsh j).Idx → Elt F (bel j)) (hX : Scr (inp m c (bN t.val)) (t.val % 16) X) :
    ∃ σ', Cert.Dsl.run (tbl m 0) (Cert.Body.body M hM kc (grid0.coords t)) (mix (blk0 m c t) (blk1 m c t) (blk2 m c t) (blk3 m c t) (blk4 m c t) (blk5 m c t) (blk6 m c t) a7 a8 a9 a10 X) = (⟨⟩, σ')
      ∧ (σ' 0 = blk0 m c t ∧ σ' 1 = blk1 m c t ∧ σ' 2 = blk2 m c t ∧ σ' 3 = blk3 m c t ∧ σ' 4 = blk4 m c t ∧ σ' 5 = blk5 m c t ∧ σ' 6 = blk6 m c t)
      ∧ (t.val % 16 = 15 → σ' 7 = V7 kc (inp m c (bOf t))) ∧ σ' 8 = V8 (inp m c (bOf t)) ∧ σ' 9 = V9 (inp m c (bOf t)) ∧ σ' 10 = V10 (inp m c (bOf t))
      ∧ Scr (inp m c (bN (t.val + 1))) ((t.val + 1) % 16) σ' := by
  have e0 : blk0 m c t = (inp m c (bOf t)).x := blk0_first m c t
  have e1 : blk1 m c t = (inp m c (bOf t)).kn := blk1_first m c t
  have e2 : blk2 m c t = (inp m c (bOf t)).vn := blk2_first m c t
  have e4 : blk4 m c t = (inp m c (bOf t)).ks := blk4_first m c t
  have e3 : blk3 m c t = (inp m c (bOf t)).k (sOf t) := congrArg (blk3 m c) (pt_of t).symm
  have e5 : blk5 m c t = (inp m c (bOf t)).v (sOf t) := congrArg (blk5 m c) (pt_of t).symm
  have e6 : blk6 m c t = (inp m c (bOf t)).vs (sOf t) := congrArg (blk6 m c) (pt_of t).symm
  rw [bN_of] at hX
  rw [coords_eq]
  obtain ⟨σ', e, hi, hI, ho⟩ := Cert.Body.step M hM kc (inp m c (bOf t)) (sOf t) (mix (blk0 m c t) (blk1 m c t) (blk2 m c t) (blk3 m c t) (blk4 m c t) (blk5 m c t) (blk6 m c t) a7 a8 a9 a10 X)
    (fun j hj => by
      match j, hj with
      | ⟨0, _⟩, _ => exact e0
      | ⟨1, _⟩, _ => exact e1
      | ⟨2, _⟩, _ => exact e2
      | ⟨3, _⟩, _ => exact e3
      | ⟨4, _⟩, _ => exact e4
      | ⟨5, _⟩, _ => exact e5
      | ⟨6, _⟩, _ => exact e6
      | ⟨n + 7, _⟩, h => exact absurd h (by show ¬ n + 7 < 7; omega))
    ⟨fun hs j h8' h16' => by
      have hs' : t.val % 16 ≠ 0 := Nat.pos_iff_ne_zero.mp hs
      match j, h8', h16' with
      | ⟨8, _⟩, _, _ => exact h8 hs'
      | ⟨9, _⟩, _, _ => exact h9 hs'
      | ⟨10, _⟩, _, _ => exact h10 hs'
      | ⟨11, _⟩, _, _ => exact hX.pro hs 11 (by decide) (by decide)
      | ⟨12, _⟩, _, _ => exact hX.pro hs 12 (by decide) (by decide)
      | ⟨13, _⟩, _, _ => exact hX.pro hs 13 (by decide) (by decide)
      | ⟨14, _⟩, _, _ => exact hX.pro hs 14 (by decide) (by decide)
      | ⟨15, _⟩, _, _ => exact hX.pro hs 15 (by decide) (by decide)
      | ⟨n + 16, _⟩, _, h => exact absurd h (by show ¬ n + 16 < 16; omega),
      fun y hy => hX.h16 y hy, fun y hy => hX.h17 y hy, fun y hy => hX.h18 y hy⟩
  refine ⟨σ', e, ⟨(hi 0 (by decide)).trans e0.symm, (hi 1 (by decide)).trans e1.symm, (hi 2 (by decide)).trans e2.symm, (hi 3 (by decide)).trans e3.symm,
    (hi 4 (by decide)).trans e4.symm, (hi 5 (by decide)).trans e5.symm, (hi 6 (by decide)).trans e6.symm⟩, fun h => ho (Fin.ext h),
    hI.pro (Nat.succ_pos _) 8 (by decide) (by decide), hI.pro (Nat.succ_pos _) 9 (by decide) (by decide), hI.pro (Nat.succ_pos _) 10 (by decide) (by decide), ?_⟩
  have hsv : (sOf t).val = t.val % 16 := rfl
  have hN : t.val < 192 := t.isLt
  by_cases h15 : t.val % 16 = 15
  · have h0 : (t.val + 1) % 16 = 0 := by omega
    rw [h0]
    exact ⟨fun h => absurd h (Nat.lt_irrefl 0), fun y hy => absurd hy (by omega), fun y hy => absurd hy (by omega), fun y hy => absurd hy (by omega)⟩
  · have h1 : (t.val + 1) % 16 = (sOf t).val + 1 := by omega
    have hb : bN (t.val + 1) = bOf t := Fin.ext (by show (t.val + 1) / 16 % 12 = t.val / 16; omega)
    rw [h1, hb]
    exact ⟨fun _ j h h' => hI.pro (Nat.succ_pos _) j (by omega) h', hI.h16, hI.h17, hI.h18⟩

end Cert.Kernel.Gen

end
-- ==== Proof.KRun.lean ====
/- The body obligation and the run of @main. -/
module

public import proofs.«01_k».proof.Proof.KDat

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Body (bsh bel VV Inp V7 V8 V9 V10)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer left at contents that fit what the pipeline expects of it. -/
theorem leave {c : Dev nD} (dat : Dat τ (Elt F) Unit ℕ (UR sig nD τ) ℕ (cfgM m (hO m)) c) (w : Fin (cfgM m (hO m)).W) (t : Fin (cfgM m (hO m)).N)
    (X : ((cfgM m (hO m)).win w).block.Idx → Elt F ((cfgM m (hO m)).win w).elt)
    (h1 : (cfgM m (hO m)).idle w ((cfgM m (hO m)).grid.coords t) = false → X = dat.after w t)
    (h2 : (cfgM m (hO m)).idle w ((cfgM m (hO m)).grid.coords t) = true → ((cfgM m (hO m)).win w).flush t = true → X = dat.after w t)
    (h3 : (cfgM m (hO m)).idle w ((cfgM m (hO m)).grid.coords t) = true → ((cfgM m (hO m)).win w).flush t = false → ∃ d, dat.before w t d = X) :
    (owns (c : Thread nD τ) (((cfgM m (hO m)).win w).stage ((cfgM m (hO m)).slots t w)) fullShare X : sProp 𝕄) ⊢ dat.leavesExact w t := by
  unfold Dat.leavesExact
  cases hi : (cfgM m (hO m)).idle w ((cfgM m (hO m)).grid.coords t) with
  | false => rw [h1 hi]
  | true =>
    cases hf : ((cfgM m (hO m)).win w).flush t with
    | true => rw [h2 hi hf]
    | false =>
      obtain ⟨d, hd⟩ := h3 hi hf
      dsimp only
      iintro H
      iexists d
      rw [hd]
      iexact H

/-- Window 0's buffer at what was staged is what the pipeline expects to be left. -/
theorem leave0 (c : Dev nD) (t : Fin (cfgM m (hO m)).N) (X : (bsh 0).Idx → Elt F (bel 0)) (h : X = blk0 m c t) :
    (owns (c : Thread nD τ) (spec0_0.stage ((cfgM m (hO m)).slots t 0)) fullShare X : sProp 𝕄) ⊢ (datK m c).leavesExact 0 t :=
  leave m (datK m c) 0 t X (fun _ => h) (fun e => absurd e Bool.false_ne_true) (fun e => absurd e Bool.false_ne_true)
/-- Window 1's buffer at what was staged is what the pipeline expects to be left. -/
theorem leave1 (c : Dev nD) (t : Fin (cfgM m (hO m)).N) (X : (bsh 1).Idx → Elt F (bel 1)) (h : X = blk1 m c t) :
    (owns (c : Thread nD τ) (spec0_1.stage ((cfgM m (hO m)).slots t 1)) fullShare X : sProp 𝕄) ⊢ (datK m c).leavesExact 1 t :=
  leave m (datK m c) 1 t X (fun _ => h) (fun e => absurd e Bool.false_ne_true) (fun e => absurd e Bool.false_ne_true)
/-- Window 2's buffer at what was staged is what the pipeline expects to be left. -/
theorem leave2 (c : Dev nD) (t : Fin (cfgM m (hO m)).N) (X : (bsh 2).Idx → Elt F (bel 2)) (h : X = blk2 m c t) :
    (owns (c : Thread nD τ) (spec0_2.stage ((cfgM m (hO m)).slots t 2)) fullShare X : sProp 𝕄) ⊢ (datK m c).leavesExact 2 t :=
  leave m (datK m c) 2 t X (fun _ => h) (fun e => absurd e Bool.false_ne_true) (fun e => absurd e Bool.false_ne_true)
/-- Window 3's buffer at what was staged is what the pipeline expects to be left. -/
theorem leave3 (c : Dev nD) (t : Fin (cfgM m (hO m)).N) (X : (bsh 3).Idx → Elt F (bel 3)) (h : X = blk3 m c t) :
    (owns (c : Thread nD τ) (spec0_3.stage ((cfgM m (hO m)).slots t 3)) fullShare X : sProp 𝕄) ⊢ (datK m c).leavesExact 3 t :=
  leave m (datK m c) 3 t X (fun _ => h) (fun e => absurd e Bool.false_ne_true) (fun e => absurd e Bool.false_ne_true)
/-- Window 4's buffer at what was staged is what the pipeline expects to be left. -/
theorem leave4 (c : Dev nD) (t : Fin (cfgM m (hO m)).N) (X : (bsh 4).Idx → Elt F (bel 4)) (h : X = blk4 m c t) :
    (owns (c : Thread nD τ) (spec0_4.stage ((cfgM m (hO m)).slots t 4)) fullShare X : sProp 𝕄) ⊢ (datK m c).leavesExact 4 t :=
  leave m (datK m c) 4 t X (fun _ => h) (fun e => absurd e Bool.false_ne_true) (fun e => absurd e Bool.false_ne_true)
/-- Window 5's buffer at what was staged is what the pipeline expects to be left. -/
theorem leave5 (c : Dev nD) (t : Fin (cfgM m (hO m)).N) (X : (bsh 5).Idx → Elt F (bel 5)) (h : X = blk5 m c t) :
    (owns (c : Thread nD τ) (spec0_5.stage ((cfgM m (hO m)).slots t 5)) fullShare X : sProp 𝕄) ⊢ (datK m c).leavesExact 5 t :=
  leave m (datK m c) 5 t X (fun _ => h) (fun e => absurd e Bool.false_ne_true) (fun e => absurd e Bool.false_ne_true)
/-- Window 6's buffer at what was staged is what the pipeline expects to be left. -/
theorem leave6 (c : Dev nD) (t : Fin (cfgM m (hO m)).N) (X : (bsh 6).Idx → Elt F (bel 6)) (h : X = blk6 m c t) :
    (owns (c : Thread nD τ) (spec0_6.stage ((cfgM m (hO m)).slots t 6)) fullShare X : sProp 𝕄) ⊢ (datK m c).leavesExact 6 t :=
  leave m (datK m c) 6 t X (fun _ => h) (fun e => absurd e Bool.false_ne_true) (fun e => absurd e Bool.false_ne_true)
/-- The result window's buffer is what the pipeline expects, where at the last place of a block it holds the result. -/
theorem leave7 (c : Dev nD) (t : Fin (cfgM m (hO m)).N) (X : (bsh 7).Idx → Elt F (bel 7)) (h : t.val % 16 = 15 → X = V7 kc (inp m c (bOf t))) :
    (owns (c : Thread nD τ) (spec0_7.stage ((cfgM m (hO m)).slots t 7)) fullShare X : sProp 𝕄) ⊢ (datK m c).leavesExact 7 t :=
  leave m (datK m c) 7 t X
    (fun e => h (by by_contra h15; exact Bool.false_ne_true (e.symm.trans ((idle7 t).mpr h15))))
    (fun e f => absurd ((flush0_7 (adm m (hO m)) t).mp f) ((idle7 t).mp e))
    (fun _ _ => ⟨X, bef7 m X t.val t.isLt⟩)
/-- Window 8's buffer at the new keys' codes of the block is what the pipeline expects to be left. -/
theorem leave8 (c : Dev nD) (t : Fin (cfgM m (hO m)).N) (X : (bsh 8).Idx → Elt F (bel 8)) (h : X = V8 (inp m c (bOf t))) :
    (owns (c : Thread nD τ) (spec0_8.stage ((cfgM m (hO m)).slots t 8)) fullShare X : sProp 𝕄) ⊢ (datK m c).leavesExact 8 t :=
  leave m (datK m c) 8 t X (fun _ => h) (fun _ _ => h)
    (fun e _ => ⟨X, (bef8 m X t.val t.isLt ((idle8 t).mp e)).trans h.symm⟩)
/-- Window 9's buffer at the new values' codes of the block is what the pipeline expects to be left. -/
theorem leave9 (c : Dev nD) (t : Fin (cfgM m (hO m)).N) (X : (bsh 9).Idx → Elt F (bel 9)) (h : X = V9 (inp m c (bOf t))) :
    (owns (c : Thread nD τ) (spec0_9.stage ((cfgM m (hO m)).slots t 9)) fullShare X : sProp 𝕄) ⊢ (datK m c).leavesExact 9 t :=
  leave m (datK m c) 9 t X (fun _ => h) (fun _ _ => h)
    (fun e _ => ⟨X, (bef9 m X t.val t.isLt ((idle9 t).mp e)).trans h.symm⟩)
/-- Window 10's buffer at the new values' scales of the block is what the pipeline expects to be left. -/
theorem leave10 (c : Dev nD) (t : Fin (cfgM m (hO m)).N) (X : (bsh 10).Idx → Elt F (bel 10)) (h : X = V10 (inp m c (bOf t))) :
    (owns (c : Thread nD τ) (spec0_10.stage ((cfgM m (hO m)).slots t 10)) fullShare X : sProp 𝕄) ⊢ (datK m c).leavesExact 10 t :=
  leave m (datK m c) 10 t X (fun _ => h) (fun _ _ => h)
    (fun e _ => ⟨X, (bef10 m X t.val t.isLt ((idle10 t).mp e)).trans h.symm⟩)

/-- A program run on the nineteen buffers. -/
theorem sound19 (c : Dev nD) (M : (j : Fin 19) → Memref sig .tc .vmem (bsh j) (bel j)) (tm : Memref sig .tc .smem S1536 .i32)
    (T : S1536.Idx → Elt F .i32) (p : Cert.Body.P (F := F) M PUnit) (σ σ' : (j : Fin 19) → (bsh j).Idx → Elt F (bel j))
    (e : Cert.Dsl.run T p σ = (⟨⟩, σ')) (Q : sProp 𝕄) :
    iprop((owns (c : Thread nD τ) (M 0) fullShare (σ 0) ∗ owns (c : Thread nD τ) (M 1) fullShare (σ 1) ∗ owns (c : Thread nD τ) (M 2) fullShare (σ 2) ∗ owns (c : Thread nD τ) (M 3) fullShare (σ 3) ∗ owns (c : Thread nD τ) (M 4) fullShare (σ 4) ∗ owns (c : Thread nD τ) (M 5) fullShare (σ 5) ∗ owns (c : Thread nD τ) (M 6) fullShare (σ 6) ∗ owns (c : Thread nD τ) (M 7) fullShare (σ 7) ∗ owns (c : Thread nD τ) (M 8) fullShare (σ 8) ∗ owns (c : Thread nD τ) (M 9) fullShare (σ 9) ∗ owns (c : Thread nD τ) (M 10) fullShare (σ 10) ∗ owns (c : Thread nD τ) (M 11) fullShare (σ 11) ∗ owns (c : Thread nD τ) (M 12) fullShare (σ 12) ∗ owns (c : Thread nD τ) (M 13) fullShare (σ 13) ∗ owns (c : Thread nD τ) (M 14) fullShare (σ 14) ∗ owns (c : Thread nD τ) (M 15) fullShare (σ 15) ∗ owns (c : Thread nD τ) (M 16) fullShare (σ 16) ∗ owns (c : Thread nD τ) (M 17) fullShare (σ 17) ∗ owns (c : Thread nD τ) (M 18) fullShare (σ 18)) ∗ owns (c : Thread nD τ) tm fullShare.right T
        ∗ (iprop((owns (c : Thread nD τ) (M 0) fullShare (σ' 0) ∗ owns (c : Thread nD τ) (M 1) fullShare (σ' 1) ∗ owns (c : Thread nD τ) (M 2) fullShare (σ' 2) ∗ owns (c : Thread nD τ) (M 3) fullShare (σ' 3) ∗ owns (c : Thread nD τ) (M 4) fullShare (σ' 4) ∗ owns (c : Thread nD τ) (M 5) fullShare (σ' 5) ∗ owns (c : Thread nD τ) (M 6) fullShare (σ' 6) ∗ owns (c : Thread nD τ) (M 7) fullShare (σ' 7) ∗ owns (c : Thread nD τ) (M 8) fullShare (σ' 8) ∗ owns (c : Thread nD τ) (M 9) fullShare (σ' 9) ∗ owns (c : Thread nD τ) (M 10) fullShare (σ' 10) ∗ owns (c : Thread nD τ) (M 11) fullShare (σ' 11) ∗ owns (c : Thread nD τ) (M 12) fullShare (σ' 12) ∗ owns (c : Thread nD τ) (M 13) fullShare (σ' 13) ∗ owns (c : Thread nD τ) (M 14) fullShare (σ' 14) ∗ owns (c : Thread nD τ) (M 15) fullShare (σ' 15) ∗ owns (c : Thread nD τ) (M 16) fullShare (σ' 16) ∗ owns (c : Thread nD τ) (M 17) fullShare (σ' 17) ∗ owns (c : Thread nD τ) (M 18) fullShare (σ' 18)) ∗ owns (c : Thread nD τ) tm fullShare.right T) -∗ Q))
      ⊢ wp frame (wpE defs₀ Variants.none c none) Set.univ (Cert.Dsl.interp M tm p) (fun _ => Q) := by
  rw [← own_eq c M σ, ← own_eq c M σ']
  have h := Cert.Dsl.sound (defs := defs₀) M tm Variants.none c none Set.univ T fullShare.right (fun _ => Q) p σ
  rw [e] at h
  exact h

/-- The body at a point, on contents given. -/
theorem body_at (c : Dev nD) (t : Fin (cfgM m (hO m)).N)
    (a7 : (bsh 7).Idx → Elt F (bel 7)) (a8 : (bsh 8).Idx → Elt F (bel 8)) (a9 : (bsh 9).Idx → Elt F (bel 9)) (a10 : (bsh 10).Idx → Elt F (bel 10))
    (h8 : t.val % 16 ≠ 0 → a8 = V8 (inp m c (bOf t))) (h9 : t.val % 16 ≠ 0 → a9 = V9 (inp m c (bOf t))) (h10 : t.val % 16 ≠ 0 → a10 = V10 (inp m c (bOf t))) (Q : sProp 𝕄) :
    iprop(PhiK m c t.val ∗ (owns (c : Thread nD τ) (spec0_0.stage ((cfgM m (hO m)).slots t 0)) fullShare (blk0 m c t : (bsh 0).Idx → Elt F (bel 0)) ∗ owns (c : Thread nD τ) (spec0_1.stage ((cfgM m (hO m)).slots t 1)) fullShare (blk1 m c t : (bsh 1).Idx → Elt F (bel 1)) ∗ owns (c : Thread nD τ) (spec0_2.stage ((cfgM m (hO m)).slots t 2)) fullShare (blk2 m c t : (bsh 2).Idx → Elt F (bel 2)) ∗ owns (c : Thread nD τ) (spec0_3.stage ((cfgM m (hO m)).slots t 3)) fullShare (blk3 m c t : (bsh 3).Idx → Elt F (bel 3)) ∗ owns (c : Thread nD τ) (spec0_4.stage ((cfgM m (hO m)).slots t 4)) fullShare (blk4 m c t : (bsh 4).Idx → Elt F (bel 4)) ∗ owns (c : Thread nD τ) (spec0_5.stage ((cfgM m (hO m)).slots t 5)) fullShare (blk5 m c t : (bsh 5).Idx → Elt F (bel 5)) ∗ owns (c : Thread nD τ) (spec0_6.stage ((cfgM m (hO m)).slots t 6)) fullShare (blk6 m c t : (bsh 6).Idx → Elt F (bel 6)) ∗ owns (c : Thread nD τ) (spec0_7.stage ((cfgM m (hO m)).slots t 7)) fullShare (a7 : (bsh 7).Idx → Elt F (bel 7)) ∗ owns (c : Thread nD τ) (spec0_8.stage ((cfgM m (hO m)).slots t 8)) fullShare (a8 : (bsh 8).Idx → Elt F (bel 8)) ∗ owns (c : Thread nD τ) (spec0_9.stage ((cfgM m (hO m)).slots t 9)) fullShare (a9 : (bsh 9).Idx → Elt F (bel 9)) ∗ owns (c : Thread nD τ) (spec0_10.stage ((cfgM m (hO m)).slots t 10)) fullShare (a10 : (bsh 10).Idx → Elt F (bel 10))) ∗ (iprop(PhiK m c (t.val + 1) ∗ (datK m c).leavesExact 0 t ∗ (datK m c).leavesExact 1 t ∗ (datK m c).leavesExact 2 t ∗ (datK m c).leavesExact 3 t ∗ (datK m c).leavesExact 4 t ∗ (datK m c).leavesExact 5 t ∗ (datK m c).leavesExact 6 t ∗ (datK m c).leavesExact 7 t ∗ (datK m c).leavesExact 8 t ∗ (datK m c).leavesExact 9 t ∗ (datK m c).leavesExact 10 t) -∗ Q))
      ⊢ wp frame (wpE defs₀ Variants.none c none) Set.univ (bodyAt0 (adm m (hO m)) t) (fun _ => Q) := by
  unfold PhiK scrOwn
  iintro ⟨⟨%X, %hX, ⟨S0, S1, S2, S3, S4, S5, S6, S7⟩, HT, HR⟩, ⟨H0, H1, H2, H3, H4, H5, H6, H7, H8, H9, H10⟩, HK⟩
  obtain ⟨σ', e, ⟨i0, i1, i2, i3, i4, i5, i6⟩, o7, o8, o9, o10, hS⟩ := step_at m c t (fm m t) (fm_whole m t) a7 a8 a9 a10 h8 h9 h10 X hX
  rw [bodyAt_eq]
  iapply (sound19 c (fm m t) (Memref.whole main_arg7) (tbl m 0) (bodyT m t)
    (mix (blk0 m c t) (blk1 m c t) (blk2 m c t) (blk3 m c t) (blk4 m c t) (blk5 m c t) (blk6 m c t) a7 a8 a9 a10 X) σ' e Q)
  isplitl [H0 H1 H2 H3 H4 H5 H6 H7 H8 H9 H10 S0 S1 S2 S3 S4 S5 S6 S7]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    iexact S7
  isplitl [HT]
  · unfold tblOwn; iexact HT
  iintro ⟨⟨H0, H1, H2, H3, H4, H5, H6, H7, H8, H9, H10, S0, S1, S2, S3, S4, S5, S6, S7⟩, HT⟩
  iapply HK
  isplitl [S0 S1 S2 S3 S4 S5 S6 S7 HT HR]
  · iexists σ'
    isplitr
    · ipureintro; exact hS
    isplitl [S0 S1 S2 S3 S4 S5 S6 S7]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      iexact S7
    isplitl [HT]
    · unfold tblOwn; iexact HT
    iexact HR
  isplitl [H0]
  · iapply (leave0 m c t (σ' 0) i0); iexact H0
  isplitl [H1]
  · iapply (leave1 m c t (σ' 1) i1); iexact H1
  isplitl [H2]
  · iapply (leave2 m c t (σ' 2) i2); iexact H2
  isplitl [H3]
  · iapply (leave3 m c t (σ' 3) i3); iexact H3
  isplitl [H4]
  · iapply (leave4 m c t (σ' 4) i4); iexact H4
  isplitl [H5]
  · iapply (leave5 m c t (σ' 5) i5); iexact H5
  isplitl [H6]
  · iapply (leave6 m c t (σ' 6) i6); iexact H6
  isplitl [H7]
  · iapply (leave7 m c t (σ' 7) o7); iexact H7
  isplitl [H8]
  · iapply (leave8 m c t (σ' 8) o8); iexact H8
  isplitl [H9]
  · iapply (leave9 m c t (σ' 9) o9); iexact H9
  iapply (leave10 m c t (σ' 10) o10); iexact H10

/-- The proof data's invariant is the invariant between points. -/
theorem Phi_eq (c : Dev nD) (t : Fin ((cfgM m (hO m)).N + 1)) : (datK m c).Φ t = PhiK m c t.val := rfl
/-- The invariant before a point. -/
theorem Phi_cast (c : Dev nD) (t : Fin (cfgM m (hO m)).N) : (datK m c).Φ t.castSucc = PhiK m c t.val :=
  (Phi_eq m c t.castSucc).trans (congrArg (PhiK m c) (Fin.val_castSucc t))
/-- The invariant after a point. -/
theorem Phi_succ (c : Dev nD) (t : Fin (cfgM m (hO m)).N) : (datK m c).Φ t.succ = PhiK m c (t.val + 1) :=
  (Phi_eq m c t.succ).trans (congrArg (PhiK m c) (Fin.val_succ t))
/-- The body's half of the table, as the invariant holds it. -/
theorem tbl_in (c : Dev nD) : (tbPt0 c tbM0_0 (tbl m 0) : sProp 𝕄) ⊢ tblOwn m c := by
  unfold tblOwn
  exact Idealize.SL.BI.BIBase.Entails.of_eq (owns_whole (c : Thread nD τ) main_arg7 fullShare.right (tbl m 0)).symm

/-- The body obligation. -/
theorem hbodyK (c : Dev nD) : BodyObligation (datK m c) defs₀ Variants.none () Set.univ := by
  intro t
  rw [bigSep_W0, bigSep_W0]
  refine BIBase.Entails.trans ?_ (show _ ⊢ wp frame (wpE defs₀ Variants.none c none) Set.univ (bodyAt0 (adm m (hO m)) t) (fun _ =>
    iprop((datK m c).Φ t.succ ∗ (datK m c).owesAt () t.succ ∗ (datK m c).leavesExact 0 t ∗ (datK m c).leavesExact 1 t ∗ (datK m c).leavesExact 2 t ∗ (datK m c).leavesExact 3 t ∗ (datK m c).leavesExact 4 t ∗ (datK m c).leavesExact 5 t ∗ (datK m c).leavesExact 6 t ∗ (datK m c).leavesExact 7 t ∗ (datK m c).leavesExact 8 t ∗ (datK m c).leavesExact 9 t ∗ (datK m c).leavesExact 10 t)) from BIBase.Entails.rfl)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_at m c t ((datK m c).before 7 t d7) ((datK m c).before 8 t d8) ((datK m c).before 9 t d9) ((datK m c).before 10 t d10)
    (bef8 m d8 t.val t.isLt) (bef9 m d9 t.val t.isLt) (bef10 m d10 t.val t.isLt) _)
  isplitl [HΦ]
  · iapply (Idealize.SL.BI.BIBase.Entails.of_eq (Phi_cast m c t)); iexact HΦ
  isplitl [H0 H1 H2 H3 H4 H5 H6 H7 H8 H9 H10]
  · isplitl [H0]
    · rw [← bef0 m t d0]; iexact H0
    isplitl [H1]
    · rw [← bef1 m t d1]; iexact H1
    isplitl [H2]
    · rw [← bef2 m t d2]; iexact H2
    isplitl [H3]
    · rw [← bef3 m t d3]; iexact H3
    isplitl [H4]
    · rw [← bef4 m t d4]; iexact H4
    isplitl [H5]
    · rw [← bef5 m t d5]; iexact H5
    isplitl [H6]
    · rw [← bef6 m t d6]; iexact H6
    isplitl [H7]
    · iexact H7
    isplitl [H8]
    · iexact H8
    isplitl [H9]
    · iexact H9
    iexact H10
  iintro ⟨HΦ, HW⟩
  isplitl [HΦ]
  · iapply (Idealize.SL.BI.BIBase.Entails.of_eq (Phi_succ m c t).symm); iexact HΦ
  isplitl [Ho]
  · iexact Ho
  iexact HW

/-- The scratch buffers at given contents, as a family. -/
def famS (f0 : (bsh 11).Idx → Elt F (bel 11)) (f1 : (bsh 12).Idx → Elt F (bel 12)) (f2 : (bsh 13).Idx → Elt F (bel 13)) (f3 : (bsh 14).Idx → Elt F (bel 14)) (f4 : (bsh 15).Idx → Elt F (bel 15)) (f5 : (bsh 16).Idx → Elt F (bel 16)) (f6 : (bsh 17).Idx → Elt F (bel 17)) (f7 : (bsh 18).Idx → Elt F (bel 18)) (X : (j : Fin 19) → (bsh j).Idx → Elt F (bel j)) :
    (j : Fin 19) → (bsh j).Idx → Elt F (bel j)
  | ⟨0, _⟩ => X 0
  | ⟨1, _⟩ => X 1
  | ⟨2, _⟩ => X 2
  | ⟨3, _⟩ => X 3
  | ⟨4, _⟩ => X 4
  | ⟨5, _⟩ => X 5
  | ⟨6, _⟩ => X 6
  | ⟨7, _⟩ => X 7
  | ⟨8, _⟩ => X 8
  | ⟨9, _⟩ => X 9
  | ⟨10, _⟩ => X 10
  | ⟨11, _⟩ => f0
  | ⟨12, _⟩ => f1
  | ⟨13, _⟩ => f2
  | ⟨14, _⟩ => f3
  | ⟨15, _⟩ => f4
  | ⟨16, _⟩ => f5
  | ⟨17, _⟩ => f6
  | ⟨18, _⟩ => f7
  | ⟨n + 19, h⟩ => absurd h (by omega)

/-- The scratch buffers at any contents are the invariant's, at the start of a block. -/
theorem scr_in (c : Dev nD) : (Pipeline.scopedRest (Ix := Unit) (Name := ℕ) (U := UR sig nD τ) (Lvl := ℕ) (Val := Elt F) spec0 c : sProp 𝕄) ⊢ iprop(∃ X, scrOwn c X) := by
  rw [scopedRest0_eq]
  unfold scrOwn
  simp only [owns_whole]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists (famS f0 f1 f2 f3 f4 f5 f6 f7 fun _ _ => Classical.arbitrary _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

/-- The scratch buffers at any contents are handed back to the region. -/
theorem scr_out (c : Dev nD) (X) : (scrOwn c X : sProp 𝕄) ⊢ Pipeline.scopedRest (Ix := Unit) (Name := ℕ) (U := UR sig nD τ) (Lvl := ℕ) (Val := Elt F) spec0 c := by
  rw [scopedRest0_eq]
  unfold scrOwn
  simp only [owns_whole]
  iintro ⟨H0, H1, H2, H3, H4, H5, H6, H7⟩
  isplitl [H0]
  · iexists (X 11); iexact H0
  isplitl [H1]
  · iexists (X 12); iexact H1
  isplitl [H2]
  · iexists (X 13); iexact H2
  isplitl [H3]
  · iexists (X 14); iexact H3
  isplitl [H4]
  · iexists (X 15); iexact H4
  isplitl [H5]
  · iexists (X 16); iexact H5
  isplitl [H6]
  · iexists (X 17); iexact H6
  iexists (X 18); iexact H7

/-- What the region starts with gives the invariant before the first point. -/
theorem hinK (c : Dev nD) : iprop(Pipeline.ΦA spec0 c ∗ Pipeline.ΦT pre0 (tbl m) c) ⊢ PhiK m c 0 := by
  unfold Pipeline.ΦA PhiK
  rw [PhiT0_eq]
  iintro ⟨⟨HS, HR⟩, HT⟩
  ihave HS' := (scr_in c) $$ HS
  icases HS' with ⟨%X, HS⟩
  iexists X
  isplitr
  · ipureintro
    exact ⟨fun h => absurd h (Nat.lt_irrefl 0), fun y hy => absurd hy (by omega), fun y hy => absurd hy (by omega), fun y hy => absurd hy (by omega)⟩
  isplitl [HS]
  · iexact HS
  isplitl [HT]
  · iapply (tbl_in m c); iexact HT
  iexact HR

/-- The invariant gives back what the region started with. -/
theorem houtK (c : Dev nD) (n : ℕ) : PhiK m c n ⊢ Pipeline.ΦA spec0 c := by
  unfold Pipeline.ΦA PhiK
  iintro ⟨%X, -, HS, -, HR⟩
  isplitl [HS]
  · iapply (scr_out c X); iexact HS
  iexact HR

/-- The proof data of the one region. -/
def datsK (p : Fin 1) (c : Dev nD) : Dat τ (Elt F) Unit ℕ (UR sig nD τ) ℕ ((Pipeline.pin pcfgs fun _ => adm m (hO m)) p) c := datK m c

set_option backward.isDefEq.respectTransparency.types false in
/-- The run of @main: every array and every other buffer at known contents, all semaphores at zero. -/
theorem runK : θ_run defs (onTc (τ := τ) (main (F := F))) (s₀ m ρ)
    (fun r => Pipeline.FramePost (Pipeline.pin pcfgs fun _ => adm m (hO m)) (datsK m) 0
      (Pipeline.afterTail pcfgs (fun _ => adm m (hO m)) (datsK m) 0 (V0 m) [hostOps1]) r ∧ r.2.sem = fun _ => 0) :=
  Pipeline.θ_run_frameP_around_track pcfgs (fun _ => adm m (hO m)) (datsK m) (0 : Fin 1) launch0 defs₀ Variants.none m ρ main
    (fun c => (hbodyK m c).loose)
    (fun c w => by fin_cases w <;> rfl) (fun _ _ => rfl) (V0 m) [hostOps1] sfx_sub sfx_fresh sfx_keeps (hmain m Variants.none)
    (fun _ _ => rfl) (fun c k => V_pre m c k) (fun c => hinK m c) (fun c => houtK m c _) _ (fun _ h => h)

end Cert.Kernel.Gen

end
-- ==== Proof.IPoints.lean ====
/- The schedule of the kernel's windows on its grid: at which points each window is fetched and written back, and the body as the
   pipeline calls it at a point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the points ≡ 0 (mod 16), at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_reads cc0_transform_0 reads0_0 hreads0_0 0 (by decide) (by decide) (Pipeline.Window.sep_of_coord cc0_transform_0 0 3 (fun _ => rfl) (by decide)) (P := 16) (by decide) t : ∀ t : Fin grid0.N, Pipeline.Window.fetchOf grid0 false cc0_transform_0 t = true ↔ t.val % 16 = 0)
/-- Window 1 (operand 2 (%1)) is fetched at the points ≡ 0 (mod 16), at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_reads cc0_transform_1 reads0_1 hreads0_1 0 (by decide) (by decide) (Pipeline.Window.sep_of_coord cc0_transform_1 0 3 (fun _ => rfl) (by decide)) (P := 16) (by decide) t : ∀ t : Fin grid0.N, Pipeline.Window.fetchOf grid0 false cc0_transform_1 t = true ↔ t.val % 16 = 0)
/-- Window 2 (operand 3 (%2)) is fetched at the points ≡ 0 (mod 16), at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_reads cc0_transform_2 reads0_2 hreads0_2 0 (by decide) (by decide) (Pipeline.Window.sep_of_coord cc0_transform_2 0 3 (fun _ => rfl) (by decide)) (P := 16) (by decide) t : ∀ t : Fin grid0.N, Pipeline.Window.fetchOf grid0 false cc0_transform_2 t = true ↔ t.val % 16 = 0)
/-- Window 3 (operand 4 (%3)) is fetched at every point, at any contents of the tables (its index map reads none). -/
theorem fetch0_3 (a : (pcfg0 (F := F)).Adm) : ∀ t : Fin (cfg0 a).N, ((cfg0 a).win 3).fetch t = true :=
  (by decide +kernel : ∀ t : Fin grid0.N, Pipeline.Window.fetchOf grid0 false cc0_transform_3 t = true)
/-- Window 4 (operand 5 (%5)) is fetched at the points ≡ 0 (mod 16), at any contents of the tables (its index map reads none). -/
theorem fetch0_4 (a : (pcfg0 (F := F)).Adm) : ∀ t : Fin (cfg0 a).N, ((cfg0 a).win 4).fetch t = true ↔ t.val % 16 = 0 :=
  (fun t => Pipeline.Window.fetchOf_reads cc0_transform_4 reads0_4 hreads0_4 0 (by decide) (by decide) (Pipeline.Window.sep_of_coord cc0_transform_4 0 2 (fun _ => rfl) (by decide)) (P := 16) (by decide) t : ∀ t : Fin grid0.N, Pipeline.Window.fetchOf grid0 false cc0_transform_4 t = true ↔ t.val % 16 = 0)
/-- Window 5 (operand 6 (%4)) is fetched at every point, at any contents of the tables (its index map reads none). -/
theorem fetch0_5 (a : (pcfg0 (F := F)).Adm) : ∀ t : Fin (cfg0 a).N, ((cfg0 a).win 5).fetch t = true :=
  (by decide +kernel : ∀ t : Fin grid0.N, Pipeline.Window.fetchOf grid0 false cc0_transform_5 t = true)
/-- Window 6 (operand 7 (%6)) is fetched at every point, at any contents of the tables (its index map reads none). -/
theorem fetch0_6 (a : (pcfg0 (F := F)).Adm) : ∀ t : Fin (cfg0 a).N, ((cfg0 a).win 6).fetch t = true :=
  (by decide +kernel : ∀ t : Fin grid0.N, Pipeline.Window.fetchOf grid0 false cc0_transform_6 t = true)
/-- Window 7 (result 0 (%7#0)) is written back at the points ≡ 15 (mod 16), at any contents of the tables (its index map reads none). -/
theorem flush0_7 (a : (pcfg0 (F := F)).Adm) : ∀ t : Fin (cfg0 a).N, ((cfg0 a).win 7).flush t = true ↔ t.val % 16 = 15 :=
  (fun t => Pipeline.Window.flushOf_reads cc0_transform_7 reads0_7 hreads0_7 0 (by decide) (by decide) (Pipeline.Window.sep_of_coord cc0_transform_7 0 3 (fun _ => rfl) (by decide)) (P := 16) (m := 15) (by decide) rfl t : ∀ t : Fin grid0.N, Pipeline.Window.flushOf grid0 true cc0_transform_7 t = true ↔ t.val % 16 = 15)
/-- Window 8 (result 1 (%7#1)) is written back at the points ≡ 15 (mod 16), at any contents of the tables (its index map reads none). -/
theorem flush0_8 (a : (pcfg0 (F := F)).Adm) : ∀ t : Fin (cfg0 a).N, ((cfg0 a).win 8).flush t = true ↔ t.val % 16 = 15 :=
  (fun t => Pipeline.Window.flushOf_reads cc0_transform_8 reads0_8 hreads0_8 0 (by decide) (by decide) (Pipeline.Window.sep_of_coord cc0_transform_8 0 3 (fun _ => rfl) (by decide)) (P := 16) (m := 15) (by decide) rfl t : ∀ t : Fin grid0.N, Pipeline.Window.flushOf grid0 true cc0_transform_8 t = true ↔ t.val % 16 = 15)
/-- Window 9 (result 2 (%7#2)) is written back at the points ≡ 15 (mod 16), at any contents of the tables (its index map reads none). -/
theorem flush0_9 (a : (pcfg0 (F := F)).Adm) : ∀ t : Fin (cfg0 a).N, ((cfg0 a).win 9).flush t = true ↔ t.val % 16 = 15 :=
  (fun t => Pipeline.Window.flushOf_reads cc0_transform_9 reads0_9 hreads0_9 0 (by decide) (by decide) (Pipeline.Window.sep_of_coord cc0_transform_9 0 3 (fun _ => rfl) (by decide)) (P := 16) (m := 15) (by decide) rfl t : ∀ t : Fin grid0.N, Pipeline.Window.flushOf grid0 true cc0_transform_9 t = true ↔ t.val % 16 = 15)
/-- Window 10 (result 3 (%7#3)) is written back at the points ≡ 15 (mod 16), at any contents of the tables (its index map reads none). -/
theorem flush0_10 (a : (pcfg0 (F := F)).Adm) : ∀ t : Fin (cfg0 a).N, ((cfg0 a).win 10).flush t = true ↔ t.val % 16 = 15 :=
  (fun t => Pipeline.Window.flushOf_reads cc0_transform_10 reads0_10 hreads0_10 0 (by decide) (by decide) (Pipeline.Window.sep_of_coord cc0_transform_10 0 2 (fun _ => rfl) (by decide)) (P := 16) (m := 15) (by decide) rfl t : ∀ t : Fin grid0.N, Pipeline.Window.flushOf grid0 true cc0_transform_10 t = true ↔ t.val % 16 = 15)

/-- The current staging memref of each window at point `t`: which of its buffers it is on. -/
abbrev st0_0 (a : (pcfg0 (F := F)).Adm) (t : Fin (cfg0 a).N) := ((cfg0 a).win 0).stage ((cfg0 a).slots t 0)
/-- The staging buffer of window 1 at a point. -/
abbrev st0_1 (a : (pcfg0 (F := F)).Adm) (t : Fin (cfg0 a).N) := ((cfg0 a).win 1).stage ((cfg0 a).slots t 1)
/-- The staging buffer of window 2 at a point. -/
abbrev st0_2 (a : (pcfg0 (F := F)).Adm) (t : Fin (cfg0 a).N) := ((cfg0 a).win 2).stage ((cfg0 a).slots t 2)
/-- The staging buffer of window 3 at a point. -/
abbrev st0_3 (a : (pcfg0 (F := F)).Adm) (t : Fin (cfg0 a).N) := ((cfg0 a).win 3).stage ((cfg0 a).slots t 3)
/-- The staging buffer of window 4 at a point. -/
abbrev st0_4 (a : (pcfg0 (F := F)).Adm) (t : Fin (cfg0 a).N) := ((cfg0 a).win 4).stage ((cfg0 a).slots t 4)
/-- The staging buffer of window 5 at a point. -/
abbrev st0_5 (a : (pcfg0 (F := F)).Adm) (t : Fin (cfg0 a).N) := ((cfg0 a).win 5).stage ((cfg0 a).slots t 5)
/-- The staging buffer of window 6 at a point. -/
abbrev st0_6 (a : (pcfg0 (F := F)).Adm) (t : Fin (cfg0 a).N) := ((cfg0 a).win 6).stage ((cfg0 a).slots t 6)
/-- The staging buffer of window 7 at a point. -/
abbrev st0_7 (a : (pcfg0 (F := F)).Adm) (t : Fin (cfg0 a).N) := ((cfg0 a).win 7).stage ((cfg0 a).slots t 7)
/-- The staging buffer of window 8 at a point. -/
abbrev st0_8 (a : (pcfg0 (F := F)).Adm) (t : Fin (cfg0 a).N) := ((cfg0 a).win 8).stage ((cfg0 a).slots t 8)
/-- The staging buffer of window 9 at a point. -/
abbrev st0_9 (a : (pcfg0 (F := F)).Adm) (t : Fin (cfg0 a).N) := ((cfg0 a).win 9).stage ((cfg0 a).slots t 9)
/-- The staging buffer of window 10 at a point. -/
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__lambda_ (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

end Cert.KernelIdeal.Gen

end
-- ==== Proof.IFrame.lean ====
/- @main around its one region: the arrays' contents there, each window's block at a point, and the frame claim's post from any
   proof data's run. -/
module

public import proofs.«01_k».proof.Proof.Gen.KernelIdeal.Launch
public import proofs.«01_k».proof.Proof.IPoints
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The operations before the region make no fresh buffer. -/
theorem hostOps0_fresh : (hostOps0 : List (HloOp τ sig (Elt F))).Forall fun op => op.fresh = ∅ := by
  simp only [List.Forall]; repeat' constructor
/-- The operations after the region make no fresh buffer. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The region's configuration at this memory. -/
abbrev cfgM (hO : Ok m) : Pipeline.Cfg sig Λ₀ := cfg0 (adm m hO)

/-- Each table as the body is handed it: its whole buffer as a memref, and that memref's wholeness. -/
abbrev tbM0_0 : Memref sig .tc .smem S1536 .i32 := Memref.whole main_arg7
/-- The table's memref is whole. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The body's half of a table, at given contents. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c)),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c)),
      (((h c).2 main_arg7 (by decide : main_arg7 ∈ Pipeline.restRefs sig spec0)).trans (W_main_arg7 m hO dats c))⟩) h

end Cert.KernelIdeal.Gen

end
-- ==== Proof.IBody.lean ====
/- The kernel's body is the program of Body.lean. -/
module

public import proofs.«01_k».proof.Proof.Body
public import proofs.«01_k».proof.Proof.Gen.KernelIdeal
public import Idealize.ShloMosaic.Lib.Pipeline.Regions

@[expose] public section

set_option maxRecDepth 65536

noncomputable section

namespace Cert.KernelIdeal.Gen

open Idealize.ShloMosaic Idealize.ShloMosaic.TcCoe Idealize.ShloMosaic.Tactic
open Idealize.SL Idealize.SL.Sem
open Cert.Dsl (interp)

variable {F : FTy → Type} [FloatOps F] [Named F]

/-- The score scale the kernel multiplies by. -/
abbrev kc : F .f32 := Named.named Cert.KernelIdeal.κ "score_scale_log2e" 0x3E16C740#32

/-- Every point is the one at its coordinates. -/
theorem crd_eta (i : grid0.Coords) : Cert.Body.crd (i 0) (i 1) = i := by
  funext a; match a with | ⟨0, _⟩ => rfl | ⟨1, _⟩ => rfl | ⟨n + 2, h⟩ => exact absurd h (by show ¬ n + 2 < 2; omega)

section
variable (x : Fin 12) (arg2 : Memref sig .tc .smem S1536 .i32) (harg2 : arg2.IsWhole) (arg3 : Memref sig .tc .vmem (Cert.Body.bsh 0) (Cert.Body.bel 0)) (harg3 : arg3.IsWhole) (arg4 : Memref sig .tc .vmem (Cert.Body.bsh 1) (Cert.Body.bel 1)) (harg4 : arg4.IsWhole) (arg5 : Memref sig .tc .vmem (Cert.Body.bsh 2) (Cert.Body.bel 2)) (harg5 : arg5.IsWhole) (arg6 : Memref sig .tc .vmem (Cert.Body.bsh 3) (Cert.Body.bel 3)) (harg6 : arg6.IsWhole) (arg7 : Memref sig .tc .vmem (Cert.Body.bsh 4) (Cert.Body.bel 4)) (harg7 : arg7.IsWhole) (arg8 : Memref sig .tc .vmem (Cert.Body.bsh 5) (Cert.Body.bel 5)) (harg8 : arg8.IsWhole) (arg9 : Memref sig .tc .vmem (Cert.Body.bsh 6) (Cert.Body.bel 6)) (harg9 : arg9.IsWhole) (arg10 : Memref sig .tc .vmem (Cert.Body.bsh 7) (Cert.Body.bel 7)) (harg10 : arg10.IsWhole) (arg11 : Memref sig .tc .vmem (Cert.Body.bsh 8) (Cert.Body.bel 8)) (harg11 : arg11.IsWhole) (arg12 : Memref sig .tc .vmem (Cert.Body.bsh 9) (Cert.Body.bel 9)) (harg12 : arg12.IsWhole) (arg13 : Memref sig .tc .vmem (Cert.Body.bsh 10) (Cert.Body.bel 10)) (harg13 : arg13.IsWhole) (arg14 : Memref sig .tc .vmem (Cert.Body.bsh 11) (Cert.Body.bel 11)) (harg14 : arg14.IsWhole) (arg15 : Memref sig .tc .vmem (Cert.Body.bsh 12) (Cert.Body.bel 12)) (harg15 : arg15.IsWhole) (arg16 : Memref sig .tc .vmem (Cert.Body.bsh 13) (Cert.Body.bel 13)) (harg16 : arg16.IsWhole) (arg17 : Memref sig .tc .vmem (Cert.Body.bsh 14) (Cert.Body.bel 14)) (harg17 : arg17.IsWhole) (arg18 : Memref sig .tc .vmem (Cert.Body.bsh 15) (Cert.Body.bel 15)) (harg18 : arg18.IsWhole) (arg19 : Memref sig .tc .vmem (Cert.Body.bsh 16) (Cert.Body.bel 16)) (harg19 : arg19.IsWhole) (arg20 : Memref sig .tc .vmem (Cert.Body.bsh 17) (Cert.Body.bel 17)) (harg20 : arg20.IsWhole) (arg21 : Memref sig .tc .vmem (Cert.Body.bsh 18) (Cert.Body.bel 18)) (harg21 : arg21.IsWhole)

/-- The body at a point is the program of Body.lean there. -/
abbrev BodyIs (i : grid0.Coords) : Prop :=
    cc0__lambda_ (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      = interp (Cert.Body.fam arg3 arg4 arg5 arg6 arg7 arg8 arg9 arg10 arg11 arg12 arg13 arg14 arg15 arg16 arg17 arg18 arg19 arg20 arg21) arg2 (Cert.Body.body (F := F) (Cert.Body.fam arg3 arg4 arg5 arg6 arg7 arg8 arg9 arg10 arg11 arg12 arg13 arg14 arg15 arg16 arg17 arg18 arg19 arg20 arg21) (Cert.Body.fam_whole harg3 harg4 harg5 harg6 harg7 harg8 harg9 harg10 harg11 harg12 harg13 harg14 harg15 harg16 harg17 harg18 harg19 harg20 harg21) kc i)

/-- At place 0 of a block the generated body is the body program. -/
theorem body_at0 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨0, by omega⟩) := by
  show _ = _
  chain_rfl
/-- At place 1 of a block the generated body is the body program. -/
theorem body_at1 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨1, by omega⟩) := by
  show _ = _
  chain_rfl
/-- At place 2 of a block the generated body is the body program. -/
theorem body_at2 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨2, by omega⟩) := by
  show _ = _
  chain_rfl
/-- At place 3 of a block the generated body is the body program. -/
theorem body_at3 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨3, by omega⟩) := by
  show _ = _
  chain_rfl
/-- At place 4 of a block the generated body is the body program. -/
theorem body_at4 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨4, by omega⟩) := by
  show _ = _
  chain_rfl
/-- At place 5 of a block the generated body is the body program. -/
theorem body_at5 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨5, by omega⟩) := by
  show _ = _
  chain_rfl
/-- At place 6 of a block the generated body is the body program. -/
theorem body_at6 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨6, by omega⟩) := by
  show _ = _
  chain_rfl
/-- At place 7 of a block the generated body is the body program. -/
theorem body_at7 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨7, by omega⟩) := by
  show _ = _
  chain_rfl
/-- At place 8 of a block the generated body is the body program. -/
theorem body_at8 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨8, by omega⟩) := by
  show _ = _
  chain_rfl
/-- At place 9 of a block the generated body is the body program. -/
theorem body_at9 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨9, by omega⟩) := by
  show _ = _
  chain_rfl
/-- At place 10 of a block the generated body is the body program. -/
theorem body_at10 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨10, by omega⟩) := by
  show _ = _
  chain_rfl
/-- At place 11 of a block the generated body is the body program. -/
theorem body_at11 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨11, by omega⟩) := by
  show _ = _
  chain_rfl
/-- At place 12 of a block the generated body is the body program. -/
theorem body_at12 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨12, by omega⟩) := by
  show _ = _
  chain_rfl
/-- At place 13 of a block the generated body is the body program. -/
theorem body_at13 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨13, by omega⟩) := by
  show _ = _
  chain_rfl
/-- At place 14 of a block the generated body is the body program. -/
theorem body_at14 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨14, by omega⟩) := by
  show _ = _
  chain_rfl
/-- At place 15 of a block the generated body is the body program. -/
theorem body_at15 : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Cert.Body.crd x ⟨15, by omega⟩) := by
  show _ = _
  chain_rfl

/-- At every point the generated body is the body program. -/
theorem body_is (i : grid0.Coords) : BodyIs (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i := by
  rw [← crd_eta i]
  match i 1 with
  | ⟨0, _⟩ => exact body_at0 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨1, _⟩ => exact body_at1 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨2, _⟩ => exact body_at2 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨3, _⟩ => exact body_at3 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨4, _⟩ => exact body_at4 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨5, _⟩ => exact body_at5 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨6, _⟩ => exact body_at6 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨7, _⟩ => exact body_at7 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨8, _⟩ => exact body_at8 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨9, _⟩ => exact body_at9 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨10, _⟩ => exact body_at10 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨11, _⟩ => exact body_at11 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨12, _⟩ => exact body_at12 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨13, _⟩ => exact body_at13 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨14, _⟩ => exact body_at14 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨15, _⟩ => exact body_at15 (i 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  | ⟨n + 16, h⟩ => exact absurd h (by show ¬ n + 16 < 16; omega)
end

end Cert.KernelIdeal.Gen

end
-- ==== Proof.IBlk.lean ====
/- The blocks the region stages at a point, read off the arrays, and the inputs of a block of sequences. -/
module

public import proofs.«01_k».proof.Proof.IFrame
public import proofs.«01_k».proof.Proof.IBody
public import proofs.«01_k».proof.Proof.Step
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Body (bsh bel VV Inp V7 V8 V9 V10)

variable {F : FTy → Type} [FloatOps F] [Named F]

local notation "𝕄" => MT nD τ sig Unit (Elt F) ℕ (UR sig nD τ) ℕ

variable (m : (ℓ : Loc nD τ sig) → Buf (Elt F) ℓ)

/-- No index map reads the table: the pipeline is right at every table. -/
theorem hO : Ok m := trivial

/-- Point `t`'s block of sequences and its place in the block. -/
def bOf (t : Fin grid0.N) : Fin 12 := ⟨t.val / 16, by have : t.val < 192 := t.isLt; omega⟩
/-- The place of point `t` in its block. -/
def sOf (t : Fin grid0.N) : Fin 16 := ⟨t.val % 16, by omega⟩
/-- The point at a block and a place. -/
def pt (B : Fin 12) (s : Fin 16) : Fin grid0.N := ⟨16 * B.val + s.val, by show _ < 192; omega⟩

/-- A point is the one at its block and place. -/
theorem pt_of (t : Fin grid0.N) : pt (bOf t) (sOf t) = t := Fin.ext (by show 16 * (t.val / 16) + t.val % 16 = t.val; omega)
/-- The block of the point at a block and a place. -/
theorem bOf_pt (B : Fin 12) (s : Fin 16) : bOf (pt B s) = B := Fin.ext (by show (16 * B.val + s.val) / 16 = B.val; omega)
/-- The place of the point at a block and a place. -/
theorem sOf_pt (B : Fin 12) (s : Fin 16) : sOf (pt B s) = s := Fin.ext (by show (16 * B.val + s.val) % 16 = s.val; omega)

/-- A point's grid coordinates are its block and its place. -/
theorem coords_eq (t : Fin grid0.N) : grid0.coords t = Cert.Body.crd (bOf t) (sOf t) := by
  have h0 : ∀ t : Fin grid0.N, (grid0.coords t (0 : Fin 2)).val = (bOf t).val := by decide +kernel
  have h1 : ∀ t : Fin grid0.N, (grid0.coords t (1 : Fin 2)).val = (sOf t).val := by decide +kernel
  rw [← crd_eta (grid0.coords t)]
  exact congrArg₂ Cert.Body.crd (Fin.ext (h0 t)) (Fin.ext (h1 t))

/-- The block index of each window. -/
theorem tr0 : ∀ (B : Fin 12) (s : Fin 16), cc0_transform_0 (Cert.Body.crd B s) = ![0, 0, 0, B.val] := by decide +kernel
/-- The block index of window 0 (the queries) at a point. -/
theorem idx0 (t : Fin grid0.N) : ((cfgM m (hO m)).win 0).index t = ![0, 0, 0, (bOf t).val] := by
  show cc0_transform_0 (grid0.coords t) = _
  rw [coords_eq, tr0]
/-- The index map of window 1 at a block and a place. -/
theorem tr1 : ∀ (B : Fin 12) (s : Fin 16), cc0_transform_1 (Cert.Body.crd B s) = ![0, 0, 0, B.val] := by decide +kernel
/-- The block index of window 1 (the new keys) at a point. -/
theorem idx1 (t : Fin grid0.N) : ((cfgM m (hO m)).win 1).index t = ![0, 0, 0, (bOf t).val] := by
  show cc0_transform_1 (grid0.coords t) = _
  rw [coords_eq, tr1]
/-- The index map of window 2 at a block and a place. -/
theorem tr2 : ∀ (B : Fin 12) (s : Fin 16), cc0_transform_2 (Cert.Body.crd B s) = ![0, 0, 0, B.val] := by decide +kernel
/-- The block index of window 2 (the new values) at a point. -/
theorem idx2 (t : Fin grid0.N) : ((cfgM m (hO m)).win 2).index t = ![0, 0, 0, (bOf t).val] := by
  show cc0_transform_2 (grid0.coords t) = _
  rw [coords_eq, tr2]
/-- The index map of window 3 at a block and a place. -/
theorem tr3 : ∀ (B : Fin 12) (s : Fin 16), cc0_transform_3 (Cert.Body.crd B s) = ![16 * B.val + s.val, 0, 0, 0] := by decide +kernel
/-- The block index of window 3 (the cached keys) at a point. -/
theorem idx3 (t : Fin grid0.N) : ((cfgM m (hO m)).win 3).index t = ![16 * (bOf t).val + (sOf t).val, 0, 0, 0] := by
  show cc0_transform_3 (grid0.coords t) = _
  rw [coords_eq, tr3]
/-- The index map of window 4 at a block and a place. -/
theorem tr4 : ∀ (B : Fin 12) (s : Fin 16), cc0_transform_4 (Cert.Body.crd B s) = ![0, 0, B.val] := by decide +kernel
/-- The block index of window 4 (the key scales) at a point. -/
theorem idx4 (t : Fin grid0.N) : ((cfgM m (hO m)).win 4).index t = ![0, 0, (bOf t).val] := by
  show cc0_transform_4 (grid0.coords t) = _
  rw [coords_eq, tr4]
/-- The index map of window 5 at a block and a place. -/
theorem tr5 : ∀ (B : Fin 12) (s : Fin 16), cc0_transform_5 (Cert.Body.crd B s) = ![16 * B.val + s.val, 0, 0, 0] := by decide +kernel
/-- The block index of window 5 (the cached values) at a point. -/
theorem idx5 (t : Fin grid0.N) : ((cfgM m (hO m)).win 5).index t = ![16 * (bOf t).val + (sOf t).val, 0, 0, 0] := by
  show cc0_transform_5 (grid0.coords t) = _
  rw [coords_eq, tr5]
/-- The index map of window 6 at a block and a place. -/
theorem tr6 : ∀ (B : Fin 12) (s : Fin 16), cc0_transform_6 (Cert.Body.crd B s) = ![16 * B.val + s.val, 0, 0] := by decide +kernel
/-- The block index of window 6 (the cached values' scales) at a point. -/
theorem idx6 (t : Fin grid0.N) : ((cfgM m (hO m)).win 6).index t = ![16 * (bOf t).val + (sOf t).val, 0, 0] := by
  show cc0_transform_6 (grid0.coords t) = _
  rw [coords_eq, tr6]
/-- The index map of window 7 at a block and a place. -/
theorem tr7 : ∀ (B : Fin 12) (s : Fin 16), cc0_transform_7 (Cert.Body.crd B s) = ![0, 0, 0, B.val] := by decide +kernel
/-- The block index of window 7 (the attention result) at a point. -/
theorem idx7 (t : Fin grid0.N) : ((cfgM m (hO m)).win 7).index t = ![0, 0, 0, (bOf t).val] := by
  show cc0_transform_7 (grid0.coords t) = _
  rw [coords_eq, tr7]
/-- The index map of window 8 at a block and a place. -/
theorem tr8 : ∀ (B : Fin 12) (s : Fin 16), cc0_transform_8 (Cert.Body.crd B s) = ![0, 0, 0, B.val] := by decide +kernel
/-- The block index of window 8 (the new keys' codes) at a point. -/
theorem idx8 (t : Fin grid0.N) : ((cfgM m (hO m)).win 8).index t = ![0, 0, 0, (bOf t).val] := by
  show cc0_transform_8 (grid0.coords t) = _
  rw [coords_eq, tr8]
/-- The index map of window 9 at a block and a place. -/
theorem tr9 : ∀ (B : Fin 12) (s : Fin 16), cc0_transform_9 (Cert.Body.crd B s) = ![0, 0, 0, B.val] := by decide +kernel
/-- The block index of window 9 (the new values' codes) at a point. -/
theorem idx9 (t : Fin grid0.N) : ((cfgM m (hO m)).win 9).index t = ![0, 0, 0, (bOf t).val] := by
  show cc0_transform_9 (grid0.coords t) = _
  rw [coords_eq, tr9]
/-- The index map of window 10 at a block and a place. -/
theorem tr10 : ∀ (B : Fin 12) (s : Fin 16), cc0_transform_10 (Cert.Body.crd B s) = ![0, 0, B.val] := by decide +kernel
/-- The block index of window 10 (the new values' scales) at a point. -/
theorem idx10 (t : Fin grid0.N) : ((cfgM m (hO m)).win 10).index t = ![0, 0, (bOf t).val] := by
  show cc0_transform_10 (grid0.coords t) = _
  rw [coords_eq, tr10]

/-! The staged blocks, and where their elements lie in the arrays. -/

/-- What window 0 (the queries) stages at a point. -/
def blk0 (c : Dev nD) (t : Fin grid0.N) : S2x20x96x128.Idx → F .bf16 := iblk m (hO m) c 0 t
/-- An entry of what window 0 stages is the array's entry at the point's sequences. -/
theorem blk0_eq (c : Dev nD) (t : Fin grid0.N) (j : Fin 2) (h : Fin 20) (a : Fin 96) (b : Fin 128) :
    blk0 m c t (ix4 j h a b) = V m c main_v0 (ix4 j h a ⟨128 * (bOf t).val + b.val, by omega⟩) := by
  unfold blk0
  blk_ext [iblk, idx0 m t]
/-- Window 0 stages at every place of a block what it stages at the first. -/
theorem blk0_first (c : Dev nD) (t : Fin grid0.N) : blk0 m c t = blk0 m c (pt (bOf t) 0) := by
  funext y
  obtain ⟨j, h, a, b, rfl⟩ : ∃ (j : Fin 2) (h : Fin 20) (a : Fin 96) (b : Fin 128), y = ix4 j h a b := ⟨_, _, _, _, eq_ix4 y⟩
  rw [blk0_eq, blk0_eq]; simp only [bOf_pt]
/-- What window 1 (the new keys) stages at a point. -/
def blk1 (c : Dev nD) (t : Fin grid0.N) : S2x4x96x128.Idx → F .bf16 := iblk m (hO m) c 1 t
/-- An entry of what window 1 stages is the array's entry at the point's sequences. -/
theorem blk1_eq (c : Dev nD) (t : Fin grid0.N) (j : Fin 2) (h : Fin 4) (a : Fin 96) (b : Fin 128) :
    blk1 m c t (ix4 j h a b) = V m c main_v1 (ix4 j h a ⟨128 * (bOf t).val + b.val, by omega⟩) := by
  unfold blk1
  blk_ext [iblk, idx1 m t]
/-- Window 1 stages at every place of a block what it stages at the first. -/
theorem blk1_first (c : Dev nD) (t : Fin grid0.N) : blk1 m c t = blk1 m c (pt (bOf t) 0) := by
  funext y
  obtain ⟨j, h, a, b, rfl⟩ : ∃ (j : Fin 2) (h : Fin 4) (a : Fin 96) (b : Fin 128), y = ix4 j h a b := ⟨_, _, _, _, eq_ix4 y⟩
  rw [blk1_eq, blk1_eq]; simp only [bOf_pt]
/-- What window 2 (the new values) stages at a point. -/
def blk2 (c : Dev nD) (t : Fin grid0.N) : S2x4x96x128.Idx → F .bf16 := iblk m (hO m) c 2 t
/-- An entry of what window 2 stages is the array's entry at the point's sequences. -/
theorem blk2_eq (c : Dev nD) (t : Fin grid0.N) (j : Fin 2) (h : Fin 4) (a : Fin 96) (b : Fin 128) :
    blk2 m c t (ix4 j h a b) = V m c main_v2 (ix4 j h a ⟨128 * (bOf t).val + b.val, by omega⟩) := by
  unfold blk2
  blk_ext [iblk, idx2 m t]
/-- Window 2 stages at every place of a block what it stages at the first. -/
theorem blk2_first (c : Dev nD) (t : Fin grid0.N) : blk2 m c t = blk2 m c (pt (bOf t) 0) := by
  funext y
  obtain ⟨j, h, a, b, rfl⟩ : ∃ (j : Fin 2) (h : Fin 4) (a : Fin 96) (b : Fin 128), y = ix4 j h a b := ⟨_, _, _, _, eq_ix4 y⟩
  rw [blk2_eq, blk2_eq]; simp only [bOf_pt]
/-- What window 3 (the cached keys) stages at a point. -/
def blk3 (c : Dev nD) (t : Fin grid0.N) : S8x4x96x512.Idx → BitVec 8 := iblk m (hO m) c 3 t
/-- An entry of what window 3 stages is the array's entry at the point's sequences. -/
theorem blk3_eq (c : Dev nD) (t : Fin grid0.N) (r : Fin 8) (h : Fin 4) (a : Fin 96) (p : Fin 512) :
    blk3 m c t (ix4 r h a p) = V m c main_v3 (ix4 ⟨8 * (16 * (bOf t).val + (sOf t).val) + r.val, by omega⟩ h a p) := by
  unfold blk3
  blk_ext [iblk, idx3 m t]
/-- What window 4 (the key scales) stages at a point. -/
def blk4 (c : Dev nD) (t : Fin grid0.N) : S4x96x128.Idx → F .f32 := iblk m (hO m) c 4 t
/-- An entry of what window 4 stages is the array's entry at the point's sequences. -/
theorem blk4_eq (c : Dev nD) (t : Fin grid0.N) (h : Fin 4) (a : Fin 96) (b : Fin 128) :
    blk4 m c t (ix3 h a b) = V m c main_v5 (ix3 h a ⟨128 * (bOf t).val + b.val, by omega⟩) := by
  unfold blk4
  blk_ext [iblk, idx4 m t]
/-- Window 4 stages at every place of a block what it stages at the first. -/
theorem blk4_first (c : Dev nD) (t : Fin grid0.N) : blk4 m c t = blk4 m c (pt (bOf t) 0) := by
  funext y
  obtain ⟨h, a, b, rfl⟩ : ∃ (h : Fin 4) (a : Fin 96) (b : Fin 128), y = ix3 h a b := ⟨_, _, _, eq_ix3 y⟩
  rw [blk4_eq, blk4_eq]; simp only [bOf_pt]
/-- What window 5 (the cached values) stages at a point. -/
def blk5 (c : Dev nD) (t : Fin grid0.N) : S8x4x96x512.Idx → BitVec 8 := iblk m (hO m) c 5 t
/-- An entry of what window 5 stages is the array's entry at the point's sequences. -/
theorem blk5_eq (c : Dev nD) (t : Fin grid0.N) (r : Fin 8) (h : Fin 4) (a : Fin 96) (p : Fin 512) :
    blk5 m c t (ix4 r h a p) = V m c main_v4 (ix4 ⟨8 * (16 * (bOf t).val + (sOf t).val) + r.val, by omega⟩ h a p) := by
  unfold blk5
  blk_ext [iblk, idx5 m t]
/-- What window 6 (the cached values' scales) stages at a point. -/
def blk6 (c : Dev nD) (t : Fin grid0.N) : S8x4x512.Idx → F .f32 := iblk m (hO m) c 6 t
/-- An entry of what window 6 stages is the array's entry at the point's sequences. -/
theorem blk6_eq (c : Dev nD) (t : Fin grid0.N) (r : Fin 8) (h : Fin 4) (p : Fin 512) :
    blk6 m c t (ix3 r h p) = V m c main_v6 (ix3 ⟨8 * (16 * (bOf t).val + (sOf t).val) + r.val, by omega⟩ h p) := by
  unfold blk6
  blk_ext [iblk, idx6 m t]

/-- What block `B` of sequences stages. -/
def inp (c : Dev nD) (B : Fin 12) : Inp F where
  x := blk0 m c (pt B 0)
  kn := blk1 m c (pt B 0)
  vn := blk2 m c (pt B 0)
  ks := blk4 m c (pt B 0)
  k s := blk3 m c (pt B s)
  v s := blk5 m c (pt B s)
  vs s := blk6 m c (pt B s)
  T := tbl m 0
  B := B

end Cert.KernelIdeal.Gen

end
-- ==== Proof.IDat.lean ====
/- The kernel between its points: what each buffer holds, the body at a point, and the run of @main. -/
module

public import proofs.«01_k».proof.Proof.IBlk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Body (bsh bel VV Inp V7 V8 V9 V10)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold between points -/

/-- What the scratch buffers hold as place `s` of a block is entered: past the first place, all that the first place wrote; the
    lanes and rows of the sequences already done. -/
structure Scr (I : Inp F) (s : ℕ) (X : (j : Fin 19) → (bsh j).Idx → Elt F (bel j)) : Prop where
  pro : 0 < s → ∀ j : Fin 19, 11 ≤ j.val → j.val < 16 → X j = VV kc I 0 j
  h16 : ∀ y, (y 1).val < 8 * s → X 16 y = Cert.Body.V16 kc I y
  h17 : ∀ y, (y 1).val < 8 * s → X 17 y = Cert.Body.V17 kc I y
  h18 : ∀ y, (y 0).val < 512 * s → X 18 y = Cert.Body.V18 kc I y

/-- The block of the point numbered `n` (the last number of all is of no block). -/
def bN (n : ℕ) : Fin 12 := ⟨n / 16 % 12, by omega⟩
/-- The block of a point, by its number. -/
theorem bN_of (t : Fin grid0.N) : bN t.val = bOf t := Fin.ext (by
  have : t.val < 192 := t.isLt
  show t.val / 16 % 12 = t.val / 16; omega)

/-- The scratch buffers held at `X`. -/
def scrOwn (c : Dev nD) (X : (j : Fin 19) → (bsh j).Idx → Elt F (bel j)) : sProp 𝕄 :=
  iprop(owns (c : Thread nD τ) (Memref.whole cc0_scratch0) fullShare (X 11 : (bsh 11).Idx → Elt F (bel 11)) ∗ owns (c : Thread nD τ) (Memref.whole cc0_scratch1) fullShare (X 12 : (bsh 12).Idx → Elt F (bel 12)) ∗ owns (c : Thread nD τ) (Memref.whole cc0_scratch2) fullShare (X 13 : (bsh 13).Idx → Elt F (bel 13)) ∗ owns (c : Thread nD τ) (Memref.whole cc0_scratch3) fullShare (X 14 : (bsh 14).Idx → Elt F (bel 14)) ∗ owns (c : Thread nD τ) (Memref.whole cc0_scratch4) fullShare (X 15 : (bsh 15).Idx → Elt F (bel 15)) ∗ owns (c : Thread nD τ) (Memref.whole cc0_scratch5) fullShare (X 16 : (bsh 16).Idx → Elt F (bel 16)) ∗ owns (c : Thread nD τ) (Memref.whole cc0_scratch6) fullShare (X 17 : (bsh 17).Idx → Elt F (bel 17)) ∗ owns (c : Thread nD τ) (Memref.whole cc0_scratch7) fullShare (X 18 : (bsh 18).Idx → Elt F (bel 18)))

/-- The table held, as the body may read it. -/
def tblOwn (c : Dev nD) : sProp 𝕄 := owns (c : Thread nD τ) (Memref.whole main_arg7) fullShare.right (tbl m 0)

/-- The invariant between points. -/
def PhiK (c : Dev nD) (n : ℕ) : sProp 𝕄 :=
  iprop(∃ X, ⌜Scr (inp m c (bN n)) (n % 16) X⌝ ∗ scrOwn c X ∗ tblOwn m c ∗ ∃ r, prngReg c r)

/-- The proof data. -/
def datK (c : Dev nD) : Dat τ (Elt F) Unit ℕ (UR sig nD τ) ℕ (cfgM m (hO m)) c where
  A w := V m c (Pipeline.arrRef spec0 w)
  after := fun
    | 0 => fun t => blk0 m c t
    | 1 => fun t => blk1 m c t
    | 2 => fun t => blk2 m c t
    | 3 => fun t => blk3 m c t
    | 4 => fun t => blk4 m c t
    | 5 => fun t => blk5 m c t
    | 6 => fun t => blk6 m c t
    | 7 => fun t => V7 kc (inp m c (bOf t))
    | 8 => fun t => V8 (inp m c (bOf t))
    | 9 => fun t => V9 (inp m c (bOf t))
    | 10 => fun t => V10 (inp m c (bOf t))
    | ⟨_ + 11, h⟩ => absurd h (Nat.not_lt.2 (Nat.le_add_left _ _))
  Φ t := PhiK m c t.val
  q _ := fullShare
  owed _ := 0

/-! ## What the body finds -/

section Before
variable {c : Dev nD}

/-- The result window is not written at a point unless it is the last place of its block. -/
theorem idle7 (t : Fin grid0.N) : idle0 7 (grid0.coords t) = true ↔ t.val % 16 ≠ 15 := by
  rw [coords_eq]
  exact ((by decide +kernel : ∀ (B : Fin 12) (s : Fin 16), idle0 7 (Cert.Body.crd B s) = true ↔ s.val ≠ 15) _ _)
/-- Window 8 (the new keys' codes) is not written at a point unless it is the first place of its block. -/
theorem idle8 (t : Fin grid0.N) : idle0 8 (grid0.coords t) = true ↔ t.val % 16 ≠ 0 := by
  rw [coords_eq]
  exact ((by decide +kernel : ∀ (B : Fin 12) (s : Fin 16), idle0 8 (Cert.Body.crd B s) = true ↔ s.val ≠ 0) _ _)
/-- Window 9 (the new values' codes) is not written at a point unless it is the first place of its block. -/
theorem idle9 (t : Fin grid0.N) : idle0 9 (grid0.coords t) = true ↔ t.val % 16 ≠ 0 := by
  rw [coords_eq]
  exact ((by decide +kernel : ∀ (B : Fin 12) (s : Fin 16), idle0 9 (Cert.Body.crd B s) = true ↔ s.val ≠ 0) _ _)
/-- Window 10 (the new values' scales) is not written at a point unless it is the first place of its block. -/
theorem idle10 (t : Fin grid0.N) : idle0 10 (grid0.coords t) = true ↔ t.val % 16 ≠ 0 := by
  rw [coords_eq]
  exact ((by decide +kernel : ∀ (B : Fin 12) (s : Fin 16), idle0 10 (Cert.Body.crd B s) = true ↔ s.val ≠ 0) _ _)
/-- Before the body, window 0's buffer holds the queries of the point. -/
theorem bef0 (t : Fin (cfgM m (hO m)).N) (d) : (datK m c).before 0 t d = blk0 m c t :=
  before0_0_of m (hO m) (datK m c) rfl (fun _ => rfl) t d
/-- Before the body, window 1's buffer holds the new keys of the point. -/
theorem bef1 (t : Fin (cfgM m (hO m)).N) (d) : (datK m c).before 1 t d = blk1 m c t :=
  before0_1_of m (hO m) (datK m c) rfl (fun _ => rfl) t d
/-- Before the body, window 2's buffer holds the new values of the point. -/
theorem bef2 (t : Fin (cfgM m (hO m)).N) (d) : (datK m c).before 2 t d = blk2 m c t :=
  before0_2_of m (hO m) (datK m c) rfl (fun _ => rfl) t d
/-- Before the body, window 3's buffer holds the cached keys of the point. -/
theorem bef3 (t : Fin (cfgM m (hO m)).N) (d) : (datK m c).before 3 t d = blk3 m c t :=
  before0_3_of m (hO m) (datK m c) rfl (fun _ => rfl) t d
/-- Before the body, window 4's buffer holds the key scales of the point. -/
theorem bef4 (t : Fin (cfgM m (hO m)).N) (d) : (datK m c).before 4 t d = blk4 m c t :=
  before0_4_of m (hO m) (datK m c) rfl (fun _ => rfl) t d
/-- Before the body, window 5's buffer holds the cached values of the point. -/
theorem bef5 (t : Fin (cfgM m (hO m)).N) (d) : (datK m c).before 5 t d = blk5 m c t :=
  before0_5_of m (hO m) (datK m c) rfl (fun _ => rfl) t d
/-- Before the body, window 6's buffer holds the cached values' scales of the point. -/
theorem bef6 (t : Fin (cfgM m (hO m)).N) (d) : (datK m c).before 6 t d = blk6 m c t :=
  before0_6_of m (hO m) (datK m c) rfl (fun _ => rfl) t d

/-- The output's buffer holds anything until the last place. -/
theorem bef7 (d) : ∀ (n : ℕ) (h : n < (cfgM m (hO m)).N), (datK m c).before 7 ⟨n, h⟩ d = d
  | 0, h => by
    unfold Dat.before
    rw [if_neg (by rw [show ((cfgM m (hO m)).win 7).fetch _ = false from rfl]; exact Bool.false_ne_true), if_pos rfl]
  | n + 1, h => by
    have hn : n < (cfgM m (hO m)).N := Nat.lt_of_succ_lt h
    rw [Dat.before_of_pos _ _ _ (Nat.succ_ne_zero n) rfl]
    by_cases hf : n % 16 = 15
    · exact if_pos ((flush0_7 (adm m (hO m)) ⟨n, hn⟩).mpr hf)
    · refine (if_neg (fun e => hf ((flush0_7 (adm m (hO m)) ⟨n, hn⟩).mp e))).trans ?_
      have hi : (cfgM m (hO m)).idle 7 ((cfgM m (hO m)).grid.coords ⟨n, hn⟩) = true := (idle7 ⟨n, hn⟩).mpr hf
      unfold Dat.left
      show (match (cfgM m (hO m)).idle 7 ((cfgM m (hO m)).grid.coords ⟨n, hn⟩) with | true => _ | false => _) = _
      rw [hi]
      exact bef7 d n hn

/-- Past the first place, the buffer holds what the first place left. -/
theorem bef8 (d) : ∀ (n : ℕ) (h : n < (cfgM m (hO m)).N) (hn : n % 16 ≠ 0), (datK m c).before 8 ⟨n, h⟩ d = V8 (inp m c (bOf ⟨n, h⟩))
  | 0, h, hn => absurd rfl hn
  | n + 1, h, hn => by
    have hn' : n < (cfgM m (hO m)).N := Nat.lt_of_succ_lt h
    have hb : bOf ⟨n + 1, h⟩ = bOf ⟨n, hn'⟩ := Fin.ext (by show (n + 1) / 16 = n / 16; omega)
    rw [Dat.before_of_pos _ _ _ (Nat.succ_ne_zero n) rfl, hb]
    rw [if_neg (fun e => by have := (flush0_8 (adm m (hO m)) ⟨n, hn'⟩).mp e; simp only at this; omega)]
    unfold Dat.left
    show (match (cfgM m (hO m)).idle 8 ((cfgM m (hO m)).grid.coords ⟨n, hn'⟩) with | true => _ | false => _) = _
    by_cases h0 : n % 16 = 0
    · have hi : (cfgM m (hO m)).idle 8 ((cfgM m (hO m)).grid.coords ⟨n, hn'⟩) = false := by
        rw [Bool.eq_false_iff]; exact fun e => (idle8 ⟨n, hn'⟩).mp e h0
      rw [hi]; rfl
    · have hi : (cfgM m (hO m)).idle 8 ((cfgM m (hO m)).grid.coords ⟨n, hn'⟩) = true := (idle8 ⟨n, hn'⟩).mpr h0
      rw [hi]
      exact bef8 d n hn' h0

/-- Past the first place, the buffer holds what the first place left. -/
theorem bef9 (d) : ∀ (n : ℕ) (h : n < (cfgM m (hO m)).N) (hn : n % 16 ≠ 0), (datK m c).before 9 ⟨n, h⟩ d = V9 (inp m c (bOf ⟨n, h⟩))
  | 0, h, hn => absurd rfl hn
  | n + 1, h, hn => by
    have hn' : n < (cfgM m (hO m)).N := Nat.lt_of_succ_lt h
    have hb : bOf ⟨n + 1, h⟩ = bOf ⟨n, hn'⟩ := Fin.ext (by show (n + 1) / 16 = n / 16; omega)
    rw [Dat.before_of_pos _ _ _ (Nat.succ_ne_zero n) rfl, hb]
    rw [if_neg (fun e => by have := (flush0_9 (adm m (hO m)) ⟨n, hn'⟩).mp e; simp only at this; omega)]
    unfold Dat.left
    show (match (cfgM m (hO m)).idle 9 ((cfgM m (hO m)).grid.coords ⟨n, hn'⟩) with | true => _ | false => _) = _
    by_cases h0 : n % 16 = 0
    · have hi : (cfgM m (hO m)).idle 9 ((cfgM m (hO m)).grid.coords ⟨n, hn'⟩) = false := by
        rw [Bool.eq_false_iff]; exact fun e => (idle9 ⟨n, hn'⟩).mp e h0
      rw [hi]; rfl
    · have hi : (cfgM m (hO m)).idle 9 ((cfgM m (hO m)).grid.coords ⟨n, hn'⟩) = true := (idle9 ⟨n, hn'⟩).mpr h0
      rw [hi]
      exact bef9 d n hn' h0

/-- Past the first place, the buffer holds what the first place left. -/
theorem bef10 (d) : ∀ (n : ℕ) (h : n < (cfgM m (hO m)).N) (hn : n % 16 ≠ 0), (datK m c).before 10 ⟨n, h⟩ d = V10 (inp m c (bOf ⟨n, h⟩))
  | 0, h, hn => absurd rfl hn
  | n + 1, h, hn => by
    have hn' : n < (cfgM m (hO m)).N := Nat.lt_of_succ_lt h
    have hb : bOf ⟨n + 1, h⟩ = bOf ⟨n, hn'⟩ := Fin.ext (by show (n + 1) / 16 = n / 16; omega)
    rw [Dat.before_of_pos _ _ _ (Nat.succ_ne_zero n) rfl, hb]
    rw [if_neg (fun e => by have := (flush0_10 (adm m (hO m)) ⟨n, hn'⟩).mp e; simp only at this; omega)]
    unfold Dat.left
    show (match (cfgM m (hO m)).idle 10 ((cfgM m (hO m)).grid.coords ⟨n, hn'⟩) with | true => _ | false => _) = _
    by_cases h0 : n % 16 = 0
    · have hi : (cfgM m (hO m)).idle 10 ((cfgM m (hO m)).grid.coords ⟨n, hn'⟩) = false := by
        rw [Bool.eq_false_iff]; exact fun e => (idle10 ⟨n, hn'⟩).mp e h0
      rw [hi]; rfl
    · have hi : (cfgM m (hO m)).idle 10 ((cfgM m (hO m)).grid.coords ⟨n, hn'⟩) = true := (idle10 ⟨n, hn'⟩).mpr h0
      rw [hi]
      exact bef10 d n hn' h0

end Before

/-! ## The body at a point -/

/-- The eleven staged buffers' contents and the scratch buffers', as one. -/
def mix (a0 : (bsh 0).Idx → Elt F (bel 0)) (a1 : (bsh 1).Idx → Elt F (bel 1)) (a2 : (bsh 2).Idx → Elt F (bel 2)) (a3 : (bsh 3).Idx → Elt F (bel 3)) (a4 : (bsh 4).Idx → Elt F (bel 4)) (a5 : (bsh 5).Idx → Elt F (bel 5)) (a6 : (bsh 6).Idx → Elt F (bel 6)) (a7 : (bsh 7).Idx → Elt F (bel 7)) (a8 : (bsh 8).Idx → Elt F (bel 8)) (a9 : (bsh 9).Idx → Elt F (bel 9)) (a10 : (bsh 10).Idx → Elt F (bel 10)) (X : (j : Fin 19) → (bsh j).Idx → Elt F (bel j)) : (j : Fin 19) → (bsh j).Idx → Elt F (bel j)
  | ⟨0, _⟩ => a0
  | ⟨1, _⟩ => a1
  | ⟨2, _⟩ => a2
  | ⟨3, _⟩ => a3
  | ⟨4, _⟩ => a4
  | ⟨5, _⟩ => a5
  | ⟨6, _⟩ => a6
  | ⟨7, _⟩ => a7
  | ⟨8, _⟩ => a8
  | ⟨9, _⟩ => a9
  | ⟨10, _⟩ => a10
  | ⟨11, _⟩ => X 11
  | ⟨12, _⟩ => X 12
  | ⟨13, _⟩ => X 13
  | ⟨14, _⟩ => X 14
  | ⟨15, _⟩ => X 15
  | ⟨16, _⟩ => X 16
  | ⟨17, _⟩ => X 17
  | ⟨18, _⟩ => X 18
  | ⟨n + 19, h⟩ => absurd h (by omega)

/-- The buffers at point `t`. -/
abbrev fm (t : Fin (cfgM m (hO m)).N) : (j : Fin 19) → Memref sig .tc .vmem (bsh j) (bel j) :=
  Cert.Body.fam (spec0_0.stage ((cfgM m (hO m)).slots t 0)) (spec0_1.stage ((cfgM m (hO m)).slots t 1)) (spec0_2.stage ((cfgM m (hO m)).slots t 2)) (spec0_3.stage ((cfgM m (hO m)).slots t 3)) (spec0_4.stage ((cfgM m (hO m)).slots t 4)) (spec0_5.stage ((cfgM m (hO m)).slots t 5)) (spec0_6.stage ((cfgM m (hO m)).slots t 6)) (spec0_7.stage ((cfgM m (hO m)).slots t 7)) (spec0_8.stage ((cfgM m (hO m)).slots t 8)) (spec0_9.stage ((cfgM m (hO m)).slots t 9)) (spec0_10.stage ((cfgM m (hO m)).slots t 10)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)
/-- Every buffer of a point is a whole memref. -/
theorem fm_whole (t : Fin (cfgM m (hO m)).N) : ∀ j, (fm m t j).IsWhole :=
  Cert.Body.fam_whole (hstage0_0 (((cfgM m (hO m)).slots t 0).cast nbuf0_0)) (hstage0_1 (((cfgM m (hO m)).slots t 1).cast nbuf0_1)) (hstage0_2 (((cfgM m (hO m)).slots t 2).cast nbuf0_2)) (hstage0_3 (((cfgM m (hO m)).slots t 3).cast nbuf0_3)) (hstage0_4 (((cfgM m (hO m)).slots t 4).cast nbuf0_4)) (hstage0_5 (((cfgM m (hO m)).slots t 5).cast nbuf0_5)) (hstage0_6 (((cfgM m (hO m)).slots t 6).cast nbuf0_6)) (hstage0_7 (((cfgM m (hO m)).slots t 7).cast nbuf0_7)) (hstage0_8 (((cfgM m (hO m)).slots t 8).cast nbuf0_8)) (hstage0_9 (((cfgM m (hO m)).slots t 9).cast nbuf0_9)) (hstage0_10 (((cfgM m (hO m)).slots t 10).cast nbuf0_10)) (Memref.isWhole_whole _) (Memref.isWhole_whole _) (Memref.isWhole_whole _) (Memref.isWhole_whole _) (Memref.isWhole_whole _) (Memref.isWhole_whole _) (Memref.isWhole_whole _) (Memref.isWhole_whole _)

/-- The body's program at point `t`. -/
abbrev bodyT (t : Fin (cfgM m (hO m)).N) := Cert.Body.body (F := F) (fm m t) (fm_whole m t) kc (grid0.coords t)

/-- The generated body at a point is the program of the body, run by the machine. -/
theorem bodyAt_eq (t : Fin (cfgM m (hO m)).N) :
    bodyAt0 (adm m (hO m)) t = Cert.Dsl.interp (fm m t) (Memref.whole main_arg7) (bodyT m t) :=
  body_is (Memref.whole main_arg7) (Memref.isWhole_whole _) (spec0_0.stage ((cfgM m (hO m)).slots t 0)) (hstage0_0 (((cfgM m (hO m)).slots t 0).cast nbuf0_0)) (spec0_1.stage ((cfgM m (hO m)).slots t 1)) (hstage0_1 (((cfgM m (hO m)).slots t 1).cast nbuf0_1)) (spec0_2.stage ((cfgM m (hO m)).slots t 2)) (hstage0_2 (((cfgM m (hO m)).slots t 2).cast nbuf0_2)) (spec0_3.stage ((cfgM m (hO m)).slots t 3)) (hstage0_3 (((cfgM m (hO m)).slots t 3).cast nbuf0_3)) (spec0_4.stage ((cfgM m (hO m)).slots t 4)) (hstage0_4 (((cfgM m (hO m)).slots t 4).cast nbuf0_4)) (spec0_5.stage ((cfgM m (hO m)).slots t 5)) (hstage0_5 (((cfgM m (hO m)).slots t 5).cast nbuf0_5)) (spec0_6.stage ((cfgM m (hO m)).slots t 6)) (hstage0_6 (((cfgM m (hO m)).slots t 6).cast nbuf0_6)) (spec0_7.stage ((cfgM m (hO m)).slots t 7)) (hstage0_7 (((cfgM m (hO m)).slots t 7).cast nbuf0_7)) (spec0_8.stage ((cfgM m (hO m)).slots t 8)) (hstage0_8 (((cfgM m (hO m)).slots t 8).cast nbuf0_8)) (spec0_9.stage ((cfgM m (hO m)).slots t 9)) (hstage0_9 (((cfgM m (hO m)).slots t 9).cast nbuf0_9)) (spec0_10.stage ((cfgM m (hO m)).slots t 10)) (hstage0_10 (((cfgM m (hO m)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (grid0.coords t)

/-- Holding the nineteen buffers, written out. -/
theorem own_eq (c : Dev nD) (M : (j : Fin 19) → Memref sig .tc .vmem (bsh j) (bel j)) (σ : (j : Fin 19) → (bsh j).Idx → Elt F (bel j)) :
    (Cert.Dsl.own M c σ : sProp 𝕄) = iprop(owns (c : Thread nD τ) (M 0) fullShare (σ 0) ∗ owns (c : Thread nD τ) (M 1) fullShare (σ 1) ∗ owns (c : Thread nD τ) (M 2) fullShare (σ 2) ∗ owns (c : Thread nD τ) (M 3) fullShare (σ 3) ∗ owns (c : Thread nD τ) (M 4) fullShare (σ 4) ∗ owns (c : Thread nD τ) (M 5) fullShare (σ 5) ∗ owns (c : Thread nD τ) (M 6) fullShare (σ 6) ∗ owns (c : Thread nD τ) (M 7) fullShare (σ 7) ∗ owns (c : Thread nD τ) (M 8) fullShare (σ 8) ∗ owns (c : Thread nD τ) (M 9) fullShare (σ 9) ∗ owns (c : Thread nD τ) (M 10) fullShare (σ 10) ∗ owns (c : Thread nD τ) (M 11) fullShare (σ 11) ∗ owns (c : Thread nD τ) (M 12) fullShare (σ 12) ∗ owns (c : Thread nD τ) (M 13) fullShare (σ 13) ∗ owns (c : Thread nD τ) (M 14) fullShare (σ 14) ∗ owns (c : Thread nD τ) (M 15) fullShare (σ 15) ∗ owns (c : Thread nD τ) (M 16) fullShare (σ 16) ∗ owns (c : Thread nD τ) (M 17) fullShare (σ 17) ∗ owns (c : Thread nD τ) (M 18) fullShare (σ 18)) :=
  Idealize.SL.BI.bigSep_univ_eq_bigSepL [(0 : Fin 19), (1 : Fin 19), (2 : Fin 19), (3 : Fin 19), (4 : Fin 19), (5 : Fin 19), (6 : Fin 19), (7 : Fin 19), (8 : Fin 19), (9 : Fin 19), (10 : Fin 19), (11 : Fin 19), (12 : Fin 19), (13 : Fin 19), (14 : Fin 19), (15 : Fin 19), (16 : Fin 19), (17 : Fin 19), (18 : Fin 19)] (by decide) (by decide) _

/-- A point's inputs and what its buffers held before give what they hold after. -/
theorem step_at (c : Dev nD) (t : Fin grid0.N) (M : (j : Fin 19) → Memref sig .tc .vmem (bsh j) (bel j)) (hM : ∀ j, (M j).IsWhole)
    (a7 : (bsh 7).Idx → Elt F (bel 7)) (a8 : (bsh 8).Idx → Elt F (bel 8)) (a9 : (bsh 9).Idx → Elt F (bel 9)) (a10 : (bsh 10).Idx → Elt F (bel 10))
    (h8 : t.val % 16 ≠ 0 → a8 = V8 (inp m c (bOf t))) (h9 : t.val % 16 ≠ 0 → a9 = V9 (inp m c (bOf t))) (h10 : t.val % 16 ≠ 0 → a10 = V10 (inp m c (bOf t)))
    (X : (j : Fin 19) → (bsh j).Idx → Elt F (bel j)) (hX : Scr (inp m c (bN t.val)) (t.val % 16) X) :
    ∃ σ', Cert.Dsl.run (tbl m 0) (Cert.Body.body M hM kc (grid0.coords t)) (mix (blk0 m c t) (blk1 m c t) (blk2 m c t) (blk3 m c t) (blk4 m c t) (blk5 m c t) (blk6 m c t) a7 a8 a9 a10 X) = (⟨⟩, σ')
      ∧ (σ' 0 = blk0 m c t ∧ σ' 1 = blk1 m c t ∧ σ' 2 = blk2 m c t ∧ σ' 3 = blk3 m c t ∧ σ' 4 = blk4 m c t ∧ σ' 5 = blk5 m c t ∧ σ' 6 = blk6 m c t)
      ∧ (t.val % 16 = 15 → σ' 7 = V7 kc (inp m c (bOf t))) ∧ σ' 8 = V8 (inp m c (bOf t)) ∧ σ' 9 = V9 (inp m c (bOf t)) ∧ σ' 10 = V10 (inp m c (bOf t))
      ∧ Scr (inp m c (bN (t.val + 1))) ((t.val + 1) % 16) σ' := by
  have e0 : blk0 m c t = (inp m c (bOf t)).x := blk0_first m c t
  have e1 : blk1 m c t = (inp m c (bOf t)).kn := blk1_first m c t
  have e2 : blk2 m c t = (inp m c (bOf t)).vn := blk2_first m c t
  have e4 : blk4 m c t = (inp m c (bOf t)).ks := blk4_first m c t
  have e3 : blk3 m c t = (inp m c (bOf t)).k (sOf t) := congrArg (blk3 m c) (pt_of t).symm
  have e5 : blk5 m c t = (inp m c (bOf t)).v (sOf t) := congrArg (blk5 m c) (pt_of t).symm
  have e6 : blk6 m c t = (inp m c (bOf t)).vs (sOf t) := congrArg (blk6 m c) (pt_of t).symm
  rw [bN_of] at hX
  rw [coords_eq]
  obtain ⟨σ', e, hi, hI, ho⟩ := Cert.Body.step M hM kc (inp m c (bOf t)) (sOf t) (mix (blk0 m c t) (blk1 m c t) (blk2 m c t) (blk3 m c t) (blk4 m c t) (blk5 m c t) (blk6 m c t) a7 a8 a9 a10 X)
    (fun j hj => by
      match j, hj with
      | ⟨0, _⟩, _ => exact e0
      | ⟨1, _⟩, _ => exact e1
      | ⟨2, _⟩, _ => exact e2
      | ⟨3, _⟩, _ => exact e3
      | ⟨4, _⟩, _ => exact e4
      | ⟨5, _⟩, _ => exact e5
      | ⟨6, _⟩, _ => exact e6
      | ⟨n + 7, _⟩, h => exact absurd h (by show ¬ n + 7 < 7; omega))
    ⟨fun hs j h8' h16' => by
      have hs' : t.val % 16 ≠ 0 := Nat.pos_iff_ne_zero.mp hs
      match j, h8', h16' with
      | ⟨8, _⟩, _, _ => exact h8 hs'
      | ⟨9, _⟩, _, _ => exact h9 hs'
      | ⟨10, _⟩, _, _ => exact h10 hs'
      | ⟨11, _⟩, _, _ => exact hX.pro hs 11 (by decide) (by decide)
      | ⟨12, _⟩, _, _ => exact hX.pro hs 12 (by decide) (by decide)
      | ⟨13, _⟩, _, _ => exact hX.pro hs 13 (by decide) (by decide)
      | ⟨14, _⟩, _, _ => exact hX.pro hs 14 (by decide) (by decide)
      | ⟨15, _⟩, _, _ => exact hX.pro hs 15 (by decide) (by decide)
      | ⟨n + 16, _⟩, _, h => exact absurd h (by show ¬ n + 16 < 16; omega),
      fun y hy => hX.h16 y hy, fun y hy => hX.h17 y hy, fun y hy => hX.h18 y hy⟩
  refine ⟨σ', e, ⟨(hi 0 (by decide)).trans e0.symm, (hi 1 (by decide)).trans e1.symm, (hi 2 (by decide)).trans e2.symm, (hi 3 (by decide)).trans e3.symm,
    (hi 4 (by decide)).trans e4.symm, (hi 5 (by decide)).trans e5.symm, (hi 6 (by decide)).trans e6.symm⟩, fun h => ho (Fin.ext h),
    hI.pro (Nat.succ_pos _) 8 (by decide) (by decide), hI.pro (Nat.succ_pos _) 9 (by decide) (by decide), hI.pro (Nat.succ_pos _) 10 (by decide) (by decide), ?_⟩
  have hsv : (sOf t).val = t.val % 16 := rfl
  have hN : t.val < 192 := t.isLt
  by_cases h15 : t.val % 16 = 15
  · have h0 : (t.val + 1) % 16 = 0 := by omega
    rw [h0]
    exact ⟨fun h => absurd h (Nat.lt_irrefl 0), fun y hy => absurd hy (by omega), fun y hy => absurd hy (by omega), fun y hy => absurd hy (by omega)⟩
  · have h1 : (t.val + 1) % 16 = (sOf t).val + 1 := by omega
    have hb : bN (t.val + 1) = bOf t := Fin.ext (by show (t.val + 1) / 16 % 12 = t.val / 16; omega)
    rw [h1, hb]
    exact ⟨fun _ j h h' => hI.pro (Nat.succ_pos _) j (by omega) h', hI.h16, hI.h17, hI.h18⟩

end Cert.KernelIdeal.Gen

end
-- ==== Proof.IRun.lean ====
/- The body obligation and the run of @main. -/
module

public import proofs.«01_k».proof.Proof.IDat

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Body (bsh bel VV Inp V7 V8 V9 V10)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer left at contents that fit what the pipeline expects of it. -/
theorem leave {c : Dev nD} (dat : Dat τ (Elt F) Unit ℕ (UR sig nD τ) ℕ (cfgM m (hO m)) c) (w : Fin (cfgM m (hO m)).W) (t : Fin (cfgM m (hO m)).N)
    (X : ((cfgM m (hO m)).win w).block.Idx → Elt F ((cfgM m (hO m)).win w).elt)
    (h1 : (cfgM m (hO m)).idle w ((cfgM m (hO m)).grid.coords t) = false → X = dat.after w t)
    (h2 : (cfgM m (hO m)).idle w ((cfgM m (hO m)).grid.coords t) = true → ((cfgM m (hO m)).win w).flush t = true → X = dat.after w t)
    (h3 : (cfgM m (hO m)).idle w ((cfgM m (hO m)).grid.coords t) = true → ((cfgM m (hO m)).win w).flush t = false → ∃ d, dat.before w t d = X) :
    (owns (c : Thread nD τ) (((cfgM m (hO m)).win w).stage ((cfgM m (hO m)).slots t w)) fullShare X : sProp 𝕄) ⊢ dat.leavesExact w t := by
  unfold Dat.leavesExact
  cases hi : (cfgM m (hO m)).idle w ((cfgM m (hO m)).grid.coords t) with
  | false => rw [h1 hi]
  | true =>
    cases hf : ((cfgM m (hO m)).win w).flush t with
    | true => rw [h2 hi hf]
    | false =>
      obtain ⟨d, hd⟩ := h3 hi hf
      dsimp only
      iintro H
      iexists d
      rw [hd]
      iexact H

/-- Window 0's buffer at what was staged is what the pipeline expects to be left. -/
theorem leave0 (c : Dev nD) (t : Fin (cfgM m (hO m)).N) (X : (bsh 0).Idx → Elt F (bel 0)) (h : X = blk0 m c t) :
    (owns (c : Thread nD τ) (spec0_0.stage ((cfgM m (hO m)).slots t 0)) fullShare X : sProp 𝕄) ⊢ (datK m c).leavesExact 0 t :=
  leave m (datK m c) 0 t X (fun _ => h) (fun e => absurd e Bool.false_ne_true) (fun e => absurd e Bool.false_ne_true)
/-- Window 1's buffer at what was staged is what the pipeline expects to be left. -/
theorem leave1 (c : Dev nD) (t : Fin (cfgM m (hO m)).N) (X : (bsh 1).Idx → Elt F (bel 1)) (h : X = blk1 m c t) :
    (owns (c : Thread nD τ) (spec0_1.stage ((cfgM m (hO m)).slots t 1)) fullShare X : sProp 𝕄) ⊢ (datK m c).leavesExact 1 t :=
  leave m (datK m c) 1 t X (fun _ => h) (fun e => absurd e Bool.false_ne_true) (fun e => absurd e Bool.false_ne_true)
/-- Window 2's buffer at what was staged is what the pipeline expects to be left. -/
theorem leave2 (c : Dev nD) (t : Fin (cfgM m (hO m)).N) (X : (bsh 2).Idx → Elt F (bel 2)) (h : X = blk2 m c t) :
    (owns (c : Thread nD τ) (spec0_2.stage ((cfgM m (hO m)).slots t 2)) fullShare X : sProp 𝕄) ⊢ (datK m c).leavesExact 2 t :=
  leave m (datK m c) 2 t X (fun _ => h) (fun e => absurd e Bool.false_ne_true) (fun e => absurd e Bool.false_ne_true)
/-- Window 3's buffer at what was staged is what the pipeline expects to be left. -/
theorem leave3 (c : Dev nD) (t : Fin (cfgM m (hO m)).N) (X : (bsh 3).Idx → Elt F (bel 3)) (h : X = blk3 m c t) :
    (owns (c : Thread nD τ) (spec0_3.stage ((cfgM m (hO m)).slots t 3)) fullShare X : sProp 𝕄) ⊢ (datK m c).leavesExact 3 t :=
  leave m (datK m c) 3 t X (fun _ => h) (fun e => absurd e Bool.false_ne_true) (fun e => absurd e Bool.false_ne_true)
/-- Window 4's buffer at what was staged is what the pipeline expects to be left. -/
theorem leave4 (c : Dev nD) (t : Fin (cfgM m (hO m)).N) (X : (bsh 4).Idx → Elt F (bel 4)) (h : X = blk4 m c t) :
    (owns (c : Thread nD τ) (spec0_4.stage ((cfgM m (hO m)).slots t 4)) fullShare X : sProp 𝕄) ⊢ (datK m c).leavesExact 4 t :=
  leave m (datK m c) 4 t X (fun _ => h) (fun e => absurd e Bool.false_ne_true) (fun e => absurd e Bool.false_ne_true)
/-- Window 5's buffer at what was staged is what the pipeline expects to be left. -/
theorem leave5 (c : Dev nD) (t : Fin (cfgM m (hO m)).N) (X : (bsh 5).Idx → Elt F (bel 5)) (h : X = blk5 m c t) :
    (owns (c : Thread nD τ) (spec0_5.stage ((cfgM m (hO m)).slots t 5)) fullShare X : sProp 𝕄) ⊢ (datK m c).leavesExact 5 t :=
  leave m (datK m c) 5 t X (fun _ => h) (fun e => absurd e Bool.false_ne_true) (fun e => absurd e Bool.false_ne_true)
/-- Window 6's buffer at what was staged is what the pipeline expects to be left. -/
theorem leave6 (c : Dev nD) (t : Fin (cfgM m (hO m)).N) (X : (bsh 6).Idx → Elt F (bel 6)) (h : X = blk6 m c t) :
    (owns (c : Thread nD τ) (spec0_6.stage ((cfgM m (hO m)).slots t 6)) fullShare X : sProp 𝕄) ⊢ (datK m c).leavesExact 6 t :=
  leave m (datK m c) 6 t X (fun _ => h) (fun e => absurd e Bool.false_ne_true) (fun e => absurd e Bool.false_ne_true)
/-- The result window's buffer is what the pipeline expects, where at the last place of a block it holds the result. -/
theorem leave7 (c : Dev nD) (t : Fin (cfgM m (hO m)).N) (X : (bsh 7).Idx → Elt F (bel 7)) (h : t.val % 16 = 15 → X = V7 kc (inp m c (bOf t))) :
    (owns (c : Thread nD τ) (spec0_7.stage ((cfgM m (hO m)).slots t 7)) fullShare X : sProp 𝕄) ⊢ (datK m c).leavesExact 7 t :=
  leave m (datK m c) 7 t X
    (fun e => h (by by_contra h15; exact Bool.false_ne_true (e.symm.trans ((idle7 t).mpr h15))))
    (fun e f => absurd ((flush0_7 (adm m (hO m)) t).mp f) ((idle7 t).mp e))
    (fun _ _ => ⟨X, bef7 m X t.val t.isLt⟩)
/-- Window 8's buffer at the new keys' codes of the block is what the pipeline expects to be left. -/
theorem leave8 (c : Dev nD) (t : Fin (cfgM m (hO m)).N) (X : (bsh 8).Idx → Elt F (bel 8)) (h : X = V8 (inp m c (bOf t))) :
    (owns (c : Thread nD τ) (spec0_8.stage ((cfgM m (hO m)).slots t 8)) fullShare X : sProp 𝕄) ⊢ (datK m c).leavesExact 8 t :=
  leave m (datK m c) 8 t X (fun _ => h) (fun _ _ => h)
    (fun e _ => ⟨X, (bef8 m X t.val t.isLt ((idle8 t).mp e)).trans h.symm⟩)
/-- Window 9's buffer at the new values' codes of the block is what the pipeline expects to be left. -/
theorem leave9 (c : Dev nD) (t : Fin (cfgM m (hO m)).N) (X : (bsh 9).Idx → Elt F (bel 9)) (h : X = V9 (inp m c (bOf t))) :
    (owns (c : Thread nD τ) (spec0_9.stage ((cfgM m (hO m)).slots t 9)) fullShare X : sProp 𝕄) ⊢ (datK m c).leavesExact 9 t :=
  leave m (datK m c) 9 t X (fun _ => h) (fun _ _ => h)
    (fun e _ => ⟨X, (bef9 m X t.val t.isLt ((idle9 t).mp e)).trans h.symm⟩)
/-- Window 10's buffer at the new values' scales of the block is what the pipeline expects to be left. -/
theorem leave10 (c : Dev nD) (t : Fin (cfgM m (hO m)).N) (X : (bsh 10).Idx → Elt F (bel 10)) (h : X = V10 (inp m c (bOf t))) :
    (owns (c : Thread nD τ) (spec0_10.stage ((cfgM m (hO m)).slots t 10)) fullShare X : sProp 𝕄) ⊢ (datK m c).leavesExact 10 t :=
  leave m (datK m c) 10 t X (fun _ => h) (fun _ _ => h)
    (fun e _ => ⟨X, (bef10 m X t.val t.isLt ((idle10 t).mp e)).trans h.symm⟩)

/-- A program run on the nineteen buffers. -/
theorem sound19 (c : Dev nD) (M : (j : Fin 19) → Memref sig .tc .vmem (bsh j) (bel j)) (tm : Memref sig .tc .smem S1536 .i32)
    (T : S1536.Idx → Elt F .i32) (p : Cert.Body.P (F := F) M PUnit) (σ σ' : (j : Fin 19) → (bsh j).Idx → Elt F (bel j))
    (e : Cert.Dsl.run T p σ = (⟨⟩, σ')) (Q : sProp 𝕄) :
    iprop((owns (c : Thread nD τ) (M 0) fullShare (σ 0) ∗ owns (c : Thread nD τ) (M 1) fullShare (σ 1) ∗ owns (c : Thread nD τ) (M 2) fullShare (σ 2) ∗ owns (c : Thread nD τ) (M 3) fullShare (σ 3) ∗ owns (c : Thread nD τ) (M 4) fullShare (σ 4) ∗ owns (c : Thread nD τ) (M 5) fullShare (σ 5) ∗ owns (c : Thread nD τ) (M 6) fullShare (σ 6) ∗ owns (c : Thread nD τ) (M 7) fullShare (σ 7) ∗ owns (c : Thread nD τ) (M 8) fullShare (σ 8) ∗ owns (c : Thread nD τ) (M 9) fullShare (σ 9) ∗ owns (c : Thread nD τ) (M 10) fullShare (σ 10) ∗ owns (c : Thread nD τ) (M 11) fullShare (σ 11) ∗ owns (c : Thread nD τ) (M 12) fullShare (σ 12) ∗ owns (c : Thread nD τ) (M 13) fullShare (σ 13) ∗ owns (c : Thread nD τ) (M 14) fullShare (σ 14) ∗ owns (c : Thread nD τ) (M 15) fullShare (σ 15) ∗ owns (c : Thread nD τ) (M 16) fullShare (σ 16) ∗ owns (c : Thread nD τ) (M 17) fullShare (σ 17) ∗ owns (c : Thread nD τ) (M 18) fullShare (σ 18)) ∗ owns (c : Thread nD τ) tm fullShare.right T
        ∗ (iprop((owns (c : Thread nD τ) (M 0) fullShare (σ' 0) ∗ owns (c : Thread nD τ) (M 1) fullShare (σ' 1) ∗ owns (c : Thread nD τ) (M 2) fullShare (σ' 2) ∗ owns (c : Thread nD τ) (M 3) fullShare (σ' 3) ∗ owns (c : Thread nD τ) (M 4) fullShare (σ' 4) ∗ owns (c : Thread nD τ) (M 5) fullShare (σ' 5) ∗ owns (c : Thread nD τ) (M 6) fullShare (σ' 6) ∗ owns (c : Thread nD τ) (M 7) fullShare (σ' 7) ∗ owns (c : Thread nD τ) (M 8) fullShare (σ' 8) ∗ owns (c : Thread nD τ) (M 9) fullShare (σ' 9) ∗ owns (c : Thread nD τ) (M 10) fullShare (σ' 10) ∗ owns (c : Thread nD τ) (M 11) fullShare (σ' 11) ∗ owns (c : Thread nD τ) (M 12) fullShare (σ' 12) ∗ owns (c : Thread nD τ) (M 13) fullShare (σ' 13) ∗ owns (c : Thread nD τ) (M 14) fullShare (σ' 14) ∗ owns (c : Thread nD τ) (M 15) fullShare (σ' 15) ∗ owns (c : Thread nD τ) (M 16) fullShare (σ' 16) ∗ owns (c : Thread nD τ) (M 17) fullShare (σ' 17) ∗ owns (c : Thread nD τ) (M 18) fullShare (σ' 18)) ∗ owns (c : Thread nD τ) tm fullShare.right T) -∗ Q))
      ⊢ wp frame (wpE defs₀ Variants.none c none) Set.univ (Cert.Dsl.interp M tm p) (fun _ => Q) := by
  rw [← own_eq c M σ, ← own_eq c M σ']
  have h := Cert.Dsl.sound (defs := defs₀) M tm Variants.none c none Set.univ T fullShare.right (fun _ => Q) p σ
  rw [e] at h
  exact h

/-- The body at a point, on contents given. -/
theorem body_at (c : Dev nD) (t : Fin (cfgM m (hO m)).N)
    (a7 : (bsh 7).Idx → Elt F (bel 7)) (a8 : (bsh 8).Idx → Elt F (bel 8)) (a9 : (bsh 9).Idx → Elt F (bel 9)) (a10 : (bsh 10).Idx → Elt F (bel 10))
    (h8 : t.val % 16 ≠ 0 → a8 = V8 (inp m c (bOf t))) (h9 : t.val % 16 ≠ 0 → a9 = V9 (inp m c (bOf t))) (h10 : t.val % 16 ≠ 0 → a10 = V10 (inp m c (bOf t))) (Q : sProp 𝕄) :
    iprop(PhiK m c t.val ∗ (owns (c : Thread nD τ) (spec0_0.stage ((cfgM m (hO m)).slots t 0)) fullShare (blk0 m c t : (bsh 0).Idx → Elt F (bel 0)) ∗ owns (c : Thread nD τ) (spec0_1.stage ((cfgM m (hO m)).slots t 1)) fullShare (blk1 m c t : (bsh 1).Idx → Elt F (bel 1)) ∗ owns (c : Thread nD τ) (spec0_2.stage ((cfgM m (hO m)).slots t 2)) fullShare (blk2 m c t : (bsh 2).Idx → Elt F (bel 2)) ∗ owns (c : Thread nD τ) (spec0_3.stage ((cfgM m (hO m)).slots t 3)) fullShare (blk3 m c t : (bsh 3).Idx → Elt F (bel 3)) ∗ owns (c : Thread nD τ) (spec0_4.stage ((cfgM m (hO m)).slots t 4)) fullShare (blk4 m c t : (bsh 4).Idx → Elt F (bel 4)) ∗ owns (c : Thread nD τ) (spec0_5.stage ((cfgM m (hO m)).slots t 5)) fullShare (blk5 m c t : (bsh 5).Idx → Elt F (bel 5)) ∗ owns (c : Thread nD τ) (spec0_6.stage ((cfgM m (hO m)).slots t 6)) fullShare (blk6 m c t : (bsh 6).Idx → Elt F (bel 6)) ∗ owns (c : Thread nD τ) (spec0_7.stage ((cfgM m (hO m)).slots t 7)) fullShare (a7 : (bsh 7).Idx → Elt F (bel 7)) ∗ owns (c : Thread nD τ) (spec0_8.stage ((cfgM m (hO m)).slots t 8)) fullShare (a8 : (bsh 8).Idx → Elt F (bel 8)) ∗ owns (c : Thread nD τ) (spec0_9.stage ((cfgM m (hO m)).slots t 9)) fullShare (a9 : (bsh 9).Idx → Elt F (bel 9)) ∗ owns (c : Thread nD τ) (spec0_10.stage ((cfgM m (hO m)).slots t 10)) fullShare (a10 : (bsh 10).Idx → Elt F (bel 10))) ∗ (iprop(PhiK m c (t.val + 1) ∗ (datK m c).leavesExact 0 t ∗ (datK m c).leavesExact 1 t ∗ (datK m c).leavesExact 2 t ∗ (datK m c).leavesExact 3 t ∗ (datK m c).leavesExact 4 t ∗ (datK m c).leavesExact 5 t ∗ (datK m c).leavesExact 6 t ∗ (datK m c).leavesExact 7 t ∗ (datK m c).leavesExact 8 t ∗ (datK m c).leavesExact 9 t ∗ (datK m c).leavesExact 10 t) -∗ Q))
      ⊢ wp frame (wpE defs₀ Variants.none c none) Set.univ (bodyAt0 (adm m (hO m)) t) (fun _ => Q) := by
  unfold PhiK scrOwn
  iintro ⟨⟨%X, %hX, ⟨S0, S1, S2, S3, S4, S5, S6, S7⟩, HT, HR⟩, ⟨H0, H1, H2, H3, H4, H5, H6, H7, H8, H9, H10⟩, HK⟩
  obtain ⟨σ', e, ⟨i0, i1, i2, i3, i4, i5, i6⟩, o7, o8, o9, o10, hS⟩ := step_at m c t (fm m t) (fm_whole m t) a7 a8 a9 a10 h8 h9 h10 X hX
  rw [bodyAt_eq]
  iapply (sound19 c (fm m t) (Memref.whole main_arg7) (tbl m 0) (bodyT m t)
    (mix (blk0 m c t) (blk1 m c t) (blk2 m c t) (blk3 m c t) (blk4 m c t) (blk5 m c t) (blk6 m c t) a7 a8 a9 a10 X) σ' e Q)
  isplitl [H0 H1 H2 H3 H4 H5 H6 H7 H8 H9 H10 S0 S1 S2 S3 S4 S5 S6 S7]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    iexact S7
  isplitl [HT]
  · unfold tblOwn; iexact HT
  iintro ⟨⟨H0, H1, H2, H3, H4, H5, H6, H7, H8, H9, H10, S0, S1, S2, S3, S4, S5, S6, S7⟩, HT⟩
  iapply HK
  isplitl [S0 S1 S2 S3 S4 S5 S6 S7 HT HR]
  · iexists σ'
    isplitr
    · ipureintro; exact hS
    isplitl [S0 S1 S2 S3 S4 S5 S6 S7]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      iexact S7
    isplitl [HT]
    · unfold tblOwn; iexact HT
    iexact HR
  isplitl [H0]
  · iapply (leave0 m c t (σ' 0) i0); iexact H0
  isplitl [H1]
  · iapply (leave1 m c t (σ' 1) i1); iexact H1
  isplitl [H2]
  · iapply (leave2 m c t (σ' 2) i2); iexact H2
  isplitl [H3]
  · iapply (leave3 m c t (σ' 3) i3); iexact H3
  isplitl [H4]
  · iapply (leave4 m c t (σ' 4) i4); iexact H4
  isplitl [H5]
  · iapply (leave5 m c t (σ' 5) i5); iexact H5
  isplitl [H6]
  · iapply (leave6 m c t (σ' 6) i6); iexact H6
  isplitl [H7]
  · iapply (leave7 m c t (σ' 7) o7); iexact H7
  isplitl [H8]
  · iapply (leave8 m c t (σ' 8) o8); iexact H8
  isplitl [H9]
  · iapply (leave9 m c t (σ' 9) o9); iexact H9
  iapply (leave10 m c t (σ' 10) o10); iexact H10

/-- The proof data's invariant is the invariant between points. -/
theorem Phi_eq (c : Dev nD) (t : Fin ((cfgM m (hO m)).N + 1)) : (datK m c).Φ t = PhiK m c t.val := rfl
/-- The invariant before a point. -/
theorem Phi_cast (c : Dev nD) (t : Fin (cfgM m (hO m)).N) : (datK m c).Φ t.castSucc = PhiK m c t.val :=
  (Phi_eq m c t.castSucc).trans (congrArg (PhiK m c) (Fin.val_castSucc t))
/-- The invariant after a point. -/
theorem Phi_succ (c : Dev nD) (t : Fin (cfgM m (hO m)).N) : (datK m c).Φ t.succ = PhiK m c (t.val + 1) :=
  (Phi_eq m c t.succ).trans (congrArg (PhiK m c) (Fin.val_succ t))
/-- The body's half of the table, as the invariant holds it. -/
theorem tbl_in (c : Dev nD) : (tbPt0 c tbM0_0 (tbl m 0) : sProp 𝕄) ⊢ tblOwn m c := by
  unfold tblOwn
  exact Idealize.SL.BI.BIBase.Entails.of_eq (owns_whole (c : Thread nD τ) main_arg7 fullShare.right (tbl m 0)).symm

/-- The body obligation. -/
theorem hbodyK (c : Dev nD) : BodyObligation (datK m c) defs₀ Variants.none () Set.univ := by
  intro t
  rw [bigSep_W0, bigSep_W0]
  refine BIBase.Entails.trans ?_ (show _ ⊢ wp frame (wpE defs₀ Variants.none c none) Set.univ (bodyAt0 (adm m (hO m)) t) (fun _ =>
    iprop((datK m c).Φ t.succ ∗ (datK m c).owesAt () t.succ ∗ (datK m c).leavesExact 0 t ∗ (datK m c).leavesExact 1 t ∗ (datK m c).leavesExact 2 t ∗ (datK m c).leavesExact 3 t ∗ (datK m c).leavesExact 4 t ∗ (datK m c).leavesExact 5 t ∗ (datK m c).leavesExact 6 t ∗ (datK m c).leavesExact 7 t ∗ (datK m c).leavesExact 8 t ∗ (datK m c).leavesExact 9 t ∗ (datK m c).leavesExact 10 t)) from BIBase.Entails.rfl)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_at m c t ((datK m c).before 7 t d7) ((datK m c).before 8 t d8) ((datK m c).before 9 t d9) ((datK m c).before 10 t d10)
    (bef8 m d8 t.val t.isLt) (bef9 m d9 t.val t.isLt) (bef10 m d10 t.val t.isLt) _)
  isplitl [HΦ]
  · iapply (Idealize.SL.BI.BIBase.Entails.of_eq (Phi_cast m c t)); iexact HΦ
  isplitl [H0 H1 H2 H3 H4 H5 H6 H7 H8 H9 H10]
  · isplitl [H0]
    · rw [← bef0 m t d0]; iexact H0
    isplitl [H1]
    · rw [← bef1 m t d1]; iexact H1
    isplitl [H2]
    · rw [← bef2 m t d2]; iexact H2
    isplitl [H3]
    · rw [← bef3 m t d3]; iexact H3
    isplitl [H4]
    · rw [← bef4 m t d4]; iexact H4
    isplitl [H5]
    · rw [← bef5 m t d5]; iexact H5
    isplitl [H6]
    · rw [← bef6 m t d6]; iexact H6
    isplitl [H7]
    · iexact H7
    isplitl [H8]
    · iexact H8
    isplitl [H9]
    · iexact H9
    iexact H10
  iintro ⟨HΦ, HW⟩
  isplitl [HΦ]
  · iapply (Idealize.SL.BI.BIBase.Entails.of_eq (Phi_succ m c t).symm); iexact HΦ
  isplitl [Ho]
  · iexact Ho
  iexact HW

/-- The scratch buffers at given contents, as a family. -/
def famS (f0 : (bsh 11).Idx → Elt F (bel 11)) (f1 : (bsh 12).Idx → Elt F (bel 12)) (f2 : (bsh 13).Idx → Elt F (bel 13)) (f3 : (bsh 14).Idx → Elt F (bel 14)) (f4 : (bsh 15).Idx → Elt F (bel 15)) (f5 : (bsh 16).Idx → Elt F (bel 16)) (f6 : (bsh 17).Idx → Elt F (bel 17)) (f7 : (bsh 18).Idx → Elt F (bel 18)) (X : (j : Fin 19) → (bsh j).Idx → Elt F (bel j)) :
    (j : Fin 19) → (bsh j).Idx → Elt F (bel j)
  | ⟨0, _⟩ => X 0
  | ⟨1, _⟩ => X 1
  | ⟨2, _⟩ => X 2
  | ⟨3, _⟩ => X 3
  | ⟨4, _⟩ => X 4
  | ⟨5, _⟩ => X 5
  | ⟨6, _⟩ => X 6
  | ⟨7, _⟩ => X 7
  | ⟨8, _⟩ => X 8
  | ⟨9, _⟩ => X 9
  | ⟨10, _⟩ => X 10
  | ⟨11, _⟩ => f0
  | ⟨12, _⟩ => f1
  | ⟨13, _⟩ => f2
  | ⟨14, _⟩ => f3
  | ⟨15, _⟩ => f4
  | ⟨16, _⟩ => f5
  | ⟨17, _⟩ => f6
  | ⟨18, _⟩ => f7
  | ⟨n + 19, h⟩ => absurd h (by omega)

/-- The scratch buffers at any contents are the invariant's, at the start of a block. -/
theorem scr_in (c : Dev nD) : (Pipeline.scopedRest (Ix := Unit) (Name := ℕ) (U := UR sig nD τ) (Lvl := ℕ) (Val := Elt F) spec0 c : sProp 𝕄) ⊢ iprop(∃ X, scrOwn c X) := by
  rw [scopedRest0_eq]
  unfold scrOwn
  simp only [owns_whole]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists (famS f0 f1 f2 f3 f4 f5 f6 f7 fun _ _ => Classical.arbitrary _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

/-- The scratch buffers at any contents are handed back to the region. -/
theorem scr_out (c : Dev nD) (X) : (scrOwn c X : sProp 𝕄) ⊢ Pipeline.scopedRest (Ix := Unit) (Name := ℕ) (U := UR sig nD τ) (Lvl := ℕ) (Val := Elt F) spec0 c := by
  rw [scopedRest0_eq]
  unfold scrOwn
  simp only [owns_whole]
  iintro ⟨H0, H1, H2, H3, H4, H5, H6, H7⟩
  isplitl [H0]
  · iexists (X 11); iexact H0
  isplitl [H1]
  · iexists (X 12); iexact H1
  isplitl [H2]
  · iexists (X 13); iexact H2
  isplitl [H3]
  · iexists (X 14); iexact H3
  isplitl [H4]
  · iexists (X 15); iexact H4
  isplitl [H5]
  · iexists (X 16); iexact H5
  isplitl [H6]
  · iexists (X 17); iexact H6
  iexists (X 18); iexact H7

/-- What the region starts with gives the invariant before the first point. -/
theorem hinK (c : Dev nD) : iprop(Pipeline.ΦA spec0 c ∗ Pipeline.ΦT pre0 (tbl m) c) ⊢ PhiK m c 0 := by
  unfold Pipeline.ΦA PhiK
  rw [PhiT0_eq]
  iintro ⟨⟨HS, HR⟩, HT⟩
  ihave HS' := (scr_in c) $$ HS
  icases HS' with ⟨%X, HS⟩
  iexists X
  isplitr
  · ipureintro
    exact ⟨fun h => absurd h (Nat.lt_irrefl 0), fun y hy => absurd hy (by omega), fun y hy => absurd hy (by omega), fun y hy => absurd hy (by omega)⟩
  isplitl [HS]
  · iexact HS
  isplitl [HT]
  · iapply (tbl_in m c); iexact HT
  iexact HR

/-- The invariant gives back what the region started with. -/
theorem houtK (c : Dev nD) (n : ℕ) : PhiK m c n ⊢ Pipeline.ΦA spec0 c := by
  unfold Pipeline.ΦA PhiK
  iintro ⟨%X, -, HS, -, HR⟩
  isplitl [HS]
  · iapply (scr_out c X); iexact HS
  iexact HR

/-- The proof data of the one region. -/
def datsK (p : Fin 1) (c : Dev nD) : Dat τ (Elt F) Unit ℕ (UR sig nD τ) ℕ ((Pipeline.pin pcfgs fun _ => adm m (hO m)) p) c := datK m c

set_option backward.isDefEq.respectTransparency.types false in
/-- The run of @main: every array and every other buffer at known contents, all semaphores at zero. -/
theorem runK : θ_run defs (onTc (τ := τ) (main (F := F))) (s₀ m ρ)
    (fun r => Pipeline.FramePost (Pipeline.pin pcfgs fun _ => adm m (hO m)) (datsK m) 0
      (Pipeline.afterTail pcfgs (fun _ => adm m (hO m)) (datsK m) 0 (V0 m) [hostOps1]) r ∧ r.2.sem = fun _ => 0) :=
  Pipeline.θ_run_frameP_around_track pcfgs (fun _ => adm m (hO m)) (datsK m) (0 : Fin 1) launch0 defs₀ Variants.none m ρ main
    (fun c => (hbodyK m c).loose)
    (fun c w => by fin_cases w <;> rfl) (fun _ _ => rfl) (V0 m) [hostOps1] sfx_sub sfx_fresh sfx_keeps (hmain m Variants.none)
    (fun _ _ => rfl) (fun c k => V_pre m c k) (fun c => hinK m c) (fun c => houtK m c _) _ (fun _ h => h)

end Cert.KernelIdeal.Gen

end
-- ==== Proof.Frames.lean ====
/- The three frames and the renaming of the scale constant. -/
module

public import proofs.«01_k».proof.Defs
public import proofs.«01_k».proof.Proof.KRun
public import proofs.«01_k».proof.Proof.IRun
public import proofs.«01_k».proof.Proof.Gen.ReferenceIdeal.Frame

@[expose] public section

set_option maxRecDepth 16384

noncomputable section

namespace Cert.Kernel.Gen

open Idealize.ShloMosaic Idealize.ShloMosaic.TcCoe Idealize.SL.Sem

/-- The kernel on machine floats runs, its arguments end unchanged, and all semaphores end at zero. -/
theorem frame_thm : Cert.quiescent_Kernel := fun m g _ =>
  (θ_run _ _ _).mono (fun _ hh => ⟨fun c =>
      have h := hh.1
      ⟨((h c).2 main_arg0 (by decide : main_arg0 ∈ Pipeline.restRefs sig spec0)).trans (W_main_arg0 m (hO m) (datsK m) c),
        ((h c).2 main_arg1 (by decide : main_arg1 ∈ Pipeline.restRefs sig spec0)).trans (W_main_arg1 m (hO m) (datsK m) c),
        ((h c).2 main_arg2 (by decide : main_arg2 ∈ Pipeline.restRefs sig spec0)).trans (W_main_arg2 m (hO m) (datsK m) c),
        ((h c).2 main_arg3 (by decide : main_arg3 ∈ Pipeline.restRefs sig spec0)).trans (W_main_arg3 m (hO m) (datsK m) c),
        ((h c).2 main_arg4 (by decide : main_arg4 ∈ Pipeline.restRefs sig spec0)).trans (W_main_arg4 m (hO m) (datsK m) c),
        ((h c).2 main_arg5 (by decide : main_arg5 ∈ Pipeline.restRefs sig spec0)).trans (W_main_arg5 m (hO m) (datsK m) c),
        ((h c).2 main_arg6 (by decide : main_arg6 ∈ Pipeline.restRefs sig spec0)).trans (W_main_arg6 m (hO m) (datsK m) c),
        ((h c).2 main_arg7 (by decide : main_arg7 ∈ Pipeline.restRefs sig spec0)).trans (W_main_arg7 m (hO m) (datsK m) c)⟩, hh.2⟩)
    (runK (F := Bits) m g)

end Cert.Kernel.Gen

namespace Cert.KernelIdeal.Gen

open Idealize.ShloMosaic Idealize.ShloMosaic.TcCoe Idealize.SL.Sem

/-- The kernel on extended reals runs, its arguments end unchanged, and all semaphores end at zero. -/
theorem frame_thm : Cert.quiescent_KernelIdeal := fun m g _ =>
  (θ_run _ _ _).mono (fun _ hh => ⟨fun c =>
      have h := hh.1
      ⟨((h c).2 main_arg0 (by decide : main_arg0 ∈ Pipeline.restRefs sig spec0)).trans (W_main_arg0 m (hO m) (datsK m) c),
        ((h c).2 main_arg1 (by decide : main_arg1 ∈ Pipeline.restRefs sig spec0)).trans (W_main_arg1 m (hO m) (datsK m) c),
        ((h c).2 main_arg2 (by decide : main_arg2 ∈ Pipeline.restRefs sig spec0)).trans (W_main_arg2 m (hO m) (datsK m) c),
        ((h c).2 main_arg3 (by decide : main_arg3 ∈ Pipeline.restRefs sig spec0)).trans (W_main_arg3 m (hO m) (datsK m) c),
        ((h c).2 main_arg4 (by decide : main_arg4 ∈ Pipeline.restRefs sig spec0)).trans (W_main_arg4 m (hO m) (datsK m) c),
        ((h c).2 main_arg5 (by decide : main_arg5 ∈ Pipeline.restRefs sig spec0)).trans (W_main_arg5 m (hO m) (datsK m) c),
        ((h c).2 main_arg6 (by decide : main_arg6 ∈ Pipeline.restRefs sig spec0)).trans (W_main_arg6 m (hO m) (datsK m) c),
        ((h c).2 main_arg7 (by decide : main_arg7 ∈ Pipeline.restRefs sig spec0)).trans (W_main_arg7 m (hO m) (datsK m) c)⟩, hh.2⟩)
    (runK (F := Ideal) m g)

end Cert.KernelIdeal.Gen

namespace Cert.Frames

open Idealize.ShloMosaic Idealize.SL.Sem

/-- The reference on extended reals runs, its arguments end unchanged, and all semaphores end at zero. -/
theorem frame_ref : Cert.quiescent_ReferenceIdeal := fun m g _ => Cert.ReferenceIdeal.Gen.frame m g

/-- The score scale of the kernel, as a machine float, stands for 1 / (√96 · log 2). -/
theorem preserves : Cert.preserves_Kernel_KernelIdeal :=
  IdealRules.named_const.statement Cert.KernelIdeal.κ "score_scale_log2e" .f32 0x3E16C740#32 _ rfl

end Cert.Frames

end
-- ==== Proof.IAt.lean ====
/- The arrays around the region: what it reads, transposed from the arguments. -/
module

public import proofs.«01_k».proof.Proof.IRun
public import Idealize.ShloMosaic.Lib.Claim
public import Idealize.ShloMosaic.Lib.Pointwise

@[expose] public section

set_option maxRecDepth 16384

noncomputable section

namespace Cert.KernelIdeal.Gen

open Idealize.ShloMosaic Idealize.ShloMosaic.TcCoe
open Idealize.SL.Sem
open Cert.Body (Inp V7 V8 V9 V10)

variable (m : (ℓ : Loc nD τ sig) → Buf (Elt Ideal) ℓ) (c : Dev nD)

/-- As the region is entered, buffer 0 holds the queries, transposed. -/
theorem v0_at (j : Fin 2) (h : Fin 20) (a : Fin 96) (n : Fin 1536) :
    V m c main_v0 (ix4 j h a n) = m ((c : Thread nD τ).loc main_arg0) (ix4 n j h a) := by
  unfold V V0
  simp only [hostOps0, List.flatten_cons, List.flatten_nil, List.append_nil, StableHlo.after_cons, StableHlo.after_nil]
  after_results_simp
  pointwise []
/-- As the region is entered, buffer 1 holds the new keys, transposed. -/
theorem v1_at (j : Fin 2) (h : Fin 4) (a : Fin 96) (n : Fin 1536) :
    V m c main_v1 (ix4 j h a n) = m ((c : Thread nD τ).loc main_arg1) (ix4 n j h a) := by
  unfold V V0
  simp only [hostOps0, List.flatten_cons, List.flatten_nil, List.append_nil, StableHlo.after_cons, StableHlo.after_nil]
  after_results_simp
  pointwise []
/-- As the region is entered, buffer 2 holds the new values, transposed. -/
theorem v2_at (j : Fin 2) (h : Fin 4) (a : Fin 96) (n : Fin 1536) :
    V m c main_v2 (ix4 j h a n) = m ((c : Thread nD τ).loc main_arg2) (ix4 n j h a) := by
  unfold V V0
  simp only [hostOps0, List.flatten_cons, List.flatten_nil, List.append_nil, StableHlo.after_cons, StableHlo.after_nil]
  after_results_simp
  pointwise []
/-- As the region is entered, buffer 3 holds the cached keys, transposed. -/
theorem v3_at (n : Fin 1536) (h : Fin 4) (a : Fin 96) (t : Fin 512) :
    V m c main_v3 (ix4 n h a t) = m ((c : Thread nD τ).loc main_arg3) (ix4 n t h a) := by
  unfold V V0
  simp only [hostOps0, List.flatten_cons, List.flatten_nil, List.append_nil, StableHlo.after_cons, StableHlo.after_nil]
  after_results_simp
  pointwise []
/-- As the region is entered, buffer 4 holds the cached values, transposed. -/
theorem v4_at (n : Fin 1536) (h : Fin 4) (a : Fin 96) (t : Fin 512) :
    V m c main_v4 (ix4 n h a t) = m ((c : Thread nD τ).loc main_arg5) (ix4 n t h a) := by
  unfold V V0
  simp only [hostOps0, List.flatten_cons, List.flatten_nil, List.append_nil, StableHlo.after_cons, StableHlo.after_nil]
  after_results_simp
  pointwise []
/-- As the region is entered, buffer 5 holds the key scales, transposed. -/
theorem v5_at (h : Fin 4) (a : Fin 96) (n : Fin 1536) :
    V m c main_v5 (ix3 h a n) = m ((c : Thread nD τ).loc main_arg4) (ix3 n h a) := by
  unfold V V0
  simp only [hostOps0, List.flatten_cons, List.flatten_nil, List.append_nil, StableHlo.after_cons, StableHlo.after_nil]
  after_results_simp
  pointwise []
/-- As the region is entered, buffer 6 holds the cached values' scales, transposed. -/
theorem v6_at (n : Fin 1536) (h : Fin 4) (t : Fin 512) :
    V m c main_v6 (ix3 n h t) = m ((c : Thread nD τ).loc main_arg6) (ix3 n t h) := by
  unfold V V0
  simp only [hostOps0, List.flatten_cons, List.flatten_nil, List.append_nil, StableHlo.after_cons, StableHlo.after_nil]
  after_results_simp
  pointwise []

/-! ### The results, transposed back -/

variable (dats : (p : Fin _) → (c : Dev nD) → Pipeline.Dat τ (Elt Ideal) Unit ℕ (Idealize.ShloMosaic.UR sig nD τ) ℕ ((Pipeline.pin pcfgs fun _ => adm m (hO m)) p) c)

/-- After the run, result buffer 8 (the attention result) holds the region's array, transposed. -/
theorem v8_at (n : Fin 1536) (s : Fin 2) (h : Fin 20) (a : Fin 96) :
    Pipeline.afterTail pcfgs (fun _ => adm m (hO m)) dats 0 (V0 m) [hostOps1] c main_v8 (ix4 n s h a)
      = (dats 0 c).arrAt 7 (cfgM m (hO m)).N (ix4 s h a n) := by
  unfold Pipeline.afterTail
  simp only [hostOps1, List.flatten_cons, List.flatten_nil, List.append_nil, StableHlo.after_cons, StableHlo.after_nil]
  after_results_simp
  have e := Pipeline.withArrays_arr spec0 (by decide) c (V0 m c) (fun w => (dats 0 c).arrAt w (cfgM m (hO m)).N) 7
  refine Eq.trans ?_ (congrFun e (ix4 s h a n))
  pointwise []
/-- After the run, result buffer 9 (the new keys' codes) holds the region's array, transposed. -/
theorem v9_at (n : Fin 1536) (s : Fin 2) (h : Fin 4) (a : Fin 96) :
    Pipeline.afterTail pcfgs (fun _ => adm m (hO m)) dats 0 (V0 m) [hostOps1] c main_v9 (ix4 n s h a)
      = (dats 0 c).arrAt 8 (cfgM m (hO m)).N (ix4 s h a n) := by
  unfold Pipeline.afterTail
  simp only [hostOps1, List.flatten_cons, List.flatten_nil, List.append_nil, StableHlo.after_cons, StableHlo.after_nil]
  after_results_simp
  have e := Pipeline.withArrays_arr spec0 (by decide) c (V0 m c) (fun w => (dats 0 c).arrAt w (cfgM m (hO m)).N) 8
  refine Eq.trans ?_ (congrFun e (ix4 s h a n))
  pointwise []
/-- After the run, result buffer 10 (the new values' codes) holds the region's array, transposed. -/
theorem v10_at (n : Fin 1536) (s : Fin 2) (h : Fin 4) (a : Fin 96) :
    Pipeline.afterTail pcfgs (fun _ => adm m (hO m)) dats 0 (V0 m) [hostOps1] c main_v10 (ix4 n s h a)
      = (dats 0 c).arrAt 9 (cfgM m (hO m)).N (ix4 s h a n) := by
  unfold Pipeline.afterTail
  simp only [hostOps1, List.flatten_cons, List.flatten_nil, List.append_nil, StableHlo.after_cons, StableHlo.after_nil]
  after_results_simp
  have e := Pipeline.withArrays_arr spec0 (by decide) c (V0 m c) (fun w => (dats 0 c).arrAt w (cfgM m (hO m)).N) 9
  refine Eq.trans ?_ (congrFun e (ix4 s h a n))
  pointwise []
/-- After the run, result buffer 11 (the new values' scales) holds the region's array, transposed. -/
theorem v11_at (n : Fin 1536) (s : Fin 2) (h : Fin 4) :
    Pipeline.afterTail pcfgs (fun _ => adm m (hO m)) dats 0 (V0 m) [hostOps1] c main_v11 (ix3 n s h)
      = (dats 0 c).arrAt 10 (cfgM m (hO m)).N (ix3 s h n) := by
  unfold Pipeline.afterTail
  simp only [hostOps1, List.flatten_cons, List.flatten_nil, List.append_nil, StableHlo.after_cons, StableHlo.after_nil]
  after_results_simp
  have e := Pipeline.withArrays_arr spec0 (by decide) c (V0 m c) (fun w => (dats 0 c).arrAt w (cfgM m (hO m)).N) 10
  refine Eq.trans ?_ (congrFun e (ix3 s h n))
  pointwise []

/-! ### The results at the region's end -/

/-- The number of window 7's blocks along axis 0. -/
theorem nb7_0 : ((cfgM m (hO m)).win 7).nblk (0 : Fin 4) = 1 := show (2 + 2 - 1) / 2 = _ from rfl
/-- The number of window 7's blocks along axis 1. -/
theorem nb7_1 : ((cfgM m (hO m)).win 7).nblk (1 : Fin 4) = 1 := show (20 + 20 - 1) / 20 = _ from rfl
/-- The number of window 7's blocks along axis 2. -/
theorem nb7_2 : ((cfgM m (hO m)).win 7).nblk (2 : Fin 4) = 1 := show (96 + 96 - 1) / 96 = _ from rfl
/-- The number of window 7's blocks along axis 3. -/
theorem nb7_3 : ((cfgM m (hO m)).win 7).nblk (3 : Fin 4) = 12 := show (1536 + 128 - 1) / 128 = _ from rfl
/-- The blocks of window 7 cover its array. -/
theorem cov7 : ((cfgM m (hO m)).win 7).Covers := by
  refine ⟨fun a => (by decide : ∀ a, 0 < S2x20x96x128.size a) a, fun β => ⟨pt ⟨(β (3 : Fin 4)).val, lt_of_lt_of_eq (β (3 : Fin 4)).isLt (nb7_3 m)⟩ 15, (flush0_7 (adm m (hO m)) _).mpr (by show (16 * (β (3 : Fin 4)).val + 15) % 16 = 15; omega), fun a => ?_⟩⟩
  match a with
    | ⟨0, _⟩ => refine ⟨?_, .inl rfl⟩; rw [idx7]; show 0 = (β (0 : Fin 4)).val; have : (β (0 : Fin 4)).val < 1 := lt_of_lt_of_eq (β (0 : Fin 4)).isLt (nb7_0 m); omega
    | ⟨1, _⟩ => refine ⟨?_, .inl rfl⟩; rw [idx7]; show 0 = (β (1 : Fin 4)).val; have : (β (1 : Fin 4)).val < 1 := lt_of_lt_of_eq (β (1 : Fin 4)).isLt (nb7_1 m); omega
    | ⟨2, _⟩ => refine ⟨?_, .inl rfl⟩; rw [idx7]; show 0 = (β (2 : Fin 4)).val; have : (β (2 : Fin 4)).val < 1 := lt_of_lt_of_eq (β (2 : Fin 4)).isLt (nb7_2 m); omega
    | ⟨3, _⟩ => refine ⟨?_, .inl rfl⟩; rw [idx7, bOf_pt]; rfl
/-- The whole array of the attention result, block by block. -/
def G7 : S2x20x96x1536.Idx → EReal := fun y => V7 kc (inp m c ⟨(y 3).val / 128, by have : (y 3).val < 1536 := (y 3).isLt; omega⟩) (ix4 (y 0) (y 1) (y 2) ⟨(y 3).val % 128, Nat.mod_lt _ (by decide)⟩)
/-- A place of a block of window 7 is the place of the whole array it is staged to. -/
theorem G7_at (t : Fin grid0.N) (y : S2x20x96x128.Idx) (i : S2x20x96x1536.Idx) (hi : ∀ a, (i a).val = (![0, 0, 0, 128 * (bOf t).val] a) + (y a).val) :
    V7 kc (inp m c (bOf t)) y = G7 m c i := by
  obtain ⟨j, h, a, b, rfl⟩ : ∃ (j : Fin 2) (h : Fin 20) (a : Fin 96) (b : Fin 128), y = ix4 j h a b := ⟨_, _, _, _, eq_ix4 y⟩
  obtain rfl : i = (ix4 j h a ⟨128 * (bOf t).val + b.val, by omega⟩) := by
    funext a; apply Fin.ext
    match a with
    | ⟨0, _⟩ => exact (hi 0).trans (Nat.zero_add _)
    | ⟨1, _⟩ => exact (hi 1).trans (Nat.zero_add _)
    | ⟨2, _⟩ => exact (hi 2).trans (Nat.zero_add _)
    | ⟨3, _⟩ => exact hi 3
  unfold G7
  have e1 : (⟨(128 * (bOf t).val + b.val) / 128, by omega⟩ : Fin 12) = bOf t := Fin.ext (by show (128 * (bOf t).val + b.val) / 128 = _; omega)
  have e2 : (⟨(128 * (bOf t).val + b.val) % 128, Nat.mod_lt _ (by decide)⟩ : Fin 128) = b := Fin.ext (by show (128 * (bOf t).val + b.val) % 128 = _; omega)
  show _ = V7 kc (inp m c ⟨(128 * (bOf t).val + b.val) / 128, _⟩) (ix4 j h a ⟨(128 * (bOf t).val + b.val) % 128, _⟩)
  rw [e1, e2]
/-- At the region's end, the array of window 7 (the attention result) is the whole array. -/
theorem arr7 : (datK m c).arrAt 7 (cfgM m (hO m)).N = G7 m c := by
  refine (datK m c).arrAt_eq_of_covers 7 _ (cov7 m) fun t hf y => ?_
  refine G7_at m c t y _ fun a => ?_
  have e := idx7 m t
  blk_simp
  rw [e]
  match a with
    | ⟨0, _⟩ => rfl
    | ⟨1, _⟩ => rfl
    | ⟨2, _⟩ => rfl
    | ⟨3, _⟩ => show (bOf t).val * 128 + _ = 128 * (bOf t).val + _; omega
/-- The number of window 8's blocks along axis 0. -/
theorem nb8_0 : ((cfgM m (hO m)).win 8).nblk (0 : Fin 4) = 1 := show (2 + 2 - 1) / 2 = _ from rfl
/-- The number of window 8's blocks along axis 1. -/
theorem nb8_1 : ((cfgM m (hO m)).win 8).nblk (1 : Fin 4) = 1 := show (4 + 4 - 1) / 4 = _ from rfl
/-- The number of window 8's blocks along axis 2. -/
theorem nb8_2 : ((cfgM m (hO m)).win 8).nblk (2 : Fin 4) = 1 := show (96 + 96 - 1) / 96 = _ from rfl
/-- The number of window 8's blocks along axis 3. -/
theorem nb8_3 : ((cfgM m (hO m)).win 8).nblk (3 : Fin 4) = 12 := show (1536 + 128 - 1) / 128 = _ from rfl
/-- The blocks of window 8 cover its array. -/
theorem cov8 : ((cfgM m (hO m)).win 8).Covers := by
  refine ⟨fun a => (by decide : ∀ a, 0 < S2x4x96x128.size a) a, fun β => ⟨pt ⟨(β (3 : Fin 4)).val, lt_of_lt_of_eq (β (3 : Fin 4)).isLt (nb8_3 m)⟩ 15, (flush0_8 (adm m (hO m)) _).mpr (by show (16 * (β (3 : Fin 4)).val + 15) % 16 = 15; omega), fun a => ?_⟩⟩
  match a with
    | ⟨0, _⟩ => refine ⟨?_, .inl rfl⟩; rw [idx8]; show 0 = (β (0 : Fin 4)).val; have : (β (0 : Fin 4)).val < 1 := lt_of_lt_of_eq (β (0 : Fin 4)).isLt (nb8_0 m); omega
    | ⟨1, _⟩ => refine ⟨?_, .inl rfl⟩; rw [idx8]; show 0 = (β (1 : Fin 4)).val; have : (β (1 : Fin 4)).val < 1 := lt_of_lt_of_eq (β (1 : Fin 4)).isLt (nb8_1 m); omega
    | ⟨2, _⟩ => refine ⟨?_, .inl rfl⟩; rw [idx8]; show 0 = (β (2 : Fin 4)).val; have : (β (2 : Fin 4)).val < 1 := lt_of_lt_of_eq (β (2 : Fin 4)).isLt (nb8_2 m); omega
    | ⟨3, _⟩ => refine ⟨?_, .inl rfl⟩; rw [idx8, bOf_pt]; rfl
/-- The whole array of the new keys' codes, block by block. -/
def G8 : S2x4x96x1536.Idx → BitVec 8 := fun y => V8 (inp m c ⟨(y 3).val / 128, by have : (y 3).val < 1536 := (y 3).isLt; omega⟩) (ix4 (y 0) (y 1) (y 2) ⟨(y 3).val % 128, Nat.mod_lt _ (by decide)⟩)
/-- A place of a block of window 8 is the place of the whole array it is staged to. -/
theorem G8_at (t : Fin grid0.N) (y : S2x4x96x128.Idx) (i : S2x4x96x1536.Idx) (hi : ∀ a, (i a).val = (![0, 0, 0, 128 * (bOf t).val] a) + (y a).val) :
    V8 (inp m c (bOf t)) y = G8 m c i := by
  obtain ⟨j, h, a, b, rfl⟩ : ∃ (j : Fin 2) (h : Fin 4) (a : Fin 96) (b : Fin 128), y = ix4 j h a b := ⟨_, _, _, _, eq_ix4 y⟩
  obtain rfl : i = (ix4 j h a ⟨128 * (bOf t).val + b.val, by omega⟩) := by
    funext a; apply Fin.ext
    match a with
    | ⟨0, _⟩ => exact (hi 0).trans (Nat.zero_add _)
    | ⟨1, _⟩ => exact (hi 1).trans (Nat.zero_add _)
    | ⟨2, _⟩ => exact (hi 2).trans (Nat.zero_add _)
    | ⟨3, _⟩ => exact hi 3
  unfold G8
  have e1 : (⟨(128 * (bOf t).val + b.val) / 128, by omega⟩ : Fin 12) = bOf t := Fin.ext (by show (128 * (bOf t).val + b.val) / 128 = _; omega)
  have e2 : (⟨(128 * (bOf t).val + b.val) % 128, Nat.mod_lt _ (by decide)⟩ : Fin 128) = b := Fin.ext (by show (128 * (bOf t).val + b.val) % 128 = _; omega)
  show _ = V8 (inp m c ⟨(128 * (bOf t).val + b.val) / 128, _⟩) (ix4 j h a ⟨(128 * (bOf t).val + b.val) % 128, _⟩)
  rw [e1, e2]
/-- At the region's end, the array of window 8 (the new keys' codes) is the whole array. -/
theorem arr8 : (datK m c).arrAt 8 (cfgM m (hO m)).N = G8 m c := by
  refine (datK m c).arrAt_eq_of_covers 8 _ (cov8 m) fun t hf y => ?_
  refine G8_at m c t y _ fun a => ?_
  have e := idx8 m t
  blk_simp
  rw [e]
  match a with
    | ⟨0, _⟩ => rfl
    | ⟨1, _⟩ => rfl
    | ⟨2, _⟩ => rfl
    | ⟨3, _⟩ => show (bOf t).val * 128 + _ = 128 * (bOf t).val + _; omega
/-- The number of window 9's blocks along axis 0. -/
theorem nb9_0 : ((cfgM m (hO m)).win 9).nblk (0 : Fin 4) = 1 := show (2 + 2 - 1) / 2 = _ from rfl
/-- The number of window 9's blocks along axis 1. -/
theorem nb9_1 : ((cfgM m (hO m)).win 9).nblk (1 : Fin 4) = 1 := show (4 + 4 - 1) / 4 = _ from rfl
/-- The number of window 9's blocks along axis 2. -/
theorem nb9_2 : ((cfgM m (hO m)).win 9).nblk (2 : Fin 4) = 1 := show (96 + 96 - 1) / 96 = _ from rfl
/-- The number of window 9's blocks along axis 3. -/
theorem nb9_3 : ((cfgM m (hO m)).win 9).nblk (3 : Fin 4) = 12 := show (1536 + 128 - 1) / 128 = _ from rfl
/-- The blocks of window 9 cover its array. -/
theorem cov9 : ((cfgM m (hO m)).win 9).Covers := by
  refine ⟨fun a => (by decide : ∀ a, 0 < S2x4x96x128.size a) a, fun β => ⟨pt ⟨(β (3 : Fin 4)).val, lt_of_lt_of_eq (β (3 : Fin 4)).isLt (nb9_3 m)⟩ 15, (flush0_9 (adm m (hO m)) _).mpr (by show (16 * (β (3 : Fin 4)).val + 15) % 16 = 15; omega), fun a => ?_⟩⟩
  match a with
    | ⟨0, _⟩ => refine ⟨?_, .inl rfl⟩; rw [idx9]; show 0 = (β (0 : Fin 4)).val; have : (β (0 : Fin 4)).val < 1 := lt_of_lt_of_eq (β (0 : Fin 4)).isLt (nb9_0 m); omega
    | ⟨1, _⟩ => refine ⟨?_, .inl rfl⟩; rw [idx9]; show 0 = (β (1 : Fin 4)).val; have : (β (1 : Fin 4)).val < 1 := lt_of_lt_of_eq (β (1 : Fin 4)).isLt (nb9_1 m); omega
    | ⟨2, _⟩ => refine ⟨?_, .inl rfl⟩; rw [idx9]; show 0 = (β (2 : Fin 4)).val; have : (β (2 : Fin 4)).val < 1 := lt_of_lt_of_eq (β (2 : Fin 4)).isLt (nb9_2 m); omega
    | ⟨3, _⟩ => refine ⟨?_, .inl rfl⟩; rw [idx9, bOf_pt]; rfl
/-- The whole array of the new values' codes, block by block. -/
def G9 : S2x4x96x1536.Idx → BitVec 8 := fun y => V9 (inp m c ⟨(y 3).val / 128, by have : (y 3).val < 1536 := (y 3).isLt; omega⟩) (ix4 (y 0) (y 1) (y 2) ⟨(y 3).val % 128, Nat.mod_lt _ (by decide)⟩)
/-- A place of a block of window 9 is the place of the whole array it is staged to. -/
theorem G9_at (t : Fin grid0.N) (y : S2x4x96x128.Idx) (i : S2x4x96x1536.Idx) (hi : ∀ a, (i a).val = (![0, 0, 0, 128 * (bOf t).val] a) + (y a).val) :
    V9 (inp m c (bOf t)) y = G9 m c i := by
  obtain ⟨j, h, a, b, rfl⟩ : ∃ (j : Fin 2) (h : Fin 4) (a : Fin 96) (b : Fin 128), y = ix4 j h a b := ⟨_, _, _, _, eq_ix4 y⟩
  obtain rfl : i = (ix4 j h a ⟨128 * (bOf t).val + b.val, by omega⟩) := by
    funext a; apply Fin.ext
    match a with
    | ⟨0, _⟩ => exact (hi 0).trans (Nat.zero_add _)
    | ⟨1, _⟩ => exact (hi 1).trans (Nat.zero_add _)
    | ⟨2, _⟩ => exact (hi 2).trans (Nat.zero_add _)
    | ⟨3, _⟩ => exact hi 3
  unfold G9
  have e1 : (⟨(128 * (bOf t).val + b.val) / 128, by omega⟩ : Fin 12) = bOf t := Fin.ext (by show (128 * (bOf t).val + b.val) / 128 = _; omega)
  have e2 : (⟨(128 * (bOf t).val + b.val) % 128, Nat.mod_lt _ (by decide)⟩ : Fin 128) = b := Fin.ext (by show (128 * (bOf t).val + b.val) % 128 = _; omega)
  show _ = V9 (inp m c ⟨(128 * (bOf t).val + b.val) / 128, _⟩) (ix4 j h a ⟨(128 * (bOf t).val + b.val) % 128, _⟩)
  rw [e1, e2]
/-- At the region's end, the array of window 9 (the new values' codes) is the whole array. -/
theorem arr9 : (datK m c).arrAt 9 (cfgM m (hO m)).N = G9 m c := by
  refine (datK m c).arrAt_eq_of_covers 9 _ (cov9 m) fun t hf y => ?_
  refine G9_at m c t y _ fun a => ?_
  have e := idx9 m t
  blk_simp
  rw [e]
  match a with
    | ⟨0, _⟩ => rfl
    | ⟨1, _⟩ => rfl
    | ⟨2, _⟩ => rfl
    | ⟨3, _⟩ => show (bOf t).val * 128 + _ = 128 * (bOf t).val + _; omega
/-- The number of window 10's blocks along axis 0. -/
theorem nb10_0 : ((cfgM m (hO m)).win 10).nblk (0 : Fin 3) = 1 := show (2 + 2 - 1) / 2 = _ from rfl
/-- The number of window 10's blocks along axis 1. -/
theorem nb10_1 : ((cfgM m (hO m)).win 10).nblk (1 : Fin 3) = 1 := show (4 + 4 - 1) / 4 = _ from rfl
/-- The number of window 10's blocks along axis 2. -/
theorem nb10_2 : ((cfgM m (hO m)).win 10).nblk (2 : Fin 3) = 12 := show (1536 + 128 - 1) / 128 = _ from rfl
/-- The blocks of window 10 cover its array. -/
theorem cov10 : ((cfgM m (hO m)).win 10).Covers := by
  refine ⟨fun a => (by decide : ∀ a, 0 < S2x4x128.size a) a, fun β => ⟨pt ⟨(β (2 : Fin 3)).val, lt_of_lt_of_eq (β (2 : Fin 3)).isLt (nb10_2 m)⟩ 15, (flush0_10 (adm m (hO m)) _).mpr (by show (16 * (β (2 : Fin 3)).val + 15) % 16 = 15; omega), fun a => ?_⟩⟩
  match a with
    | ⟨0, _⟩ => refine ⟨?_, .inl rfl⟩; rw [idx10]; show 0 = (β (0 : Fin 3)).val; have : (β (0 : Fin 3)).val < 1 := lt_of_lt_of_eq (β (0 : Fin 3)).isLt (nb10_0 m); omega
    | ⟨1, _⟩ => refine ⟨?_, .inl rfl⟩; rw [idx10]; show 0 = (β (1 : Fin 3)).val; have : (β (1 : Fin 3)).val < 1 := lt_of_lt_of_eq (β (1 : Fin 3)).isLt (nb10_1 m); omega
    | ⟨2, _⟩ => refine ⟨?_, .inl rfl⟩; rw [idx10, bOf_pt]; rfl
/-- The whole array of the new values' scales, block by block. -/
def G10 : S2x4x1536.Idx → EReal := fun y => V10 (inp m c ⟨(y 2).val / 128, by have : (y 2).val < 1536 := (y 2).isLt; omega⟩) (ix3 (y 0) (y 1) ⟨(y 2).val % 128, Nat.mod_lt _ (by decide)⟩)
/-- A place of a block of window 10 is the place of the whole array it is staged to. -/
theorem G10_at (t : Fin grid0.N) (y : S2x4x128.Idx) (i : S2x4x1536.Idx) (hi : ∀ a, (i a).val = (![0, 0, 128 * (bOf t).val] a) + (y a).val) :
    V10 (inp m c (bOf t)) y = G10 m c i := by
  obtain ⟨j, h, b, rfl⟩ : ∃ (j : Fin 2) (h : Fin 4) (b : Fin 128), y = ix3 j h b := ⟨_, _, _, eq_ix3 y⟩
  obtain rfl : i = (ix3 j h ⟨128 * (bOf t).val + b.val, by omega⟩) := by
    funext a; apply Fin.ext
    match a with
    | ⟨0, _⟩ => exact (hi 0).trans (Nat.zero_add _)
    | ⟨1, _⟩ => exact (hi 1).trans (Nat.zero_add _)
    | ⟨2, _⟩ => exact hi 2
  unfold G10
  have e1 : (⟨(128 * (bOf t).val + b.val) / 128, by omega⟩ : Fin 12) = bOf t := Fin.ext (by show (128 * (bOf t).val + b.val) / 128 = _; omega)
  have e2 : (⟨(128 * (bOf t).val + b.val) % 128, Nat.mod_lt _ (by decide)⟩ : Fin 128) = b := Fin.ext (by show (128 * (bOf t).val + b.val) % 128 = _; omega)
  show _ = V10 (inp m c ⟨(128 * (bOf t).val + b.val) / 128, _⟩) (ix3 j h ⟨(128 * (bOf t).val + b.val) % 128, _⟩)
  rw [e1, e2]
/-- At the region's end, the array of window 10 (the new values' scales) is the whole array. -/
theorem arr10 : (datK m c).arrAt 10 (cfgM m (hO m)).N = G10 m c := by
  refine (datK m c).arrAt_eq_of_covers 10 _ (cov10 m) fun t hf y => ?_
  refine G10_at m c t y _ fun a => ?_
  have e := idx10 m t
  blk_simp
  rw [e]
  match a with
    | ⟨0, _⟩ => rfl
    | ⟨1, _⟩ => rfl
    | ⟨2, _⟩ => show (bOf t).val * 128 + _ = 128 * (bOf t).val + _; omega

end Cert.KernelIdeal.Gen

end
-- ==== Proof.KAt1.lean ====
/- The first part's rows, entry by entry. -/
module

public import proofs.«01_k».proof.Proof.Vals
public import Idealize.ShloMosaic.Lib.Pointwise
public import Idealize.ShloMosaic.Lib.IdealHost

@[expose] public section

set_option maxRecDepth 16384

noncomputable section

namespace Cert.Body

open Idealize.ShloMosaic
open Cert.Kernel Cert.Kernel.Facts₀ Cert.Kernel.Facts

variable (I : Inp Ideal) (c : EReal)

/-- A code: rounded and cut to [-127, 127]. -/
def qz (a b : EReal) : BitVec 8 :=
  FloatOps.fptosi (F := Ideal) (φ := .f32) 8 (min (Ideal.ofBits FTy.f32 1123942400#32)
    (max (Ideal.ofBits FTy.f32 3271426048#32) (Ideal.liftRound Ideal.roundHalfEven (Ideal.div a b))))
/-- A scale: the largest magnitude by 127, or 1 of none. -/
def sz (f : Fin 96 → EReal) : EReal :=
  if (Finset.univ : Finset (Fin 96)).fold max (Ideal.ofBits FTy.f32 4286578688#32) (fun x => FloatOps.absf (F := Ideal) (φ := .f32) (f x)) = 0 then 1
  else Ideal.div ((Finset.univ : Finset (Fin 96)).fold max (Ideal.ofBits FTy.f32 4286578688#32) (fun x => FloatOps.absf (F := Ideal) (φ := .f32) (f x)))
    (Ideal.ofBits FTy.f32 1123942400#32)

/-- A place of a new row is the place in the buffer of new rows. -/
theorem r4_at (j : Fin 2) (kv : Fin 4) (a : Fin 96) (b : Fin 128) : (r4 j kv).emb (ix4 0 0 a b) = ix4 j kv a b := by
  funext i; fin_cases i <;> exact Fin.ext (by simp [Rect.unit, Rect.emb, ix4])

/-- An entry of a widened row. -/
theorem wide_at (w : FVec Ideal S1x1x96x128 .bf16) (a : Fin 96) (b : Fin 128) : wide (F := Ideal) w (ix2 a b) = w (ix4 0 0 a b) := by
  pointwise [wide]
/-- An entry of the new key's codes: the quotient by the scale, quantized. -/
theorem kcRow_at (w : FVec Ideal S1x1x96x128 .bf16) (z : FVec Ideal S1x96x128 .f32) (a : Fin 96) (b : Fin 128) :
    kcRow (F := Ideal) w z (ix4 0 0 a b) = qz (w (ix4 0 0 a b)) (z (ix3 0 a b)) := by
  pointwise [kcRow, quant, wide]
  rfl
/-- An entry of the new value's scale. -/
theorem vsRow_at (w : FVec Ideal S1x1x96x128 .bf16) (b : Fin 128) :
    vsRow (F := Ideal) w (ix2 0 b) = sz (fun a => w (ix4 0 0 a b)) := by
  pointwise [vsRow, wide]
  rfl
/-- An entry of the new value's codes. -/
theorem vcRow_at (w : FVec Ideal S1x1x96x128 .bf16) (a : Fin 96) (b : Fin 128) :
    vcRow (F := Ideal) w (ix4 0 0 a b) = qz (w (ix4 0 0 a b)) (vsRow (F := Ideal) w (ix2 0 b)) := by
  pointwise [vcRow, quant, wide]
  rfl
/-- An entry of the scale as it is stored. -/
theorem vsnRow_at (w : FVec Ideal S1x1x96x128 .bf16) (b : Fin 128) :
    vsnRow (F := Ideal) w (ix3 0 0 b) = vsRow (F := Ideal) w (ix2 0 b) := by
  pointwise [vsnRow]
/-- An entry of the key scales: unchanged. -/
theorem ksRow_at (z : FVec Ideal S1x96x128 .f32) (a : Fin 96) (b : Fin 128) :
    ksRow (F := Ideal) z (ix3 0 a b) = z (ix3 0 a b) := by
  pointwise [ksRow]
/-- An entry of a query row: the query turned over. -/
theorem qRow_at (w : FVec Ideal S1x1x96x128 .bf16) (a : Fin 128) (b : Fin 96) :
    qRow (F := Ideal) w (ix2 a ⟨b.val, by omega⟩) = w (ix4 0 0 b a) := by
  pointwise [qRow, wide]
/-- A new key's score: the scaled product of query and key. -/
theorem tNew_at (x k : FVec Ideal S96x128 .f32) (b : Fin 128) : tNew (F := Ideal) c x k (ix2 0 b) = (∑ a : Fin 96, x (ix2 a b) * k (ix2 a b)) * c := by
  pointwise [tNew]
/-- The weight sum of one score. -/
theorem lSum1_at (t : FVec Ideal S1x128 .f32) (b : Fin 128) : lSum1 (F := Ideal) t (ix2 0 b) = Ideal.exp2 (t (ix2 0 b) - t (ix2 0 b)) := by
  pointwise [lSum1, zero1]
  rfl
/-- The weight sum of two scores. -/
theorem lSum2_at (t u : FVec Ideal S1x128 .f32) (b : Fin 128) : lSum2 (F := Ideal) t u (ix2 0 b) =
    Ideal.exp2 (t (ix2 0 b) - max (t (ix2 0 b)) (u (ix2 0 b))) + Ideal.exp2 (u (ix2 0 b) - max (t (ix2 0 b)) (u (ix2 0 b))) := by
  pointwise [lSum2, zero1]
  rfl
/-- An entry of a row of scores as stored. -/
theorem tSt_at (t : FVec Ideal S1x128 .f32) (b : Fin 128) : tSt (F := Ideal) t (ix3 0 0 b) = t (ix2 0 b) := by
  pointwise []
/-- An entry of a row of maxima or sums as stored. -/
theorem rSt_at (t : FVec Ideal S1x128 .f32) (b : Fin 128) : rSt (F := Ideal) t (ix2 0 b) = t (ix2 0 b) := by
  pointwise []

end Cert.Body

end
-- ==== Proof.KAt2.lean ====
/- The main and the last part's tiles, entry by entry. -/
module

public import proofs.«01_k».proof.Proof.Vals
public import Idealize.ShloMosaic.Lib.Pointwise
public import Idealize.ShloMosaic.Lib.IdealHost

@[expose] public section

set_option maxRecDepth 16384

noncomputable section

namespace Cert.Body

open Idealize.ShloMosaic
open Cert.Kernel Cert.Kernel.Facts₀ Cert.Kernel.Facts

variable (I : Inp Ideal) (c : EReal)

/-- The lane taken. -/
def laneN (bl : BitVec 32) : Fin 128 := ⟨(Scalar.select (IntOp.cmpi CmpIPredicate.slt bl 0#32) (IntOp.addi bl 128#32) bl).toNat % 128, Nat.mod_lt _ (by decide)⟩
/-- The key scales in every lane are those of the sequence's lane. -/
theorem kScale_at (bl : BitVec 32) (z : FVec Ideal S1x96x128 .f32) (a : Fin 96) (b : Fin 128) :
    kScale (F := Ideal) bl z (ix2 a b) = z (ix3 0 a (laneN bl)) := by
  pointwise [kScale, lane]
  rfl
/-- An entry of the keys read out of the cache: code times scale. -/
theorem kDeq_at (bl : BitVec 32) (z : FVec Ideal S1x96x128 .f32) (k : IVec S1x1x96x512 8) (a : Fin 96) (b : Fin 512) :
    kDeq (F := Ideal) bl z k (ix2 a b) = FloatOps.sitofp (F := Ideal) FTy.bf16 (k (ix4 0 0 a b)) * z (ix3 0 a (laneN bl)) := by
  pointwise [kDeq]
  simp only [kScale_at, dite_eq_ite, ite_self]
/-- An entry of the masked scores of the cache. -/
theorem score_at (bl n : BitVec 32) (q : FVec Ideal S16x128 .f32) (z : FVec Ideal S1x96x128 .f32) (k : IVec S1x1x96x512 8) (a : Fin 16) (b : Fin 512) :
    score (F := Ideal) c bl n q z k (ix2 a b) = Scalar.select (IntOp.cmpi CmpIPredicate.slt (BitVec.ofNat 32 b.val) n)
      ((∑ x : Fin 96, q (ix2 a ⟨x.val, by omega⟩) * (FloatOps.sitofp (F := Ideal) FTy.bf16 (k (ix4 0 0 x b)) * z (ix3 0 x (laneN bl)))) * c)
      (Ideal.ofBits FTy.f32 4286578688#32) := by
  pointwise [score, valid]
  simp only [kDeq_at]
/-- The new keys' maximum in the sequence's own lane, minus infinity in the others. -/
theorem mTile_at (bl : BitVec 32) (q : FVec Ideal S16x128 .f32) (a : Fin 16) (b : Fin 128) :
    mTile (F := Ideal) bl q (ix2 a b) = Scalar.select (IntOp.cmpi CmpIPredicate.eq (BitVec.ofNat 32 b.val) bl) (q (ix2 a b)) (Ideal.ofBits FTy.f32 4286578688#32) := by
  pointwise [mTile, mine]
/-- The maximum over the lanes and the four quarters of the cache. -/
theorem mCol_at (s : FVec Ideal S16x512 .f32) (q : FVec Ideal S16x128 .f32) (a : Fin 16) :
    mCol (F := Ideal) s q (ix2 a 0) = (Finset.univ : Finset (Fin 128)).fold max (Ideal.ofBits FTy.f32 4286578688#32) (fun x =>
        max (max (max (max (q (ix2 a x)) (s (ix2 a ⟨x.val, by omega⟩))) (s (ix2 a ⟨128 + x.val, by omega⟩))) (s (ix2 a ⟨256 + x.val, by omega⟩)))
          (s (ix2 a ⟨384 + x.val, by omega⟩))) := by
  pointwise [mCol]
/-- A weight of the cache. -/
theorem eTile_at (s : FVec Ideal S16x512 .f32) (q : FVec Ideal S16x1 .f32) (a : Fin 16) (b : Fin 512) :
    eTile (F := Ideal) s q (ix2 a b) = Ideal.exp2 (s (ix2 a b) - q (ix2 a 0)) := by
  pointwise [eTile]
  rfl
/-- One over the sum of all weights, lane by lane. -/
theorem iCol_at (e : FVec Ideal S16x512 .f32) (mt : FVec Ideal S16x128 .f32) (m : FVec Ideal S16x1 .f32) (ln : FVec Ideal S16x128 .f32) (a : Fin 16) :
    iCol (F := Ideal) e mt m ln (ix2 a 0) = Ideal.div 1 (∑ x : Fin 128,
        (Ideal.exp2 (mt (ix2 a x) - m (ix2 a 0)) * ln (ix2 a x) + e (ix2 a ⟨x.val, by omega⟩) + e (ix2 a ⟨128 + x.val, by omega⟩) +
            e (ix2 a ⟨256 + x.val, by omega⟩) + e (ix2 a ⟨384 + x.val, by omega⟩))) := by
  pointwise [iCol]
  rfl
/-- A probability times the value scale. -/
theorem pTile_at (e : FVec Ideal S16x512 .f32) (m : FVec Ideal S16x1 .f32) (z : FVec Ideal S1x1x512 .f32) (a : Fin 16) (b : Fin 512) :
    pTile (F := Ideal) e m z (ix2 a b) = e (ix2 a b) * m (ix2 a 0) * z (ix3 0 0 b) := by
  pointwise [pTile]
/-- Padded for head 0: the head's sixteen rows, zero elsewhere. -/
theorem pPad0_at (p : FVec Ideal S16x512 .bf16) (a : Fin 64) (b : Fin 512) : pPad (F := Ideal) 0 p (ix2 a b) = if a.val / 16 = 0 then p (ix2 (gsR a) b) else 0 := by
  pointwise [pPad]
  by_cases h : a.val / 16 = 0
  · rw [dif_pos (by omega), if_pos h]; exact congrArg p (congrArg (ix2 · b) (Fin.ext (by show a.val = a.val % 16; omega)))
  · rw [dif_neg (by omega), if_neg h]
/-- Padded for head 1: the head's sixteen rows, zero elsewhere. -/
theorem pPad1_at (p : FVec Ideal S16x512 .bf16) (a : Fin 64) (b : Fin 512) : pPad (F := Ideal) 1 p (ix2 a b) = if a.val / 16 = 1 then p (ix2 (gsR a) b) else 0 := by
  pointwise [pPad]
  by_cases h : a.val / 16 = 1
  · rw [dif_neg (by omega), dif_pos (by omega), if_pos h]; exact congrArg p (congrArg (ix2 · b) (Fin.ext (by show a.val - 16 = a.val % 16; omega)))
  · rw [if_neg h]
    by_cases h1 : a.val < 16
    · rw [dif_pos h1]
    · rw [dif_neg h1, dif_neg (by omega)]
/-- Padded for head 2: the head's sixteen rows, zero elsewhere. -/
theorem pPad2_at (p : FVec Ideal S16x512 .bf16) (a : Fin 64) (b : Fin 512) : pPad (F := Ideal) 2 p (ix2 a b) = if a.val / 16 = 2 then p (ix2 (gsR a) b) else 0 := by
  pointwise [pPad]
  by_cases h : a.val / 16 = 2
  · rw [dif_neg (by omega), dif_pos (by omega), if_pos h]; exact congrArg p (congrArg (ix2 · b) (Fin.ext (by show a.val - 32 = a.val % 16; omega)))
  · rw [if_neg h]
    by_cases h1 : a.val < 32
    · rw [dif_pos h1]
    · rw [dif_neg h1, dif_neg (by omega)]
/-- Padded for head 3: the head's sixteen rows, zero elsewhere. -/
theorem pPad3_at (p : FVec Ideal S16x512 .bf16) (a : Fin 64) (b : Fin 512) : pPad (F := Ideal) 3 p (ix2 a b) = if a.val / 16 = 3 then p (ix2 (gsR a) b) else 0 := by
  pointwise [pPad]
  by_cases h : a.val / 16 = 3
  · rw [dif_neg (by omega), if_pos h]; exact congrArg p (congrArg (ix2 · b) (Fin.ext (by show a.val - 48 = a.val % 16; omega)))
  · rw [dif_pos (by omega), if_neg h]
/-- A sum of cached values, weighted. -/
theorem vDot_at (v : IVec S1x1x96x512 8) (p : FVec Ideal S64x512 .bf16) (a : Fin 96) (b : Fin 64) :
    vDot (F := Ideal) v p (ix2 a b) = ∑ x : Fin 512, FloatOps.sitofp (F := Ideal) FTy.bf16 (v (ix4 0 0 a x)) * p (ix2 b x) := by
  pointwise [vDot]
/-- An entry of the sixty-four rows: the heads' sums turned over. -/
theorem oRow_at (o : FVec Ideal S96x64 .f32) (a : Fin 64) (b : Fin 96) : oRow (F := Ideal) o (ix2 a ⟨b.val, by omega⟩) = o (ix2 b a) := by
  pointwise [oRow]
/-- An entry of a row of every sequence's result so far, turned over. -/
theorem oCol_at (o : FVec Ideal S128x128 .f32) (a : Fin 96) (b : Fin 128) : oCol (F := Ideal) o (ix2 a b) = o (ix2 b ⟨a.val, by omega⟩) := by
  pointwise [oCol]
/-- An entry of a new value's weighted row. -/
theorem pv_at (t : FVec Ideal S1x1x128 .f32) (m i : FVec Ideal S1x128 .f32) (v : FVec Ideal S96x128 .f32) (a : Fin 96) (b : Fin 128) :
    pv (F := Ideal) t m i v (ix2 a b) = Ideal.exp2 (t (ix3 0 0 b) - m (ix2 0 b)) * i (ix2 0 b) * v (ix2 a b) := by
  pointwise [pv]
  rfl
/-- An entry of the result row as stored. -/
theorem outRow_at (o : FVec Ideal S96x128 .f32) (a : Fin 96) (b : Fin 128) : outRow (F := Ideal) o (ix4 0 0 a b) = o (ix2 a b) := by
  pointwise [outRow]

end Cert.Body

end
-- ==== Proof.Att.lean ====
/- The arithmetic of a row: the kernel's base-two weights, kept with a running maximum, against the reference's natural ones. -/
module

public import Idealize.ShloMosaic.PureOps
public import Idealize.ShloMosaic.Lib.IdealHost

@[expose] public section

set_option maxRecDepth 16384

noncomputable section

namespace Cert.Att

open Idealize.ShloMosaic

/-- One over the logarithm of two. -/
abbrev L : ℝ := (Real.log 2)⁻¹
/-- The logarithm of two is positive. -/
theorem log2_pos : 0 < Real.log 2 := Real.log_pos (by norm_num)
/-- The factor to base two is positive. -/
theorem L_pos : 0 < L := inv_pos.mpr log2_pos

/-- A score in base two. -/
def ph (x : EReal) : EReal := x * (L : EReal)
/-- Minus infinity in base two is minus infinity. -/
theorem ph_bot : ph ⊥ = ⊥ := EReal.bot_mul_coe_of_pos L_pos
/-- Infinity in base two is infinity. -/
theorem ph_top : ph ⊤ = ⊤ := EReal.top_mul_coe_of_pos L_pos
/-- A real score in base two is the real product. -/
theorem ph_coe (a : ℝ) : ph (a : EReal) = ((a * L : ℝ) : EReal) := rfl
/-- Passing to base two keeps the order. -/
theorem ph_mono : Monotone ph := by
  intro a b h
  induction a using EReal.rec with
  | bot => rw [ph_bot]; exact bot_le
  | top => rw [top_le_iff.mp h]
  | coe a =>
    induction b using EReal.rec with
    | bot => exact absurd (le_bot_iff.mp h) (EReal.coe_ne_bot a)
    | top => rw [ph_top]; exact le_top
    | coe b => rw [ph_coe, ph_coe]; exact EReal.coe_le_coe_iff.mpr (mul_le_mul_of_nonneg_right (EReal.coe_le_coe_iff.mp h) L_pos.le)
/-- Passing to base two goes through a maximum of two. -/
theorem ph_max (a b : EReal) : ph (max a b) = max (ph a) (ph b) := ph_mono.map_max

/-- Two to a real score in base two is e to the score. -/
theorem exp2_ph_coe (a : ℝ) : Real.rpow 2 (a * L) = Real.exp a := by
  show (2 : ℝ) ^ (a * L) = Real.exp a
  rw [Real.rpow_def_of_pos (by norm_num)]
  congr 1
  have := log2_pos.ne'
  field_simp
/-- A weight does not depend on the base. -/
theorem exp2_ph (a b : EReal) : Ideal.exp2 (ph a - ph b) = Ideal.exp (a - b) := by
  induction a using EReal.rec with
  | bot => rw [ph_bot, EReal.bot_sub, EReal.bot_sub]; rfl
  | top =>
    induction b using EReal.rec with
    | bot => rw [ph_bot, ph_top]; rfl
    | top => rw [ph_top]; rfl
    | coe b => rw [ph_top, ph_coe, EReal.top_sub_coe, EReal.top_sub_coe]; rfl
  | coe a =>
    induction b using EReal.rec with
    | bot => rw [ph_bot, ph_coe, EReal.coe_sub_bot, EReal.coe_sub_bot]; rfl
    | top => rw [ph_top, ph_coe, EReal.sub_top, EReal.sub_top]; rfl
    | coe b =>
      rw [ph_coe, ph_coe, ← EReal.coe_sub, ← EReal.coe_sub, ← sub_mul]
      exact congrArg (fun r : ℝ => (r : EReal)) (exp2_ph_coe (a - b))

/-- An exponential is not negative. -/
theorem exp_nonneg (a : EReal) : 0 ≤ Ideal.exp a := by
  induction a using EReal.rec with
  | bot => exact le_refl _
  | top => exact le_top
  | coe a => exact EReal.coe_nonneg.mpr (Real.exp_pos a).le

/-- The greatest of a row. -/
abbrev fm {n : Nat} (f : Fin n → EReal) : EReal := (Finset.univ : Finset (Fin n)).fold max ⊥ f
/-- Passing to base two goes through a maximum of many. -/
theorem fm_ph {n : Nat} (f : Fin n → EReal) : fm (fun t => ph (f t)) = ph (fm f) := by
  have := Finset.fold_hom (op := max) (op' := max) (b := (⊥ : EReal)) (f := f) (s := (Finset.univ : Finset (Fin n))) (m := ph) ph_max
  rw [ph_bot] at this
  exact this
/-- A maximum is at most `c` when every entry is. -/
theorem fm_le {n : Nat} (f : Fin n → EReal) (c : EReal) : fm f ≤ c ↔ ∀ t, f t ≤ c := by
  unfold fm
  rw [Finset.fold_max_le]
  simp
/-- The maximum of scores none of which is infinity is not infinity. -/
theorem fm_lt_top {n : Nat} (f : Fin n → EReal) (h : ∀ t, f t ≠ ⊤) : fm f ≠ ⊤ := by
  apply ne_of_lt
  unfold fm
  rw [Finset.fold_max_lt]
  exact ⟨bot_lt_top, fun t _ => lt_top_iff_ne_top.mpr (h t)⟩

/-- Four blocks of 128 and a tile with one lane, taken at once. -/
theorem lanesMax (q : Fin 128 → EReal) (s : Fin 512 → EReal) (l : Fin 128) (M : EReal) (hq : ∀ x, q x = if x = l then M else ⊥) :
    fm (fun x : Fin 128 => max (max (max (max (q x) (s ⟨x.val, by omega⟩)) (s ⟨128 + x.val, by omega⟩)) (s ⟨256 + x.val, by omega⟩)) (s ⟨384 + x.val, by omega⟩))
      = max M (fm s) := by
  apply eq_of_forall_ge_iff
  intro c
  rw [fm_le, max_le_iff, fm_le]
  simp only [max_le_iff]
  constructor
  · intro h
    refine ⟨by have := (h l).1.1.1.1; rwa [hq, if_pos rfl] at this, fun t => ?_⟩
    have ht := t.isLt
    by_cases h1 : t.val < 128
    · exact (h ⟨t.val, h1⟩).1.1.1.2
    by_cases h2 : t.val < 256
    · have := (h ⟨t.val - 128, by omega⟩).1.1.2
      rwa [show (⟨128 + (t.val - 128), by omega⟩ : Fin 512) = t from Fin.ext (by show 128 + (t.val - 128) = t.val; omega)] at this
    by_cases h3 : t.val < 384
    · have := (h ⟨t.val - 256, by omega⟩).1.2
      rwa [show (⟨256 + (t.val - 256), by omega⟩ : Fin 512) = t from Fin.ext (by show 256 + (t.val - 256) = t.val; omega)] at this
    · have := (h ⟨t.val - 384, by omega⟩).2
      rwa [show (⟨384 + (t.val - 384), by omega⟩ : Fin 512) = t from Fin.ext (by show 384 + (t.val - 384) = t.val; omega)] at this
  · rintro ⟨hM, hs⟩ x
    refine ⟨⟨⟨⟨?_, hs _⟩, hs _⟩, hs _⟩, hs _⟩
    rw [hq]
    split_ifs
    · exact hM
    · exact bot_le

/-- A sum over 512 positions is the sum of its four quarters of 128. -/
theorem sum512 (e : Fin 512 → EReal) : ∑ t, e t = (∑ x : Fin 128, e ⟨x.val, by omega⟩) + ((∑ x : Fin 128, e ⟨128 + x.val, by omega⟩)
    + ((∑ x : Fin 128, e ⟨256 + x.val, by omega⟩) + ∑ x : Fin 128, e ⟨384 + x.val, by omega⟩)) := by
  have a1 := Fin.sum_univ_add (a := 128) (b := 384) (fun i => e i)
  have a2 := Fin.sum_univ_add (a := 128) (b := 256) (fun i => e (Fin.natAdd 128 i))
  have a3 := Fin.sum_univ_add (a := 128) (b := 128) (fun i => e (Fin.natAdd 128 (Fin.natAdd 128 i)))
  have a4 := a1.trans (congrArg (_ + ·) (a2.trans (congrArg (_ + ·) a3)))
  refine a4.trans ?_
  refine congrArg₂ (· + ·) rfl (congrArg₂ (· + ·) rfl (congrArg₂ (· + ·) ?_ ?_))
  · exact Finset.sum_congr rfl fun x _ => congrArg e (Fin.ext (by show 128 + (128 + x.val) = 256 + x.val; omega))
  · exact Finset.sum_congr rfl fun x _ => congrArg e (Fin.ext (by show 128 + (128 + (128 + x.val)) = 384 + x.val; omega))

/-- The sum over 128 lanes of a term that is `S` in one lane and zero elsewhere, and four quarters: `S` and the sum over all 512. -/
theorem lanesSum (q : Fin 128 → EReal) (e : Fin 512 → EReal) (l : Fin 128) (S : EReal) (hq : ∀ x, q x = if x = l then S else 0) :
    ∑ x : Fin 128, (q x + e ⟨x.val, by omega⟩ + e ⟨128 + x.val, by omega⟩ + e ⟨256 + x.val, by omega⟩ + e ⟨384 + x.val, by omega⟩)
      = S + ∑ t, e t := by
  rw [sum512]
  simp only [Finset.sum_add_distrib]
  rw [show (∑ x, q x) = S from by simp only [hq]; rw [Finset.sum_ite_eq' Finset.univ l (fun _ => S)]; simp]
  simp only [add_assoc]

/-- The kernel's row: `C`, `N` are the scores, `mn` and `ln` the new keys' maximum and weight sum in base two. -/
def kM (C : Fin 512 → EReal) (mn : EReal) : EReal := max mn (fm fun t => ph (C t))
/-- One over the kernel's sum of all weights. -/
def kI (C : Fin 512 → EReal) (mn ln : EReal) : EReal :=
  Ideal.div 1 (Ideal.exp2 (mn - kM C mn) * ln + ∑ t, Ideal.exp2 (ph (C t) - kM C mn))
/-- The kernel's row over the cache. -/
def kO (C : Fin 512 → EReal) (mn ln : EReal) (v vs : Fin 512 → EReal) : EReal :=
  ∑ t, v t * (Ideal.exp2 (ph (C t) - kM C mn) * kI C mn ln * vs t)
/-- The kernel's term of one new value. -/
def kP (C : Fin 512 → EReal) (mn ln t vn : EReal) : EReal := Ideal.exp2 (t - kM C mn) * kI C mn ln * vn

/-- The reference's row. -/
def rM (C : Fin 512 → EReal) (N : Fin 2 → EReal) : EReal := max (fm C) (fm N)
/-- The reference's sum of all weights. -/
def rD (C : Fin 512 → EReal) (N : Fin 2 → EReal) : EReal := (∑ t, Ideal.exp (C t - rM C N)) + ∑ j, Ideal.exp (N j - rM C N)
/-- The reference's result: the row over the cache and the row over the new values. -/
def rO (C : Fin 512 → EReal) (N : Fin 2 → EReal) (v vs : Fin 512 → EReal) (vn : Fin 2 → EReal) : EReal :=
  (∑ t, v t * (Ideal.div (Ideal.exp (C t - rM C N)) (rD C N) * vs t)) + ∑ j, vn j * Ideal.div (Ideal.exp (N j - rM C N)) (rD C N)

/-- The maximum of two scores. -/
theorem fm2 (N : Fin 2 → EReal) : fm N = max (N 0) (N 1) := by
  apply eq_of_forall_ge_iff; intro c
  rw [fm_le, max_le_iff, Fin.forall_fin_two]

/-- Division by what is not zero is multiplication by the inverse. -/
theorem div_ne {x y : EReal} (h : y ≠ 0) : Ideal.div x y = x * y⁻¹ := if_neg h

/-- The denominator is not zero. -/
theorem rD_ne (C : Fin 512 → EReal) (N : Fin 2 → EReal) (a b : ℝ) (h0 : N 0 = (a : EReal)) (hM : rM C N = (b : EReal)) : rD C N ≠ 0 := by
  apply ne_of_gt
  have h1 : 0 < Ideal.exp (N 0 - rM C N) := by
    rw [h0, hM, ← EReal.coe_sub]; exact EReal.coe_pos.mpr (Real.exp_pos _)
  unfold rD
  rw [Fin.sum_univ_two]
  refine lt_of_lt_of_le h1 ?_
  calc Ideal.exp (N 0 - rM C N) ≤ Ideal.exp (N 0 - rM C N) + Ideal.exp (N 1 - rM C N) := le_add_of_nonneg_right (exp_nonneg _)
    _ ≤ _ := le_add_of_nonneg_left (Finset.sum_nonneg fun t _ => exp_nonneg _)

/-- The reference's maximum is a real number, where no score is infinity and the first new key's is not minus infinity. -/
theorem rM_real (C : Fin 512 → EReal) (N : Fin 2 → EReal) (hC : ∀ t, C t ≠ ⊤) (hN : ∀ j, N j ≠ ⊤) (h0 : N 0 ≠ ⊥) : ∃ b : ℝ, rM C N = (b : EReal) := by
  have ht : rM C N ≠ ⊤ := by
    unfold rM
    intro h
    rcases max_choice (fm C) (fm N) with e | e
    · exact fm_lt_top C hC (e.symm.trans h)
    · exact fm_lt_top N hN (e.symm.trans h)
  have hb : rM C N ≠ ⊥ := by
    intro h
    have : N 0 ≤ rM C N := ((fm_le N (fm N)).mp le_rfl 0).trans (le_max_right _ _)
    rw [h] at this
    exact h0 (le_bot_iff.mp this)
  exact ⟨_, (EReal.coe_toReal ht hb).symm⟩

/-- At the first position one new key counts. -/
theorem row0 (C : Fin 512 → EReal) (N : Fin 2 → EReal) (v vs : Fin 512 → EReal) (vn : Fin 2 → EReal)
    (hC : ∀ t, C t ≠ ⊤) (a : ℝ) (h0 : N 0 = (a : EReal)) (h1 : N 1 = ⊥) :
    kO C (ph (N 0)) (Ideal.exp2 (ph (N 0) - ph (N 0))) v vs + kP C (ph (N 0)) (Ideal.exp2 (ph (N 0) - ph (N 0))) (ph (N 0)) (vn 0)
      = rO C N v vs vn := by
  obtain ⟨b, hb⟩ := rM_real C N hC (fun j => by
    match j with
    | ⟨0, _⟩ => exact h0 ▸ EReal.coe_ne_top a
    | ⟨1, _⟩ => exact h1 ▸ bot_ne_top) (h0 ▸ EReal.coe_ne_bot a)
  have hD := rD_ne C N a b h0 hb
  have hm : kM C (ph (N 0)) = ph (rM C N) := by
    unfold kM rM
    rw [fm_ph, ← ph_max, fm2, h1, max_eq_left (bot_le : ⊥ ≤ N 0), max_comm]
  have he1 : Ideal.exp (N 1 - rM C N) = 0 := by rw [h1, EReal.bot_sub]; rfl
  have hI : kI C (ph (N 0)) (Ideal.exp2 (ph (N 0) - ph (N 0))) = (rD C N)⁻¹ := by
    unfold kI
    rw [hm]
    simp only [exp2_ph]
    rw [show Ideal.exp (N 0 - N 0) = 1 from by
      rw [h0, ← EReal.coe_sub, sub_self]; exact congrArg (fun r : ℝ => (r : EReal)) Real.exp_zero, mul_one]
    have : Ideal.exp (N 0 - rM C N) + ∑ t, Ideal.exp (C t - rM C N) = rD C N := by
      unfold rD; rw [Fin.sum_univ_two, he1, add_zero, add_comm]
    rw [this, div_ne hD, one_mul]
  unfold kO kP rO
  rw [hI, hm]
  simp only [exp2_ph, div_ne hD]
  rw [Fin.sum_univ_two, he1, zero_mul, mul_zero, add_zero, mul_comm (vn 0)]

/-- At the second both do. -/
theorem row1 (C : Fin 512 → EReal) (N : Fin 2 → EReal) (v vs : Fin 512 → EReal) (vn : Fin 2 → EReal)
    (hC : ∀ t, C t ≠ ⊤) (a a' : ℝ) (h0 : N 0 = (a : EReal)) (h1 : N 1 = (a' : EReal)) (mn ln : EReal) (hmn : mn = max (ph (N 0)) (ph (N 1)))
    (hln : ln = Ideal.exp2 (ph (N 0) - mn) + Ideal.exp2 (ph (N 1) - mn)) :
    kO C mn ln v vs + kP C mn ln (ph (N 0)) (vn 0) + kP C mn ln (ph (N 1)) (vn 1) = rO C N v vs vn := by
  obtain ⟨b, hb⟩ := rM_real C N hC (fun j => by
    match j with
    | ⟨0, _⟩ => exact h0 ▸ EReal.coe_ne_top a
    | ⟨1, _⟩ => exact h1 ▸ EReal.coe_ne_top a') (h0 ▸ EReal.coe_ne_bot a)
  have hD := rD_ne C N a b h0 hb
  rw [← ph_max] at hmn
  have hm : kM C mn = ph (rM C N) := by
    unfold kM rM
    rw [hmn, fm_ph, ← ph_max, fm2, max_comm]
  have hx : max (N 0) (N 1) = ((max a a' : ℝ) : EReal) := by rw [h0, h1]; exact (Monotone.map_max (f := fun r : ℝ => (r : EReal)) (fun _ _ h => EReal.coe_le_coe_iff.mpr h)).symm
  have hI : kI C mn ln = (rD C N)⁻¹ := by
    unfold kI
    rw [hm, hln, hmn]
    simp only [exp2_ph]
    have : Ideal.exp (max (N 0) (N 1) - rM C N) * (Ideal.exp (N 0 - max (N 0) (N 1)) + Ideal.exp (N 1 - max (N 0) (N 1)))
        = Ideal.exp (N 0 - rM C N) + Ideal.exp (N 1 - rM C N) := by
      rw [hx, h0, h1, hb]
      simp only [← EReal.coe_sub]
      show ((Real.exp (max a a' - b) : ℝ) : EReal) * (((Real.exp (a - max a a') : ℝ) : EReal) + ((Real.exp (a' - max a a') : ℝ) : EReal))
        = ((Real.exp (a - b) : ℝ) : EReal) + ((Real.exp (a' - b) : ℝ) : EReal)
      rw [← EReal.coe_add, ← EReal.coe_mul, ← EReal.coe_add, mul_add, ← Real.exp_add, ← Real.exp_add]
      congr 3
      · ring_nf
      · ring_nf
    rw [this]
    have : Ideal.exp (N 0 - rM C N) + Ideal.exp (N 1 - rM C N) + ∑ t, Ideal.exp (C t - rM C N) = rD C N := by
      unfold rD; rw [Fin.sum_univ_two, add_comm]
    rw [this, div_ne hD, one_mul]
  unfold kO kP rO
  rw [hI, hm]
  simp only [exp2_ph, div_ne hD]
  rw [Fin.sum_univ_two, mul_comm (vn 0), mul_comm (vn 1), add_assoc]

end Cert.Att

end
-- ==== Proof.KAt3.lean ====
/- A row of the result, from the block's inputs. -/
module

public import proofs.«01_k».proof.Proof.Spec
public import proofs.«01_k».proof.Proof.KAt1
public import proofs.«01_k».proof.Proof.KAt2
public import proofs.«01_k».proof.Proof.Att

@[expose] public section

set_option maxRecDepth 16384

noncomputable section

namespace Cert.Body

open Idealize.ShloMosaic
open Cert.Kernel Cert.Kernel.Facts₀ Cert.Kernel.Facts
open Cert.Att

variable (c : EReal) (I : Inp Ideal)

/-- The mask word is minus infinity. -/
theorem msk_bot : Ideal.ofBits FTy.f32 4286578688#32 = ⊥ := by
  simp [Ideal.ofBits, Ideal.ieee]
/-- A choice by equality of two lanes. -/
theorem sel_eq {α : Type} (a b : Fin 128) (x y : α) :
    Scalar.select (IntOp.cmpi CmpIPredicate.eq (BitVec.ofNat 32 a.val) (BitVec.ofNat 32 b.val)) x y = if a = b then x else y := by
  by_cases h : a = b
  · subst h; rw [if_pos rfl]; simp [Scalar.select, IntOp.cmpi]
  · have hn : ¬ BitVec.ofNat 32 a.val = BitVec.ofNat 32 b.val := by
      intro e
      have := congrArg BitVec.toNat e
      rw [BitVec.toNat_ofNat, BitVec.toNat_ofNat] at this
      exact h (Fin.ext (by omega))
    rw [if_neg h]; simp only [Scalar.select, IntOp.cmpi, beq_eq_false_iff_ne.mpr hn]; rfl

/-- A query's place in its head. -/
abbrev gsN (p : Fin 2) (g : Fin 5) : Fin 16 := ⟨5 * p.val + g.val, by omega⟩
/-- A new key's score. -/
def sN (j : Fin 2) (kv : Fin 4) (p : Fin 2) (g : Fin 5) (l : Fin 128) : EReal :=
  (∑ a : Fin 96, I.x (ix4 p (headOf kv g) a l) * I.kn (ix4 j kv a l)) * c
/-- A cached key's score. -/
def sC (kv : Fin 4) (p : Fin 2) (g : Fin 5) (l : Fin 128) (t : Fin 512) : EReal :=
  Scalar.select (IntOp.cmpi CmpIPredicate.slt (BitVec.ofNat 32 t.val) (I.T (ix1 ⟨128 * I.B.val + l.val, by omega⟩)))
    ((∑ a : Fin 96, I.x (ix4 p (headOf kv g) a l) * (FloatOps.sitofp (F := Ideal) FTy.bf16 (I.k (sL l) (ix4 (rL l) kv a t)) * I.ks (ix3 kv a l))) * c)
    (Ideal.ofBits FTy.f32 4286578688#32)

/-- A lane's number, from its place and its sequence there. -/
theorem bl_l (l : Fin 128) : blOf (crd I.B (sL l)) (rL l) = BitVec.ofNat 32 l.val :=
  (bl_nat ..).trans (congrArg _ (by show 8 * (l.val / 8) + l.val % 8 = l.val; omega))
/-- A lane is that of its place and its sequence there. -/
theorem lan_l (l : Fin 128) : lanOf (sL l) (rL l) = l := Fin.ext (by show 8 * (l.val / 8) + l.val % 8 = l.val; omega)
/-- The lane of a lane number. -/
theorem laneN_l (l : Fin 128) : laneN (BitVec.ofNat 32 l.val) = l := by
  revert l; decide +kernel
/-- A lane's length is the table's word at its sequence. -/
theorem nOf_l (l : Fin 128) : nOf I (sL l) (rL l) = I.T (ix1 ⟨128 * I.B.val + l.val, by omega⟩) := by
  unfold nOf
  refine congrArg I.T ?_
  funext a; apply Fin.ext
  match a with
  | ⟨0, _⟩ =>
    show (k0_off1 (crd I.B (sL l)) (BitVec.ofNat 32 (rL l).val)) 0 + 1 * 0 = 128 * I.B.val + l.val
    rw [Cert.Kernel.Gen.k0_off1_eq]
    show 128 * I.B.val + 8 * (l.val / 8) + l.val % 8 + 1 * 0 = _
    omega

/-- A place of a head's rectangle of the cache, in the buffer. -/
theorem emb_rk (r : Fin 8) (kv : Fin 4) (x : S1x1x96x512.Idx) : (rk r kv).emb x = (ix4 r kv (x 2) (x 3) : S8x4x96x512.Idx) := by
  funext a; apply Fin.ext
  match a with
  | ⟨0, _⟩ => show r.val + 1 * (x 0).val = r.val; have : (x 0).val < 1 := (x 0).isLt; omega
  | ⟨1, _⟩ => show kv.val + 1 * (x 1).val = kv.val; have : (x 1).val < 1 := (x 1).isLt; omega
  | ⟨2, _⟩ => show 0 + 1 * (x 2).val = (x 2).val; omega
  | ⟨3, _⟩ => show 0 + 1 * (x 3).val = (x 3).val; omega
/-- A place of a head's cached value scales, in the buffer. -/
theorem emb_rvs (r : Fin 8) (kv : Fin 4) (x : S1x1x512.Idx) : (rvs r kv).emb x = (ix3 r kv (x 2) : S8x4x512.Idx) := by
  funext a; apply Fin.ext
  match a with
  | ⟨0, _⟩ => show r.val + 1 * (x 0).val = r.val; have : (x 0).val < 1 := (x 0).isLt; omega
  | ⟨1, _⟩ => show kv.val + 1 * (x 1).val = kv.val; have : (x 1).val < 1 := (x 1).isLt; omega
  | ⟨2, _⟩ => show 0 + 1 * (x 2).val = (x 2).val; omega

/-! ### The stored rows -/

/-- A new key's code. -/
theorem V8_at (j : Fin 2) (kv : Fin 4) (a : Fin 96) (b : Fin 128) : V8 I (ix4 j kv a b) = qz (I.kn (ix4 j kv a b)) (I.ks (ix3 kv a b)) := by
  show kcRow (F := Ideal) (fun x => I.kn ((r4 j kv).emb x)) (fun x => I.ks ((rs kv).emb x)) (ix4 0 0 a b) = _
  rw [kcRow_at, emb_r4, emb_rs]; rfl
/-- A new value's scale, from the block's values. -/
theorem vsRow_l (j : Fin 2) (kv : Fin 4) (b : Fin 128) :
    vsRow (F := Ideal) (fun x => I.vn ((r4 j kv).emb x)) (ix2 0 b) = sz (fun a => I.vn (ix4 j kv a b)) := by
  rw [vsRow_at]; exact congrArg sz (funext fun a => by rw [emb_r4]; rfl)
/-- A new value's code. -/
theorem V9_at (j : Fin 2) (kv : Fin 4) (a : Fin 96) (b : Fin 128) : V9 I (ix4 j kv a b) = qz (I.vn (ix4 j kv a b)) (sz fun a => I.vn (ix4 j kv a b)) := by
  show vcRow (F := Ideal) (fun x => I.vn ((r4 j kv).emb x)) (ix4 0 0 a b) = _
  rw [vcRow_at, vsRow_l, emb_r4]; rfl
/-- A new value's scale, as left in its buffer. -/
theorem V10_at (j : Fin 2) (kv : Fin 4) (b : Fin 128) : V10 I (ix3 j kv b) = sz fun a => I.vn (ix4 j kv a b) := by
  show vsnRow (F := Ideal) (fun x => I.vn ((r4 j kv).emb x)) (ix3 0 0 b) = _
  rw [vsnRow_at, vsRow_l]

/-! ### The scratch rows -/

/-- The key scales are kept unchanged. -/
theorem V12_at (kv : Fin 4) (a : Fin 96) (b : Fin 128) : V12 I (ix3 kv a b) = I.ks (ix3 kv a b) := by
  show ksRow (F := Ideal) (fun x => I.ks ((rs kv).emb x)) (ix3 0 a b) = _
  rw [ksRow_at, emb_rs]; rfl
/-- A query row of a lane is the lane's query. -/
theorem qOf_l (kv : Fin 4) (p : Fin 2) (g : Fin 5) (a : Fin 96) (l : Fin 128) :
    qOf I kv (gsN p g) (ix2 l ⟨a.val, by omega⟩) = I.x (ix4 p (headOf kv g) a l) := by
  rw [qOf_at, qRow_at, emb_r20]; rfl
/-- A new key's score as kept, where the mask lets it. -/
theorem tOf_l (j : Fin 2) (kv : Fin 4) (p : Fin 2) (g : Fin 5) (h : j.val ≤ p.val) (l : Fin 128) :
    tOf c I j kv (gsN p g) (ix2 0 l) = sN c I j kv p g l := by
  rw [tOf_at c I j kv p g h, tNew_at]
  unfold sN
  refine congrArg (· * c) (Finset.sum_congr rfl fun a _ => ?_)
  rw [wide_at, wide_at, emb_r4, emb_r20]; rfl
/-- The buffer of the new keys' maxima, read at a head's rows. -/
theorem V14_at (kv : Fin 4) (gs : Fin 16) (x : Fin 128) : V14 c I ((r16 kv).emb (ix2 gs x)) = mOf c I kv gs (ix2 0 x) := by
  rw [emb_r16]
  show rSt (mOf c I (kvR (rowOf kv gs)) (gsR (rowOf kv gs))) (ix2 0 x) = _
  rw [rSt_at, kvR_rowOf, gsR_rowOf]
/-- The buffer of the new keys' weight sums, read at a head's rows. -/
theorem V15_at (kv : Fin 4) (gs : Fin 16) (x : Fin 128) : V15 c I ((r16 kv).emb (ix2 gs x)) = lOf c I kv gs (ix2 0 x) := by
  rw [emb_r16]
  show rSt (lOf c I (kvR (rowOf kv gs)) (gsR (rowOf kv gs))) (ix2 0 x) = _
  rw [rSt_at, kvR_rowOf, gsR_rowOf]
/-- The buffer of the new keys' scores, read at a row. -/
theorem V13_at (j : Fin 2) (kv : Fin 4) (gs : Fin 16) (x : Fin 128) : V13 c I ((rt j (rowOf kv gs)).emb (ix3 0 0 x)) = tOf c I j kv gs (ix2 0 x) := by
  rw [emb_rt]
  show tSt (tOf c I j (kvR (rowOf kv gs)) (gsR (rowOf kv gs))) (ix3 0 0 x) = _
  rw [tSt_at, kvR_rowOf, gsR_rowOf]
/-- The buffer of maxima, read at a row. -/
theorem V16_at (kv : Fin 4) (gs : Fin 16) (x : Fin 128) : V16 c I ((rr (rowOf kv gs)).emb (ix2 0 x)) = mcOf c I (sL x) (rL x) kv (ix2 gs 0) := by
  rw [emb_rr]
  show mcOf c I (sL x) (rL x) (kvR (rowOf kv gs)) (ix2 (gsR (rowOf kv gs)) 0) = _
  rw [kvR_rowOf, gsR_rowOf]
/-- The buffer of inverse sums, read at a row. -/
theorem V17_at (kv : Fin 4) (gs : Fin 16) (x : Fin 128) : V17 c I ((rr (rowOf kv gs)).emb (ix2 0 x)) = icOf c I (sL x) (rL x) kv (ix2 gs 0) := by
  rw [emb_rr]
  show icOf c I (sL x) (rL x) (kvR (rowOf kv gs)) (ix2 (gsR (rowOf kv gs)) 0) = _
  rw [kvR_rowOf, gsR_rowOf]

/-! ### The main part -/

/-- A cached key's score, as the main part computes it. -/
theorem scoreOf_l (kv : Fin 4) (p : Fin 2) (g : Fin 5) (l : Fin 128) (t : Fin 512) :
    scoreOf c I (sL l) (rL l) kv (ix2 (gsN p g) t) = sC c I kv p g l t := by
  unfold scoreOf sC
  rw [score_at, nOf_l, bl_l, laneN_l]
  refine congrArg (fun z => Scalar.select _ (z * c) _) (Finset.sum_congr rfl fun a _ => ?_)
  rw [emb_rs, emb_rk, emb_rq16, lan_l]
  refine congrArg₂ (· * ·) ((V11_row I l kv (gsN p g) _).trans (qOf_l I kv p g a l)) (congrArg (_ * ·) (V12_at I kv a l))
/-- The tile of new keys' maxima holds the maximum in the lane's place, minus infinity elsewhere. -/
theorem mtOf_l (kv : Fin 4) (gs : Fin 16) (l x : Fin 128) :
    mtOf c I (sL l) (rL l) kv (ix2 gs x) = if x = l then mOf c I kv gs (ix2 0 l) else ⊥ := by
  unfold mtOf
  rw [mTile_at, bl_l, sel_eq, V14_at, msk_bot]
  by_cases h : x = l
  · subst h; rfl
  · rw [if_neg h, if_neg h]
variable (kv : Fin 4) (p : Fin 2) (g : Fin 5) (l : Fin 128)
/-- The running maximum after the new keys, and their weight sum. -/
def mN : EReal := mOf c I kv (gsN p g) (ix2 0 l)
/-- The new keys' weight sum. -/
def lN : EReal := lOf c I kv (gsN p g) (ix2 0 l)
/-- The tile holds that maximum in the lane's place only. -/
def mT (x : Fin 128) : EReal := mtOf c I (sL l) (rL l) kv (ix2 (gsN p g) x)
/-- The tile's entry: the maximum in the lane's place, minus infinity elsewhere. -/
theorem mT_l (x : Fin 128) : mT c I kv p g l x = if x = l then mN c I kv p g l else ⊥ := by
  unfold mT mN
  exact mtOf_l c I kv (gsN p g) l x
/-- The maximum over the new keys and the cache. -/
theorem mcOf_l : mcOf c I (sL l) (rL l) kv (ix2 (gsN p g) 0) = max (mN c I kv p g l) (fm (sC c I kv p g l)) := by
  have h := lanesMax (mT c I kv p g l) (sC c I kv p g l) l (mN c I kv p g l) (mT_l c I kv p g l)
  rw [← h]
  unfold mcOf
  rw [mCol_at, msk_bot]
  simp only [scoreOf_l]
  rfl
/-- The weight of a cached position. -/
theorem etOf_l (t : Fin 512) : etOf c I (sL l) (rL l) kv (ix2 (gsN p g) t)
    = Ideal.exp2 (sC c I kv p g l t - max (mN c I kv p g l) (fm (sC c I kv p g l))) := by
  unfold etOf
  rw [eTile_at, scoreOf_l, mcOf_l]
/-- One over the sum of all weights. -/
theorem icOf_l : icOf c I (sL l) (rL l) kv (ix2 (gsN p g) 0)
    = Ideal.div 1 (Ideal.exp2 (mN c I kv p g l - max (mN c I kv p g l) (fm (sC c I kv p g l))) * lN c I kv p g l
        + ∑ t, Ideal.exp2 (sC c I kv p g l t - max (mN c I kv p g l) (fm (sC c I kv p g l)))) := by
  unfold icOf
  rw [iCol_at]
  simp only [etOf_l, mcOf_l, V15_at, mtOf_l]
  refine congrArg (Ideal.div 1) (lanesSum _ (fun t => Ideal.exp2 (sC c I kv p g l t - max (mN c I kv p g l) (fm (sC c I kv p g l)))) l _ fun x => ?_)
  by_cases h : x = l
  · subst h; rw [if_pos rfl, if_pos rfl]; rfl
  · rw [if_neg h, if_neg h, EReal.bot_sub]; exact zero_mul _

/-- The row over the cache. -/
def oL (a : Fin 96) : EReal :=
  ∑ t : Fin 512, FloatOps.sitofp (F := Ideal) FTy.bf16 (I.v (sL l) (ix4 (rL l) kv a t)) *
    (etOf c I (sL l) (rL l) kv (ix2 (gsN p g) t) * icOf c I (sL l) (rL l) kv (ix2 (gsN p g) 0) * I.vs (sL l) (ix3 (rL l) kv t))

/-- A head's weighted sum of cached values: its row at its own sixteen rows, zero at the others. -/
theorem dot_l (k' : Fin 4) (a : Fin 96) (hp : ∀ (w : FVec Ideal S16x512 .bf16) (r : Fin 64) (t : Fin 512),
      pPad (F := Ideal) k' w (ix2 r t) = if r.val / 16 = k'.val then w (ix2 (gsR r) t) else 0) :
    dotOf c I (sL l) (rL l) k' (ix2 a (rowOf kv (gsN p g))) = if kv = k' then oL c I kv p g l a else 0 := by
  unfold dotOf
  rw [vDot_at]
  simp only [hp, gsR_rowOf, pTile_at]
  have e : (rowOf kv (gsN p g)).val / 16 = kv.val := by show (16 * kv.val + (5 * p.val + g.val)) / 16 = kv.val; omega
  by_cases h : kv = k'
  · subst h
    simp only [e, if_true]
    refine Finset.sum_congr rfl fun t _ => ?_
    rw [emb_rk, emb_rvs]; rfl
  · have hn : ¬ kv.val = k'.val := fun e => h (Fin.ext e)
    simp only [e, if_neg hn, if_neg h, mul_zero, Finset.sum_const_zero]

/-- The sequence's row over the cache, as the main part stores it. -/
theorem orOf_l (a : Fin 96) : orOf c I (sL l) (rL l) (ix2 (rowOf kv (gsN p g)) ⟨a.val, by omega⟩) = oL c I kv p g l a := by
  unfold orOf
  rw [oRow_at]
  show dotOf c I (sL l) (rL l) 0 (ix2 a (rowOf kv (gsN p g))) + dotOf c I (sL l) (rL l) 1 (ix2 a (rowOf kv (gsN p g)))
    + dotOf c I (sL l) (rL l) 2 (ix2 a (rowOf kv (gsN p g))) + dotOf c I (sL l) (rL l) 3 (ix2 a (rowOf kv (gsN p g))) = _
  rw [dot_l c I kv p g l 0 a pPad0_at, dot_l c I kv p g l 1 a pPad1_at, dot_l c I kv p g l 2 a pPad2_at, dot_l c I kv p g l 3 a pPad3_at]
  fin_cases kv <;> simp
/-- The sequence's row over the cache, as the last part reads it. -/
theorem oOf_l (a : Fin 96) : oOf c I kv (gsN p g) (ix2 a l) = oL c I kv p g l a := by
  unfold oOf
  rw [oCol_at, emb_rq]
  have := V18_row c I (sL l) (rL l) (rowOf kv (gsN p g)) ⟨a.val, by omega⟩
  rw [lan_l, orOf_l] at this
  exact this
/-- A new value's weighted row. -/
theorem pvOf_l (j : Fin 2) (h : j.val ≤ p.val) (a : Fin 96) : pvOf c I j kv (gsN p g) (ix2 a l)
    = Ideal.exp2 (sN c I j kv p g l - max (mN c I kv p g l) (fm (sC c I kv p g l))) * icOf c I (sL l) (rL l) kv (ix2 (gsN p g) 0) * I.vn (ix4 j kv a l) := by
  unfold pvOf
  rw [pv_at, V13_at, V16_at, V17_at, wide_at, emb_r4, mcOf_l, tOf_l c I j kv p g h]; rfl

/-- The result at the first position. -/
theorem V7_at0 (a : Fin 96) : V7 c I (ix4 0 (headOf kv g) a l) = oL c I kv 0 g l a
    + Ideal.exp2 (sN c I 0 kv 0 g l - max (mN c I kv 0 g l) (fm (sC c I kv 0 g l))) * icOf c I (sL l) (rL l) kv (ix2 (gsN 0 g) 0) * I.vn (ix4 0 kv a l) := by
  have e1 : (⟨(headOf kv g).val / 5, by have := (headOf kv g).isLt; omega⟩ : Fin 4) = kv := Fin.ext (by show (5 * kv.val + g.val) / 5 = kv.val; omega)
  have e2 : (⟨(headOf kv g).val % 5, Nat.mod_lt _ (by decide)⟩ : Fin 5) = g := Fin.ext (by show (5 * kv.val + g.val) % 5 = g.val; omega)
  show outOf c I 0 ⟨(headOf kv g).val / 5, _⟩ ⟨(headOf kv g).val % 5, _⟩ (ix4 0 0 a l) = _
  rw [e1, e2]
  unfold outOf
  rw [if_pos (show (0 : Fin 2).val = 0 from rfl), outRow_at]
  have e3 : (⟨g.val, by omega⟩ : Fin 16) = gsN 0 g := Fin.ext (by show g.val = 5 * 0 + g.val; omega)
  rw [e3]
  exact congrArg₂ (· + ·) (oOf_l c I kv 0 g l a) (pvOf_l c I kv 0 g l 0 le_rfl a)
/-- The result at the second. -/
theorem V7_at1 (a : Fin 96) : V7 c I (ix4 1 (headOf kv g) a l) = oL c I kv 1 g l a
    + Ideal.exp2 (sN c I 0 kv 1 g l - max (mN c I kv 1 g l) (fm (sC c I kv 1 g l))) * icOf c I (sL l) (rL l) kv (ix2 (gsN 1 g) 0) * I.vn (ix4 0 kv a l)
    + Ideal.exp2 (sN c I 1 kv 1 g l - max (mN c I kv 1 g l) (fm (sC c I kv 1 g l))) * icOf c I (sL l) (rL l) kv (ix2 (gsN 1 g) 0) * I.vn (ix4 1 kv a l) := by
  have e1 : (⟨(headOf kv g).val / 5, by have := (headOf kv g).isLt; omega⟩ : Fin 4) = kv := Fin.ext (by show (5 * kv.val + g.val) / 5 = kv.val; omega)
  have e2 : (⟨(headOf kv g).val % 5, Nat.mod_lt _ (by decide)⟩ : Fin 5) = g := Fin.ext (by show (5 * kv.val + g.val) % 5 = g.val; omega)
  show outOf c I 1 ⟨(headOf kv g).val / 5, _⟩ ⟨(headOf kv g).val % 5, _⟩ (ix4 0 0 a l) = _
  rw [e1, e2]
  unfold outOf
  rw [if_neg (by decide), outRow_at]
  have e3 : (⟨5 + g.val, by omega⟩ : Fin 16) = gsN 1 g := Fin.ext (by show 5 + g.val = 5 * 1 + g.val; omega)
  rw [e3]
  exact congrArg₂ (· + ·) (congrArg₂ (· + ·) (oOf_l c I kv 1 g l a) (pvOf_l c I kv 1 g l 0 (by decide) a)) (pvOf_l c I kv 1 g l 1 le_rfl a)

/-- At the first position the new keys' maximum is the first score. -/
theorem mN_0 : mN c I kv 0 g l = sN c I 0 kv 0 g l := by
  unfold mN mOf
  rw [if_pos (by show 5 * 0 + g.val < 5; omega), tOf_l c I 0 kv 0 g le_rfl]
/-- At the first position the new keys' weight sum is the one weight. -/
theorem lN_0 : lN c I kv 0 g l = Ideal.exp2 (sN c I 0 kv 0 g l - sN c I 0 kv 0 g l) := by
  unfold lN lOf
  rw [if_pos (by show 5 * 0 + g.val < 5; omega), lSum1_at, tOf_l c I 0 kv 0 g le_rfl]
/-- At the second position the new keys' maximum is that of both scores. -/
theorem mN_1 : mN c I kv 1 g l = max (sN c I 0 kv 1 g l) (sN c I 1 kv 1 g l) := by
  unfold mN mOf
  rw [if_neg (by show ¬ 5 * 1 + g.val < 5; omega), if_pos (by show 5 * 1 + g.val < 10; omega)]
  exact congrArg₂ max (tOf_l c I 0 kv 1 g (by decide) l) (tOf_l c I 1 kv 1 g le_rfl l)
/-- At the second position the new keys' weight sum is of both weights. -/
theorem lN_1 : lN c I kv 1 g l = Ideal.exp2 (sN c I 0 kv 1 g l - mN c I kv 1 g l) + Ideal.exp2 (sN c I 1 kv 1 g l - mN c I kv 1 g l) := by
  rw [mN_1]
  unfold lN lOf
  rw [if_neg (by show ¬ 5 * 1 + g.val < 5; omega), if_pos (by show 5 * 1 + g.val < 10; omega), lSum2_at, tOf_l c I 0 kv 1 g (by decide), tOf_l c I 1 kv 1 g le_rfl]

/-- A row of the result is the reference's, given that the scores are base-two forms of the reference's. -/
theorem V7_row (C : Fin 512 → EReal) (N : Fin 2 → EReal) (a : Fin 96)
    (hC : ∀ t, sC c I kv p g l t = ph (C t)) (hN : ∀ j : Fin 2, j.val ≤ p.val → sN c I j kv p g l = ph (N j))
    (hCt : ∀ t, C t ≠ ⊤) (hr : ∀ j : Fin 2, j.val ≤ p.val → ∃ r : ℝ, N j = (r : EReal)) (hb : ∀ j : Fin 2, p.val < j.val → N j = ⊥) :
    V7 c I (ix4 p (headOf kv g) a l) = rO C N (fun t => FloatOps.sitofp (F := Ideal) FTy.bf16 (I.v (sL l) (ix4 (rL l) kv a t)))
      (fun t => I.vs (sL l) (ix3 (rL l) kv t)) (fun j => I.vn (ix4 j kv a l)) := by
  have hC' : sC c I kv p g l = fun t => ph (C t) := funext hC
  rcases (show p = 0 ∨ p = 1 by omega) with rfl | rfl
  · obtain ⟨r, hr0⟩ := hr 0 le_rfl
    rw [← row0 C N _ _ _ hCt r hr0 (hb 1 (by decide))]
    refine (V7_at0 c I kv g l a).trans ?_
    unfold oL kO kP kI kM
    simp only [etOf_l, icOf_l]
    rw [hC', lN_0, mN_0, hN 0 le_rfl]
  · obtain ⟨r, hr0⟩ := hr 0 (by decide)
    obtain ⟨r', hr1⟩ := hr 1 (by decide)
    rw [← row1 C N _ _ _ hCt r r' hr0 hr1 (mN c I kv 1 g l) (lN c I kv 1 g l) (by rw [mN_1, hN 0 (by decide), hN 1 le_rfl])
      (by rw [lN_1, hN 0 (by decide), hN 1 le_rfl])]
    refine (V7_at1 c I kv g l a).trans ?_
    unfold oL kO kP kI kM
    simp only [etOf_l, icOf_l]
    rw [hC', hN 0 (by decide), hN 1 le_rfl]

end Cert.Body

end
-- ==== Proof.IInp.lean ====
/- What the kernel's blocks hold, as entries of the arguments. -/
module

public import proofs.«01_k».proof.Proof.IAt
public import proofs.«01_k».proof.Proof.KAt3

@[expose] public section

set_option maxRecDepth 16384

noncomputable section

namespace Cert.KernelIdeal.Gen

open Idealize.ShloMosaic
open Idealize.ShloMosaic.TcCoe Idealize.SL.Sem
open Cert.Body (Inp V7 V8 V9 V10 qz sz sL rL headOf)

variable (m : (ℓ : Loc nD τ sig) → Buf (Elt Ideal) ℓ) (c : Dev nD)

/-- The sequence at a lane of a block. -/
abbrev nn (B : Fin 12) (l : Fin 128) : Fin 1536 := ⟨128 * B.val + l.val, by omega⟩
/-- A sequence is the one of its block and lane. -/
theorem nn_of (n : Fin 1536) : nn ⟨n.val / 128, by omega⟩ ⟨n.val % 128, Nat.mod_lt _ (by decide)⟩ = n := Fin.ext (by show 128 * (n.val / 128) + n.val % 128 = n.val; omega)
/-- A lane's place and number there give its sequence. -/
theorem row_eq (B : Fin 12) (l : Fin 128) (h : 8 * (16 * (bOf (pt B (sL l))).val + (sOf (pt B (sL l))).val) + (rL l).val < 1536) :
    (⟨8 * (16 * (bOf (pt B (sL l))).val + (sOf (pt B (sL l))).val) + (rL l).val, h⟩ : Fin 1536) = nn B l := by
  apply Fin.ext
  simp only [bOf_pt, sOf_pt]
  show 8 * (16 * B.val + l.val / 8) + l.val % 8 = 128 * B.val + l.val
  omega
/-- A lane of the block gives its sequence. -/
theorem col_eq (B : Fin 12) (l : Fin 128) (h : 128 * (bOf (pt B 0)).val + l.val < 1536) :
    (⟨128 * (bOf (pt B 0)).val + l.val, h⟩ : Fin 1536) = nn B l := by
  apply Fin.ext
  simp only [bOf_pt]
/-- A block's queries are the argument's. -/
theorem inp_x (B : Fin 12) (l : Fin 128) (j : Fin 2) (h : Fin 20) (a : Fin 96) :
    (inp m c B).x (ix4 j h a l) = m ((c : Thread nD τ).loc main_arg0) (ix4 (nn B l) j h a) :=
  (blk0_eq m c (pt B 0) j h a l).trans (by rw [col_eq, v0_at])
/-- A block's new keys are the argument's. -/
theorem inp_kn (B : Fin 12) (l : Fin 128) (j : Fin 2) (h : Fin 4) (a : Fin 96) :
    (inp m c B).kn (ix4 j h a l) = m ((c : Thread nD τ).loc main_arg1) (ix4 (nn B l) j h a) :=
  (blk1_eq m c (pt B 0) j h a l).trans (by rw [col_eq, v1_at])
/-- A block's new values are the argument's. -/
theorem inp_vn (B : Fin 12) (l : Fin 128) (j : Fin 2) (h : Fin 4) (a : Fin 96) :
    (inp m c B).vn (ix4 j h a l) = m ((c : Thread nD τ).loc main_arg2) (ix4 (nn B l) j h a) :=
  (blk2_eq m c (pt B 0) j h a l).trans (by rw [col_eq, v2_at])
/-- A block's key scales are the argument's. -/
theorem inp_ks (B : Fin 12) (l : Fin 128) (h : Fin 4) (a : Fin 96) :
    (inp m c B).ks (ix3 h a l) = m ((c : Thread nD τ).loc main_arg4) (ix3 (nn B l) h a) :=
  (blk4_eq m c (pt B 0) h a l).trans (by rw [col_eq, v5_at])
/-- A block's cached keys are the argument's. -/
theorem inp_k (B : Fin 12) (l : Fin 128) (h : Fin 4) (a : Fin 96) (t : Fin 512) :
    (inp m c B).k (sL l) (ix4 (rL l) h a t) = m ((c : Thread nD τ).loc main_arg3) (ix4 (nn B l) t h a) :=
  (blk3_eq m c (pt B (sL l)) (rL l) h a t).trans (by rw [row_eq, v3_at])
/-- A block's cached values are the argument's. -/
theorem inp_v (B : Fin 12) (l : Fin 128) (h : Fin 4) (a : Fin 96) (t : Fin 512) :
    (inp m c B).v (sL l) (ix4 (rL l) h a t) = m ((c : Thread nD τ).loc main_arg5) (ix4 (nn B l) t h a) :=
  (blk5_eq m c (pt B (sL l)) (rL l) h a t).trans (by rw [row_eq, v4_at])
/-- A block's cached value scales are the argument's. -/
theorem inp_vs (B : Fin 12) (l : Fin 128) (h : Fin 4) (t : Fin 512) :
    (inp m c B).vs (sL l) (ix3 (rL l) h t) = m ((c : Thread nD τ).loc main_arg6) (ix3 (nn B l) t h) :=
  (blk6_eq m c (pt B (sL l)) (rL l) h t).trans (by rw [row_eq, v6_at])
/-- A block's lengths are the argument's. -/
theorem inp_T (B : Fin 12) (l : Fin 128) :
    (inp m c B).T (ix1 ⟨128 * B.val + l.val, by omega⟩) = m ((c : Thread nD τ).loc main_arg7) (ix1 (nn B l)) := by
  obtain rfl : c = 0 := Subsingleton.elim _ _
  exact congrFun (V_main_arg7 m 0) _

/-! ### The results, as entries of the arguments -/

/-- A new key's codes, of the arguments. -/
theorem out8 (B : Fin 12) (l : Fin 128) (j : Fin 2) (kv : Fin 4) (a : Fin 96) :
    V8 (inp m c B) (ix4 j kv a l) = qz (m ((c : Thread nD τ).loc main_arg1) (ix4 (nn B l) j kv a)) (m ((c : Thread nD τ).loc main_arg4) (ix3 (nn B l) kv a)) := by
  rw [Cert.Body.V8_at, inp_kn, inp_ks]
/-- A new value's codes, of the arguments. -/
theorem out9 (B : Fin 12) (l : Fin 128) (j : Fin 2) (kv : Fin 4) (a : Fin 96) :
    V9 (inp m c B) (ix4 j kv a l) = qz (m ((c : Thread nD τ).loc main_arg2) (ix4 (nn B l) j kv a)) (sz fun a => m ((c : Thread nD τ).loc main_arg2) (ix4 (nn B l) j kv a)) := by
  rw [Cert.Body.V9_at, inp_vn]
  exact congrArg _ (congrArg sz (funext fun a => inp_vn m c B l j kv a))
/-- A new value's scale, of the arguments. -/
theorem out10 (B : Fin 12) (l : Fin 128) (j : Fin 2) (kv : Fin 4) :
    V10 (inp m c B) (ix3 j kv l) = sz fun a => m ((c : Thread nD τ).loc main_arg2) (ix4 (nn B l) j kv a) := by
  rw [Cert.Body.V10_at]
  exact congrArg sz (funext fun a => inp_vn m c B l j kv a)

end Cert.KernelIdeal.Gen

end
-- ==== Proof.RVal.lean ====
/- The reference's arrays, one by one, as functions of its arguments, and their entries. -/
module

public import proofs.«01_k».proof.Proof.Gen.ReferenceIdeal.Frame
public import Idealize.ShloMosaic.Lib.Pointwise
public import Idealize.ShloMosaic.Lib.IdealHost

@[expose] public section

set_option maxRecDepth 16384

noncomputable section

namespace Cert.RefVal

open Idealize.ShloMosaic
open Cert.ReferenceIdeal Cert.ReferenceIdeal.Facts₀ Cert.ReferenceIdeal.Facts

variable (x : FVec Ideal S1536x2x20x96 .bf16) (kn vn : FVec Ideal S1536x2x4x96 .bf16) (kf vf : FVec Ideal S1536x512x4x96 .bf16)
  (vs : FVec Ideal S1536x512x4 .f32) (len : IVec S1536 32)

/-- The score scale, 1 over the root of 96. -/
def aSc : FVec Ideal S_ .f32 := Host.divf (constant S_ .f32 0x3F800000#32) (Host.sqrt (constant S_ .f32 0x42C00000#32))
/-- The queries by head and place. -/
def aQ : FVec Ideal S1536x2x4x5x96 .bf16 := shapeCast S1536x2x4x5x96 x shapeCasts_S1536x2x20x96_S1536x2x4x5x96
/-- Masked scores over the cache. -/
def aC : FVec Ideal S1536x4x5x2x512 .f32 :=
  select (broadcastInDim S1536x4x5x2x512 ![0, 1, 2, 3, 4] bcast_S1536x1x1x1x512_S1536x4x5x2x512_0_1_2_3_4
      (broadcastInDim S1536x1x1x1x512 ![0, 4] bcast_S1536x512_S1536x1x1x1x512_0_4
        (cmpi .slt (broadcastInDim S1536x512 ![0, 1] bcast_S1x512_S1536x512_0_1 (broadcastInDim S1x512 ![1] bcast_S512_S1x512_1 (iotaInDim S512 32 0)))
          (broadcastInDim S1536x512 ![0, 1] bcast_S1536x1_S1536x512_0_1 (broadcastInDim S1536x1 ![0] bcast_S1536_S1536x1_0 len)))))
    (mulf (transpose S1536x4x5x2x512 [0, 1, 4, 3, 2] (Host.dotGeneral dot_S1536x512x4x96_S1536x2x4x5x96_S1536x4x512x2x5_3_4_1_13_02_02 none kf (aQ x) : FVec Ideal S1536x4x512x2x5 .f32) transposes_S1536x4x512x2x5_S1536x4x5x2x512_0_1_4_3_2)
      (broadcastInDim S1536x4x5x2x512 ![] bcast_S_S1536x4x5x2x512 aSc))
    (broadcastInDim S1536x4x5x2x512 ![] bcast_S_S1536x4x5x2x512 (constant S_ .f32 0xFF800000#32))

/-- Masked scores over the new keys. -/
def aN : FVec Ideal S1536x4x5x2x2 .f32 :=
  select (broadcastInDim S1536x4x5x2x2 ![3, 4] bcast_S2x2_S1536x4x5x2x2_3_4
        (cmpi .sle (broadcastInDim S2x2 ![0, 1] bcast_S1x2_S2x2_0_1 (broadcastInDim S1x2 ![1] bcast_S2_S1x2_1 (iotaInDim S2 32 0)))
          (broadcastInDim S2x2 ![0, 1] bcast_S2x1_S2x2_0_1 (broadcastInDim S2x1 ![0] bcast_S2_S2x1_0 (iotaInDim S2 32 0)))))
    (mulf (transpose S1536x4x5x2x2 [0, 1, 4, 3, 2] (Host.dotGeneral dot_S1536x2x4x96_S1536x2x4x5x96_S1536x4x2x2x5_3_4_1_13_02_02 none kn (aQ x) : FVec Ideal S1536x4x2x2x5 .f32) transposes_S1536x4x2x2x5_S1536x4x5x2x2_0_1_4_3_2)
      (broadcastInDim S1536x4x5x2x2 ![] bcast_S_S1536x4x5x2x2 aSc))
    (broadcastInDim S1536x4x5x2x2 ![] bcast_S_S1536x4x5x2x2 (constant S_ .f32 0xFF800000#32))

variable (C : FVec Ideal S1536x4x5x2x512 .f32) (N : FVec Ideal S1536x4x5x2x2 .f32)
/-- The maxima. -/
def aM : FVec Ideal S1536x4x5x2x1 .f32 :=
  broadcastInDim S1536x4x5x2x1 ![0, 1, 2, 3] bcast_S1536x4x5x2_S1536x4x5x2x1_0_1_2_3
    (maximumf (Host.reduce FloatOps.maximumf C (constant S_ .f32 0xFF800000#32) reducesTo_S1536x4x5x2x512_S1536x4x5x2_d4 h_S_)
      (Host.reduce FloatOps.maximumf N (constant S_ .f32 0xFF800000#32) reducesTo_S1536x4x5x2x2_S1536x4x5x2_d4 h_S_))

variable (M : FVec Ideal S1536x4x5x2x1 .f32)
/-- The weights over the cache. -/
def aPc : FVec Ideal S1536x4x5x2x512 .f32 :=
  Host.exp (subf C (broadcastInDim S1536x4x5x2x512 ![0, 1, 2, 3, 4] bcast_S1536x4x5x2x1_S1536x4x5x2x512_0_1_2_3_4 M))
/-- The weights over the new keys. -/
def aPn : FVec Ideal S1536x4x5x2x2 .f32 :=
  Host.exp (subf N (broadcastInDim S1536x4x5x2x2 ![0, 1, 2, 3, 4] bcast_S1536x4x5x2x1_S1536x4x5x2x2_0_1_2_3_4 M))
variable (P : FVec Ideal S1536x4x5x2x512 .f32) (R : FVec Ideal S1536x4x5x2x2 .f32)
/-- The sums of all weights. -/
def aD : FVec Ideal S1536x4x5x2x1 .f32 :=
  addf (broadcastInDim S1536x4x5x2x1 ![0, 1, 2, 3] bcast_S1536x4x5x2_S1536x4x5x2x1_0_1_2_3 (Host.reduceAdd P (constant S_ .f32 0x00000000#32) reducesTo_S1536x4x5x2x512_S1536x4x5x2_d4 h_S_))
    (broadcastInDim S1536x4x5x2x1 ![0, 1, 2, 3] bcast_S1536x4x5x2_S1536x4x5x2x1_0_1_2_3 (Host.reduceAdd R (constant S_ .f32 0x00000000#32) reducesTo_S1536x4x5x2x2_S1536x4x5x2_d4 h_S_))
variable (D : FVec Ideal S1536x4x5x2x1 .f32)
/-- The cache's probabilities times the value scales. -/
def aW : FVec Ideal S1536x4x5x2x512 .bf16 :=
  truncf .bf16 (mulf (Host.divf P (broadcastInDim S1536x4x5x2x512 ![0, 1, 2, 3, 4] bcast_S1536x4x5x2x1_S1536x4x5x2x512_0_1_2_3_4 D))
    (broadcastInDim S1536x4x5x2x512 ![0, 1, 2, 3, 4] bcast_S1536x4x1x1x512_S1536x4x5x2x512_0_1_2_3_4
      (broadcastInDim S1536x4x1x1x512 ![0, 1, 4] bcast_S1536x4x512_S1536x4x1x1x512_0_1_4 (transpose S1536x4x512 [0, 2, 1] vs transposes_S1536x512x4_S1536x4x512_0_2_1)))) bitsLt_bf16_f32
/-- The new keys' probabilities. -/
def aU : FVec Ideal S1536x4x5x2x2 .bf16 :=
  truncf .bf16 (Host.divf R (broadcastInDim S1536x4x5x2x2 ![0, 1, 2, 3, 4] bcast_S1536x4x5x2x1_S1536x4x5x2x2_0_1_2_3_4 D)) bitsLt_bf16_f32
variable (W : FVec Ideal S1536x4x5x2x512 .bf16) (U : FVec Ideal S1536x4x5x2x2 .bf16)
/-- The result: the cached and the new values, weighted. -/
def aO : FVec Ideal S1536x2x20x96 .bf16 :=
  truncf .bf16 (shapeCast S1536x2x20x96 (addf
    (transpose S1536x2x4x5x96 [0, 4, 1, 3, 2] (Host.dotGeneral dot_S1536x512x4x96_S1536x4x5x2x512_S1536x4x96x5x2_1_4_3_23_02_01 none vf W : FVec Ideal S1536x4x96x5x2 .f32) transposes_S1536x4x96x5x2_S1536x2x4x5x96_0_4_1_3_2)
    (transpose S1536x2x4x5x96 [0, 4, 1, 3, 2] (Host.dotGeneral dot_S1536x2x4x96_S1536x4x5x2x2_S1536x4x96x5x2_1_4_3_23_02_01 none vn U : FVec Ideal S1536x4x96x5x2 .f32) transposes_S1536x4x96x5x2_S1536x2x4x5x96_0_4_1_3_2))
      shapeCasts_S1536x2x4x5x96_S1536x2x20x96) bitsLt_bf16_f32

end Cert.RefVal

end
-- ==== Proof.RTail.lean ====
/- The reference's first result as a function of its arguments and of the staged arrays. -/
module

public import proofs.«01_k».proof.Proof.RVal
public import Idealize.ShloMosaic.Lib.Claim

@[expose] public section

set_option maxRecDepth 16384

noncomputable section

namespace Cert.RefTail

open Idealize.ShloMosaic
open Idealize.ShloMosaic.TcCoe
open Cert.ReferenceIdeal Cert.ReferenceIdeal.Gen Cert.RefVal

/-- The first result from the arguments and the widened cache. -/
def tailO (x : FVec Ideal S1536x2x20x96 .bf16) (kn vn : FVec Ideal S1536x2x4x96 .bf16) (kf vf : FVec Ideal S1536x512x4x96 .bf16)
    (vs : FVec Ideal S1536x512x4 .f32) (len : IVec S1536 32) : FVec Ideal S1536x2x20x96 .bf16 :=
  aO vn vf (aW vs (aPc (aC x kf len) (aM (aC x kf len) (aN x kn))) (aD (aPc (aC x kf len) (aM (aC x kf len) (aN x kn))) (aPn (aN x kn) (aM (aC x kf len) (aN x kn)))))
    (aU (aPn (aN x kn) (aM (aC x kf len) (aN x kn))) (aD (aPc (aC x kf len) (aM (aC x kf len) (aN x kn))) (aPn (aN x kn) (aM (aC x kf len) (aN x kn)))))

/-- The operations after the region leave that result. -/
theorem tail_v59 (U : Valuation τ sig (Elt Ideal)) :
    StableHlo.after ([hostOps1, hostOps1_1, hostOps1_2, hostOps1_3, hostOps1_4] : List (List (HloOp τ sig (Elt Ideal)))).flatten U (Proc.devRef .tc main_v59)
      = tailO (U (Proc.devRef .tc main_arg0)) (U (Proc.devRef .tc main_arg1)) (U (Proc.devRef .tc main_arg2)) (U (Proc.devRef .tc main_v0_3)) (U (Proc.devRef .tc main_v0_4)) (U (Proc.devRef .tc main_arg6)) (U (Proc.devRef .tc main_arg7)) := by
  simp only [hostOps1, hostOps1_1, hostOps1_2, hostOps1_3, hostOps1_4, List.flatten_cons, List.flatten_nil, List.append_nil, List.cons_append, List.nil_append, StableHlo.after_cons, StableHlo.after_nil]
  after_results_simp
  rfl

end Cert.RefTail

end
-- ==== Proof.RAt.lean ====
/- The reference's arrays, entry by entry. -/
module

public import proofs.«01_k».proof.Proof.RVal
public import Idealize.ShloMosaic.Lib.Pointwise
public import Idealize.ShloMosaic.Lib.IdealHost

@[expose] public section

set_option maxRecDepth 16384

noncomputable section

namespace Cert.RefVal

open Idealize.ShloMosaic
open Cert.ReferenceIdeal Cert.ReferenceIdeal.Facts₀ Cert.ReferenceIdeal.Facts

variable (x : FVec Ideal S1536x2x20x96 .bf16) (kn vn : FVec Ideal S1536x2x4x96 .bf16) (kf vf : FVec Ideal S1536x512x4x96 .bf16)
  (vs : FVec Ideal S1536x512x4 .f32) (len : IVec S1536 32)
  (C : FVec Ideal S1536x4x5x2x512 .f32) (N : FVec Ideal S1536x4x5x2x2 .f32) (M : FVec Ideal S1536x4x5x2x1 .f32)
  (P : FVec Ideal S1536x4x5x2x512 .f32) (R : FVec Ideal S1536x4x5x2x2 .f32) (D : FVec Ideal S1536x4x5x2x1 .f32)
  (W : FVec Ideal S1536x4x5x2x512 .bf16) (U : FVec Ideal S1536x4x5x2x2 .bf16)
  (b : Fin 1536) (kv : Fin 4) (g : Fin 5) (s : Fin 2)

/-- A maximum over the last of five axes, entry by entry. -/
theorem reduceMax5 {n0 n1 n2 n3 n4 : Nat} (h : (⟨5, ![n0, n1, n2, n3, n4]⟩ : Shape).ReducesTo [4] (⟨4, ![n0, n1, n2, n3]⟩ : Shape))
    (C : (⟨5, ![n0, n1, n2, n3, n4]⟩ : Shape).Idx → EReal) {u : Shape} (init : u.Idx → EReal) (hu : 0 < u.numel)
    (b : Fin n0) (c : Fin n1) (d : Fin n2) (e : Fin n3) :
    Host.reduce (max : EReal → EReal → EReal) C init h hu (ix4 b c d e)
      = (Finset.univ : Finset (Fin n4)).fold max (init (Shape.Idx.first hu)) (fun t => C (ix5 b c d e t)) :=
  (Host.reduce_eq_fold max C init h hu (ix4 b c d e)).trans (h.fold_fiber_r5_a4 (ix4 b c d e) max _ C)

/-- The query head of head `kv`, number `g`. -/
def hd (kv : Fin 4) (g : Fin 5) : Fin 20 := ⟨kv.val * 5 + g.val, by omega⟩
/-- The score scale. -/
abbrev scl : EReal := Ideal.div 1 (Ideal.sqrt (Ideal.ofBits .f32 1119879168#32))
/-- The mask's value. -/
abbrev msk : EReal := Ideal.ofBits .f32 4286578688#32

/-- The cache's scores, entry by entry. -/
theorem aC_at (t : Fin 512) : aC x kf len (ix5 b kv g s t) =
    Scalar.select (IntOp.cmpi .slt (BitVec.ofNat 32 t.val) (len (ix1 b)))
      ((∑ d : Fin 96, kf (ix4 b t kv d) * x (ix4 b s (hd kv g) d)) * scl) msk := by
  pointwise [aC, aSc, aQ]
  rfl
/-- The new keys' scores, entry by entry. -/
theorem aN_at (j : Fin 2) : aN x kn (ix5 b kv g s j) =
    Scalar.select (IntOp.cmpi .sle (BitVec.ofNat 32 j.val) (BitVec.ofNat 32 s.val))
      ((∑ d : Fin 96, kn (ix4 b j kv d) * x (ix4 b s (hd kv g) d)) * scl) msk := by
  pointwise [aN, aSc, aQ]
  rfl
/-- The weights, entry by entry. -/
theorem aPc_at (t : Fin 512) : aPc C M (ix5 b kv g s t) = Ideal.exp (C (ix5 b kv g s t) - M (ix5 b kv g s 0)) := by
  pointwise [aPc]
  try rfl
/-- A new key's weight. -/
theorem aPn_at (j : Fin 2) : aPn N M (ix5 b kv g s j) = Ideal.exp (N (ix5 b kv g s j) - M (ix5 b kv g s 0)) := by
  pointwise [aPn]
  try rfl
/-- Their sum. -/
theorem aD_at : aD P R (ix5 b kv g s 0) = (∑ t : Fin 512, P (ix5 b kv g s t)) + ∑ j : Fin 2, R (ix5 b kv g s j) := by
  pointwise [aD]
  try rfl
/-- The probabilities. -/
theorem aW_at (t : Fin 512) : aW vs P D (ix5 b kv g s t) = Ideal.div (P (ix5 b kv g s t)) (D (ix5 b kv g s 0)) * vs (ix3 b t kv) := by
  pointwise [aW]
  try rfl
/-- A new key's probability. -/
theorem aU_at (j : Fin 2) : aU R D (ix5 b kv g s j) = Ideal.div (R (ix5 b kv g s j)) (D (ix5 b kv g s 0)) := by
  pointwise [aU]
  try rfl
/-- The result, entry by entry. -/
theorem aO_at (h : Fin 20) (d : Fin 96) : aO vn vf W U (ix4 b s h d) =
    (∑ t : Fin 512, vf (ix4 b t ⟨h.val / 5, by omega⟩ d) * W (ix5 b ⟨h.val / 5, by omega⟩ ⟨h.val % 5, by omega⟩ s t))
      + ∑ j : Fin 2, vn (ix4 b j ⟨h.val / 5, by omega⟩ d) * U (ix5 b ⟨h.val / 5, by omega⟩ ⟨h.val % 5, by omega⟩ s j) := by
  pointwise [aO]
  try rfl
/-- A maximum with an axis of one added. -/
theorem bcM (Y : FVec Ideal S1536x4x5x2 .f32) :
    broadcastInDim S1536x4x5x2x1 ![0, 1, 2, 3] bcast_S1536x4x5x2_S1536x4x5x2x1_0_1_2_3 Y (ix5 b kv g s 0) = Y (ix4 b kv g s) := by
  pointwise []
/-- A maximum, entry by entry. -/
theorem mxA {S : Shape} (A B : FVec Ideal S .f32) (i : S.Idx) : maximumf A B i = max (A i) (B i) := rfl
/-- A maximum over the last of five axes. -/
theorem reduceMax5' {n0 n1 n2 n3 n4 : Nat} (h : (⟨5, ![n0, n1, n2, n3, n4]⟩ : Shape).ReducesTo [4] (⟨4, ![n0, n1, n2, n3]⟩ : Shape))
    (C : FVec Ideal (⟨5, ![n0, n1, n2, n3, n4]⟩ : Shape) .f32) {u : Shape} (w : BitVec 32) (hu : 0 < u.numel)
    (b : Fin n0) (c : Fin n1) (d : Fin n2) (e : Fin n3) :
    Host.reduce FloatOps.maximumf C (constant u .f32 w : FVec Ideal u .f32) h hu (ix4 b c d e)
      = (Finset.univ : Finset (Fin n4)).fold max (Ideal.ofBits .f32 w) (fun t => C (ix5 b c d e t)) := by
  have hf : (FloatOps.maximumf : Ideal .f32 → Ideal .f32 → Ideal .f32) = (max : EReal → EReal → EReal) := rfl
  rw [hf]
  exact reduceMax5 h C _ hu b c d e
/-- The maximum of a row. -/
theorem aM_at : aM C N (ix5 b kv g s 0) =
    max ((Finset.univ : Finset (Fin 512)).fold max msk (fun t => C (ix5 b kv g s t)))
      ((Finset.univ : Finset (Fin 2)).fold max msk (fun j => N (ix5 b kv g s j))) := by
  unfold aM
  rw [bcM, mxA]
  exact congrArg₂ max (reduceMax5' _ C _ _ b kv g s) (reduceMax5' _ N _ _ b kv g s)

end Cert.RefVal

end
-- ==== Proof.Score.lean ====
/- Finite arguments, and the score scales of the two programs. -/
module

public import proofs.«01_k».proof.Proof.IDat
public import proofs.«01_k».proof.Proof.RAt
public import proofs.«01_k».proof.Proof.Att
public import proofs.«01_k».proof.Pre_finite
public import Idealize.ShloMosaic.Lib.Pointwise
public import Idealize.ShloMosaic.Lib.IdealHost

@[expose] public section

set_option maxRecDepth 16384

noncomputable section

namespace Cert.Score

open Idealize.ShloMosaic
open Cert.Att

/-- The precondition's shape relations. -/
theorem pre_facts : Cert.Pre_finite.Facts := ⟨by decide, by decide, by decide, by decide⟩

/-- A value of finite magnitude is a real number. -/
theorem real_of_abs (x : EReal) (h : Scalar.cmpf (F := Ideal) (φ := .f32) .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | bot => exfalso; revert h; show ¬ (BitVec.ofBool (decide ((⊤ : EReal) < ⊤)) = 1#1); simp
  | top => exfalso; revert h; show ¬ (BitVec.ofBool (decide ((⊤ : EReal) < ⊤)) = 1#1); simp
  | coe r => exact ⟨r, rfl⟩

section
open Cert.Pre_finite
variable [hF : Cert.Pre_finite.Facts] (a0 : FVec Ideal S1536x2x20x96 .bf16) (a1 a2 : FVec Ideal S1536x2x4x96 .bf16) (a3 : IVec S1536x512x4x96 8) (a4 : FVec Ideal S1536x4x96 .f32)
  (a5 : IVec S1536x512x4x96 8) (a6 : FVec Ideal S1536x512x4 .f32) (a7 : IVec S1536 32)

/-- Under the precondition every query entry is a real number. -/
theorem fin_x (h : (fn (F := Ideal) a0 a1 a2 a3 a4 a5 a6 a7).1 = fun _ => 1#1) (i : S1536x2x20x96.Idx) : ∃ r : ℝ, a0 i = r :=
  real_of_abs _ (congrFun h i)
/-- Under the precondition every new key entry is a real number. -/
theorem fin_kn (h : (fn (F := Ideal) a0 a1 a2 a3 a4 a5 a6 a7).2.1 = fun _ => 1#1) (i : S1536x2x4x96.Idx) : ∃ r : ℝ, a1 i = r :=
  real_of_abs _ (congrFun h i)
/-- Under the precondition every key scale is a real number. -/
theorem fin_ks (h : (fn (F := Ideal) a0 a1 a2 a3 a4 a5 a6 a7).2.2 = fun _ => 1#1) (i : S1536x4x96.Idx) : ∃ r : ℝ, a4 i = r :=
  real_of_abs _ (congrFun h i)
end

/-- A sum of real numbers is one. -/
theorem real_sum {n : Nat} (f : Fin n → EReal) (h : ∀ a, ∃ r : ℝ, f a = r) : ∃ r : ℝ, ∑ a, f a = r := by
  choose g hg using h
  exact ⟨∑ a, g a, by
    rw [Finset.sum_congr rfl fun a _ => hg a]
    exact (map_sum (⟨⟨fun r : ℝ => (r : EReal), EReal.coe_zero⟩, EReal.coe_add⟩ : ℝ →+ EReal) g Finset.univ).symm⟩
/-- A product of two real numbers is one. -/
theorem real_mul {x y : EReal} (hx : ∃ r : ℝ, x = r) (hy : ∃ r : ℝ, y = r) : ∃ r : ℝ, x * y = r := by
  obtain ⟨a, rfl⟩ := hx; obtain ⟨b, rfl⟩ := hy
  exact ⟨a * b, (EReal.coe_mul a b).symm⟩

/-- The word of 96 is 96. -/
theorem n96 : Ideal.ofBits .f32 1119879168#32 = ((96 : ℝ) : EReal) := by
  simp [Ideal.ofBits, Ideal.ieee, -EReal.coe_mul]
  norm_num
/-- The reference's scale is 1 over the root of 96. -/
theorem scl_eq : Cert.RefVal.scl = (((Real.sqrt 96)⁻¹ : ℝ) : EReal) := by
  have hs : (0 : ℝ) < Real.sqrt 96 := Real.sqrt_pos.mpr (by norm_num)
  have e : Ideal.sqrt (Ideal.ofBits .f32 1119879168#32) = ((Real.sqrt 96 : ℝ) : EReal) := by
    rw [n96]
    show (if (96 : ℝ) < 0 then (⊥ : EReal) else ((Real.sqrt 96 : ℝ) : EReal)) = _
    rw [if_neg (by norm_num)]
  unfold Cert.RefVal.scl
  rw [e]
  unfold Ideal.div
  rw [if_neg (by exact_mod_cast hs.ne'), one_mul, EReal.coe_inv]
/-- The kernel's scale is that by the logarithm of 2. -/
theorem kc_eq : (Cert.KernelIdeal.Gen.kc (F := Ideal) : EReal) = ((((Real.sqrt 96) * (Real.log 2))⁻¹ : ℝ) : EReal) :=
  IdealRules.named_const.ideal_named_scalar _ _ _ _ rfl
/-- So the kernel's score is the reference's in base two. -/
theorem score (S : EReal) : S * (Cert.KernelIdeal.Gen.kc (F := Ideal) : EReal) = ph (S * Cert.RefVal.scl) := by
  unfold ph
  rw [scl_eq, kc_eq, mul_assoc, ← EReal.coe_mul, mul_inv]
/-- A masked score is never plus infinity, and in base two the mask stays minus infinity. -/
theorem ph_sel (b : BitVec 1) (x y : EReal) (hy : y = ⊥) : ph (Scalar.select b x y) = Scalar.select b (ph x) y := by
  subst hy
  unfold Scalar.select
  split
  · rfl
  · exact ph_bot
/-- A choice of a real number or minus infinity is not infinity. -/
theorem sel_ne_top (b : BitVec 1) (x y : EReal) (hx : ∃ r : ℝ, x = r) (hy : y = ⊥) : Scalar.select b x y ≠ ⊤ := by
  subst hy; obtain ⟨r, rfl⟩ := hx
  unfold Scalar.select
  split
  · exact EReal.coe_ne_top r
  · exact bot_ne_top
/-- The comparison of two positions, as a bit. -/
theorem sle_2 : ∀ j p : Fin 2, IntOp.cmpi CmpIPredicate.sle (BitVec.ofNat 32 j.val) (BitVec.ofNat 32 p.val) = if j.val ≤ p.val then 1#1 else 0#1 := by decide

end Cert.Score

end
-- ==== Proof.Row.lean ====
/- A row of the first result: the kernel's and the reference's are one. -/
module

public import proofs.«01_k».proof.Proof.IInp
public import proofs.«01_k».proof.Proof.RTail
public import proofs.«01_k».proof.Proof.Score

@[expose] public section

set_option maxRecDepth 16384

noncomputable section

namespace Cert.Row

open Idealize.ShloMosaic
open Idealize.ShloMosaic.TcCoe
open Cert.Att Cert.RefVal Cert.RefTail Cert.Score
open Cert.Body (V7 sC sN headOf)
open Cert.KernelIdeal.Gen (inp kc nn inp_x inp_kn inp_vn inp_ks inp_k inp_v inp_vs inp_T)

variable (x : FVec Ideal Cert.ReferenceIdeal.S1536x2x20x96 .bf16) (kn vn : FVec Ideal Cert.ReferenceIdeal.S1536x2x4x96 .bf16) (kf vf : FVec Ideal Cert.ReferenceIdeal.S1536x512x4x96 .bf16)
  (vs : FVec Ideal Cert.ReferenceIdeal.S1536x512x4 .f32) (len : IVec Cert.ReferenceIdeal.S1536 32)

/-- The reference's row: the softmax over the cache and the new keys, applied to the values. -/
theorem tailO_at (n : Fin 1536) (s : Fin 2) (h : Fin 20) (a : Fin 96) (kv : Fin 4) (g : Fin 5) (hkv : kv.val = h.val / 5) (hg : g.val = h.val % 5) :
    tailO x kn vn kf vf vs len (ix4 n s h a) =
      rO (fun t => aC x kf len (ix5 n kv g s t)) (fun j => aN x kn (ix5 n kv g s j)) (fun t => vf (ix4 n t kv a)) (fun t => vs (ix3 n t kv)) (fun j => vn (ix4 n j kv a)) := by
  have ekv : (⟨h.val / 5, by omega⟩ : Fin 4) = kv := Fin.ext hkv.symm
  have eg : (⟨h.val % 5, by omega⟩ : Fin 5) = g := Fin.ext hg.symm
  unfold tailO
  rw [aO_at, ekv, eg]
  simp only [aW_at, aU_at, aD_at, aPc_at, aPn_at, aM_at]
  unfold rO rD rM fm
  rw [show msk = ⊥ from Cert.Body.msk_bot]

variable (m : (ℓ : Loc Cert.KernelIdeal.nD Cert.KernelIdeal.τ Cert.KernelIdeal.sig) → Buf (Elt Ideal) ℓ) (c : Dev Cert.KernelIdeal.nD)
  (ck cv : IVec Cert.ReferenceIdeal.S1536x512x4x96 8) (ks : FVec Ideal Cert.ReferenceIdeal.S1536x4x96 .f32)

/-- The kernel's row is the reference's. -/
theorem row_eq
    (h0 : m ((c : Thread Cert.KernelIdeal.nD Cert.KernelIdeal.τ).loc Cert.KernelIdeal.main_arg0) = x)
    (h1 : m ((c : Thread Cert.KernelIdeal.nD Cert.KernelIdeal.τ).loc Cert.KernelIdeal.main_arg1) = kn)
    (h2 : m ((c : Thread Cert.KernelIdeal.nD Cert.KernelIdeal.τ).loc Cert.KernelIdeal.main_arg2) = vn)
    (h3 : m ((c : Thread Cert.KernelIdeal.nD Cert.KernelIdeal.τ).loc Cert.KernelIdeal.main_arg3) = ck)
    (h4 : m ((c : Thread Cert.KernelIdeal.nD Cert.KernelIdeal.τ).loc Cert.KernelIdeal.main_arg4) = ks)
    (h5 : m ((c : Thread Cert.KernelIdeal.nD Cert.KernelIdeal.τ).loc Cert.KernelIdeal.main_arg5) = cv)
    (h6 : m ((c : Thread Cert.KernelIdeal.nD Cert.KernelIdeal.τ).loc Cert.KernelIdeal.main_arg6) = vs)
    (h7 : m ((c : Thread Cert.KernelIdeal.nD Cert.KernelIdeal.τ).loc Cert.KernelIdeal.main_arg7) = len)
    (hkf : ∀ n t h a, kf (ix4 n t h a) = FloatOps.sitofp (F := Ideal) .bf16 (ck (ix4 n t h a)) * ks (ix3 n h a))
    (hvf : ∀ n t h a, vf (ix4 n t h a) = FloatOps.sitofp (F := Ideal) .bf16 (cv (ix4 n t h a)))
    (fx : ∀ i, ∃ r : ℝ, x i = r) (fk : ∀ i, ∃ r : ℝ, kn i = r) (fs : ∀ i, ∃ r : ℝ, ks i = r)
    (B : Fin 12) (l : Fin 128) (p : Fin 2) (kv : Fin 4) (g : Fin 5) (a : Fin 96) :
    V7 (kc (F := Ideal)) (inp m c B) (ix4 p (headOf kv g) a l) = tailO x kn vn kf vf vs len (ix4 (nn B l) p (headOf kv g) a) := by
  have eh : hd kv g = headOf kv g := Fin.ext (by show kv.val * 5 + g.val = 5 * kv.val + g.val; omega)
  have hm : msk = ⊥ := Cert.Body.msk_bot
  have fC : ∀ t, ∃ r : ℝ, (∑ d : Fin 96, kf (ix4 (nn B l) t kv d) * x (ix4 (nn B l) p (hd kv g) d)) * scl = r := fun t =>
    real_mul (real_sum _ fun d => real_mul (by rw [hkf]; exact real_mul ⟨_, rfl⟩ (fs _)) (fx _)) ⟨_, scl_eq⟩
  have fN : ∀ j, ∃ r : ℝ, (∑ d : Fin 96, kn (ix4 (nn B l) j kv d) * x (ix4 (nn B l) p (hd kv g) d)) * scl = r := fun j =>
    real_mul (real_sum _ fun d => real_mul (fk _) (fx _)) ⟨_, scl_eq⟩
  have key := Cert.Body.V7_row (kc (F := Ideal)) (inp m c B) kv p g l (fun t => aC x kf len (ix5 (nn B l) kv g p t)) (fun j => aN x kn (ix5 (nn B l) kv g p j)) a
    (fun t => by
      unfold sC
      show _ = ph (aC x kf len (ix5 (nn B l) kv g p t))
      rw [aC_at, ph_sel _ _ _ hm, ← score, eh]
      refine congrArg₂ (fun b y => Scalar.select b y msk) (congrArg _ ((inp_T m c B l).trans (congrFun h7 _))) (congrArg (fun z : EReal => z * (kc (F := Ideal) : EReal)) (Finset.sum_congr rfl fun d _ => ?_))
      rw [inp_x, inp_k, inp_ks, h0, h3, h4, hkf]
      exact mul_comm _ _)
    (fun j hj => by
      unfold sN
      show _ = ph (aN x kn (ix5 (nn B l) kv g p j))
      rw [aN_at, sle_2, if_pos hj, eh]
      show _ = ph ((∑ d : Fin 96, kn (ix4 (nn B l) j kv d) * x (ix4 (nn B l) p (headOf kv g) d)) * scl)
      rw [← score]
      refine congrArg (fun z : EReal => z * (kc (F := Ideal) : EReal)) (Finset.sum_congr rfl fun d _ => ?_)
      rw [inp_x, inp_kn, h0, h1]
      exact mul_comm _ _)
    (fun t => by
      show aC x kf len (ix5 (nn B l) kv g p t) ≠ ⊤
      rw [aC_at]
      exact sel_ne_top _ _ _ (fC t) hm)
    (fun j hj => by
      show ∃ r : ℝ, aN x kn (ix5 (nn B l) kv g p j) = r
      rw [aN_at, sle_2, if_pos hj]
      exact fN j)
    (fun j hj => by
      show aN x kn (ix5 (nn B l) kv g p j) = ⊥
      rw [aN_at, sle_2, if_neg (by omega)]
      exact hm)
  refine key.trans ?_
  rw [tailO_at x kn vn kf vf vs len (nn B l) p (headOf kv g) a kv g (by show kv.val = (5 * kv.val + g.val) / 5; omega) (by show g.val = (5 * kv.val + g.val) % 5; omega)]
  have e1 : (fun t => FloatOps.sitofp (F := Ideal) .bf16 ((inp m c B).v (Cert.Body.sL l) (ix4 (Cert.Body.rL l) kv a t))) = fun t => vf (ix4 (nn B l) t kv a) :=
    funext fun t => by rw [inp_v, h5, hvf]
  have e2 : (fun t => (inp m c B).vs (Cert.Body.sL l) (ix3 (Cert.Body.rL l) kv t)) = fun t => vs (ix3 (nn B l) t kv) := funext fun t => by rw [inp_vs, h6]
  have e3 : (fun j => (inp m c B).vn (ix4 j kv a l)) = fun j => vn (ix4 (nn B l) j kv a) := funext fun j => by rw [inp_vn, h2]
  rw [e1, e2, e3]

end Cert.Row

end
-- ==== Proof.RArr.lean ====
/- The reference's five staged results, entry by entry. -/
module

public import proofs.«01_k».proof.Proof.Gen.ReferenceIdeal.Frame
public import proofs.«01_k».proof.Proof.KAt1
public import Idealize.ShloMosaic.Lib.Pipeline.ValueKit
public import Idealize.ShloMosaic.Lib.Pointwise
public import Idealize.ShloMosaic.Lib.IdealHost

@[expose] public section

set_option maxRecDepth 16384

noncomputable section

namespace Cert.ReferenceIdeal.Gen

open Idealize.ShloMosaic
open Idealize.ShloMosaic.TcCoe Idealize.SL.Sem
open Cert.Body (qz sz)

/-- The widened keys. -/
theorem pay1_at (v : IVec S1536x512x4x96 8) (w : FVec Ideal S1536x4x96 .f32) (n : Fin 1536) (t : Fin 512) (h : Fin 4) (a : Fin 96) :
    k0_pay1 (F := Ideal) v w (ix4 n t h a) = FloatOps.sitofp (F := Ideal) .bf16 (v (ix4 n t h a)) * w (ix3 n h a) := by
  pointwise [k0_pay1]
/-- The widened values. -/
theorem pay2_at (v : IVec S1536x512x4x96 8) (n : Fin 1536) (t : Fin 512) (h : Fin 4) (a : Fin 96) :
    k0_pay2 (F := Ideal) v (ix4 n t h a) = FloatOps.sitofp (F := Ideal) .bf16 (v (ix4 n t h a)) := by
  pointwise [k0_pay2]
/-- The keys' codes. -/
theorem pay3_at (v : FVec Ideal S1536x2x4x96 .bf16) (w : FVec Ideal S1536x4x96 .f32) (n : Fin 1536) (t : Fin 2) (h : Fin 4) (a : Fin 96) :
    k0_pay3 (F := Ideal) v w (ix4 n t h a) = qz (v (ix4 n t h a)) (w (ix3 n h a)) := by
  pointwise [k0_pay3]
  rfl
/-- The values' scales. -/
theorem pay5_at (v : FVec Ideal S1536x2x4x96 .bf16) (n : Fin 1536) (t : Fin 2) (h : Fin 4) :
    k0_pay5 (F := Ideal) v (ix3 n t h) = sz fun a => v (ix4 n t h a) := by
  pointwise [k0_pay5, k0_pay4]
  rfl
/-- The values' codes. -/
theorem pay6_at (v : FVec Ideal S1536x2x4x96 .bf16) (n : Fin 1536) (t : Fin 2) (h : Fin 4) (a : Fin 96) :
    k0_pay6 (F := Ideal) v (ix4 n t h a) = qz (v (ix4 n t h a)) (k0_pay5 (F := Ideal) v (ix3 n t h)) := by
  pointwise [k0_pay6, k0_pay4]
  rfl

variable (m : (ℓ : Loc nD τ sig) → Buf (Elt Ideal) ℓ) (c : Dev nD)

/-- Window 0 of the reference has one block, the whole array. -/
theorem ix0 : ∀ u : Fin cfg0.N, win0_0.index u = fun _ => 0 := (by decide +kernel : ∀ u : Fin grid0.N, _)
/-- Block 0 is its array. -/
theorem iblk0 (u : Fin cfg0.N) : iblk m c 0 u = m ((c : Thread nD τ).loc main_arg1) := by
  funext y
  blk_simp [iblk]
  show m ((c : Thread nD τ).loc main_arg1) _ = _
  congr 1
  blk_ext [ix0 u]
/-- Window 1 of the reference has one block, the whole array. -/
theorem ix1 : ∀ u : Fin cfg0.N, win0_1.index u = fun _ => 0 := (by decide +kernel : ∀ u : Fin grid0.N, _)
/-- Block 1 is its array. -/
theorem iblk1 (u : Fin cfg0.N) : iblk m c 1 u = m ((c : Thread nD τ).loc main_arg4) := by
  funext y
  blk_simp [iblk]
  show m ((c : Thread nD τ).loc main_arg4) _ = _
  congr 1
  blk_ext [ix1 u]
/-- Window 2 of the reference has one block, the whole array. -/
theorem ix2 : ∀ u : Fin cfg0.N, win0_2.index u = fun _ => 0 := (by decide +kernel : ∀ u : Fin grid0.N, _)
/-- Block 2 is its array. -/
theorem iblk2 (u : Fin cfg0.N) : iblk m c 2 u = m ((c : Thread nD τ).loc main_arg2) := by
  funext y
  blk_simp [iblk]
  show m ((c : Thread nD τ).loc main_arg2) _ = _
  congr 1
  blk_ext [ix2 u]
/-- Window 3 of the reference has one block, the whole array. -/
theorem ix3 : ∀ u : Fin cfg0.N, win0_3.index u = fun _ => 0 := (by decide +kernel : ∀ u : Fin grid0.N, _)
/-- Block 3 is its array. -/
theorem iblk3 (u : Fin cfg0.N) : iblk m c 3 u = m ((c : Thread nD τ).loc main_arg3) := by
  funext y
  blk_simp [iblk]
  show m ((c : Thread nD τ).loc main_arg3) _ = _
  congr 1
  blk_ext [ix3 u]
/-- Window 4 of the reference has one block, the whole array. -/
theorem ix4 : ∀ u : Fin cfg0.N, win0_4.index u = fun _ => 0 := (by decide +kernel : ∀ u : Fin grid0.N, _)
/-- Block 4 is its array. -/
theorem iblk4 (u : Fin cfg0.N) : iblk m c 4 u = m ((c : Thread nD τ).loc main_arg5) := by
  funext y
  blk_simp [iblk]
  show m ((c : Thread nD τ).loc main_arg5) _ = _
  congr 1
  blk_ext [ix4 u]
/-- Window 5 of the reference has one block, the whole array. -/
theorem ix5 : ∀ u : Fin cfg0.N, win0_5.index u = fun _ => 0 := (by decide +kernel : ∀ u : Fin grid0.N, _)
/-- Result 5 at the region's end. -/
theorem arr5 : (dats m 0 c).arrAt 5 cfg0.N = k0_pay3 (F := Ideal) (m ((c : Thread nD τ).loc main_arg1)) (m ((c : Thread nD τ).loc main_arg4)) := by
  refine (dats m 0 c).arrAt_eq_of_covers 5 _ (by decide +kernel) fun u hf y => ?_
  blk_simp
  rw [after0_5]
  frame_out
  simp only [iblk0, iblk1, iblk2, iblk3, iblk4]
  congr 1
  blk_ext [ix5 u]
/-- Window 6 of the reference has one block, the whole array. -/
theorem ix6 : ∀ u : Fin cfg0.N, win0_6.index u = fun _ => 0 := (by decide +kernel : ∀ u : Fin grid0.N, _)
/-- Result 6 at the region's end. -/
theorem arr6 : (dats m 0 c).arrAt 6 cfg0.N = k0_pay6 (F := Ideal) (m ((c : Thread nD τ).loc main_arg2)) := by
  refine (dats m 0 c).arrAt_eq_of_covers 6 _ (by decide +kernel) fun u hf y => ?_
  blk_simp
  rw [after0_6]
  frame_out
  simp only [iblk0, iblk1, iblk2, iblk3, iblk4]
  congr 1
  blk_ext [ix6 u]
/-- Window 7 of the reference has one block, the whole array. -/
theorem ix7 : ∀ u : Fin cfg0.N, win0_7.index u = fun _ => 0 := (by decide +kernel : ∀ u : Fin grid0.N, _)
/-- Result 7 at the region's end. -/
theorem arr7 : (dats m 0 c).arrAt 7 cfg0.N = k0_pay5 (F := Ideal) (m ((c : Thread nD τ).loc main_arg2)) := by
  refine (dats m 0 c).arrAt_eq_of_covers 7 _ (by decide +kernel) fun u hf y => ?_
  blk_simp
  rw [after0_7]
  frame_out
  simp only [iblk0, iblk1, iblk2, iblk3, iblk4]
  congr 1
  blk_ext [ix7 u]
/-- Window 8 of the reference has one block, the whole array. -/
theorem ix8 : ∀ u : Fin cfg0.N, win0_8.index u = fun _ => 0 := (by decide +kernel : ∀ u : Fin grid0.N, _)
/-- Result 8 at the region's end. -/
theorem arr8 : (dats m 0 c).arrAt 8 cfg0.N = k0_pay1 (F := Ideal) (m ((c : Thread nD τ).loc main_arg3)) (m ((c : Thread nD τ).loc main_arg4)) := by
  refine (dats m 0 c).arrAt_eq_of_covers 8 _ (by decide +kernel) fun u hf y => ?_
  blk_simp
  rw [after0_8]
  frame_out
  simp only [iblk0, iblk1, iblk2, iblk3, iblk4]
  congr 1
  blk_ext [ix8 u]
/-- Window 9 of the reference has one block, the whole array. -/
theorem ix9 : ∀ u : Fin cfg0.N, win0_9.index u = fun _ => 0 := (by decide +kernel : ∀ u : Fin grid0.N, _)
/-- Result 9 at the region's end. -/
theorem arr9 : (dats m 0 c).arrAt 9 cfg0.N = k0_pay2 (F := Ideal) (m ((c : Thread nD τ).loc main_arg5)) := by
  refine (dats m 0 c).arrAt_eq_of_covers 9 _ (by decide +kernel) fun u hf y => ?_
  blk_simp
  rw [after0_9]
  frame_out
  simp only [iblk0, iblk1, iblk2, iblk3, iblk4]
  congr 1
  blk_ext [ix9 u]

end Cert.ReferenceIdeal.Gen

end
-- ==== Proof.RRun.lean ====
/- What a run of the reference leaves in its results. -/
module

public import proofs.«01_k».proof.Proof.RTail
public import proofs.«01_k».proof.Proof.RArr

@[expose] public section

set_option maxRecDepth 16384

noncomputable section

namespace Cert.RefRun

open Idealize.ShloMosaic
open Idealize.ShloMosaic.TcCoe Idealize.SL.Sem
open Cert.ReferenceIdeal Cert.ReferenceIdeal.Gen Cert.RefTail

variable (m : (ℓ : Loc nD τ sig) → Buf (Elt Ideal) ℓ) (c : Dev nD)

/-- After the region, argument 1 (the new keys) is as it was. -/
theorem in_arg1 : Pipeline.withArrays (cfgs 0).spec c (V0 m c) (fun w => (dats m 0 c).arrAt w (cfgs 0).N) (Proc.devRef .tc main_arg1) = m ((c : Thread nD τ).loc main_arg1) :=
  (Pipeline.withArrays_arr spec0 (by decide) c (V0 m c) (fun w => (dats m 0 c).arrAt w cfg0.N) 0).trans
    (((dats m 0 c).arrAt_in 0 rfl _).trans ((A_eq m c 0).trans (V_main_arg1 m c)))
/-- After the region, argument 2 (the new values) is as it was. -/
theorem in_arg2 : Pipeline.withArrays (cfgs 0).spec c (V0 m c) (fun w => (dats m 0 c).arrAt w (cfgs 0).N) (Proc.devRef .tc main_arg2) = m ((c : Thread nD τ).loc main_arg2) :=
  (Pipeline.withArrays_arr spec0 (by decide) c (V0 m c) (fun w => (dats m 0 c).arrAt w cfg0.N) 2).trans
    (((dats m 0 c).arrAt_in 2 rfl _).trans ((A_eq m c 2).trans (V_main_arg2 m c)))
/-- After the region, argument 0 (the queries) is as it was. -/
theorem in_arg0 : Pipeline.withArrays (cfgs 0).spec c (V0 m c) (fun w => (dats m 0 c).arrAt w (cfgs 0).N) (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
/-- After the region, argument 6 (the cached values' scales) is as it was. -/
theorem in_arg6 : Pipeline.withArrays (cfgs 0).spec c (V0 m c) (fun w => (dats m 0 c).arrAt w (cfgs 0).N) (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)
/-- After the region, argument 7 (the lengths) is as it was. -/
theorem in_arg7 : Pipeline.withArrays (cfgs 0).spec c (V0 m c) (fun w => (dats m 0 c).arrAt w (cfgs 0).N) (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)
/-- After the region, this buffer holds the dequantized cached keys. -/
theorem in_kf : Pipeline.withArrays (cfgs 0).spec c (V0 m c) (fun w => (dats m 0 c).arrAt w (cfgs 0).N) (Proc.devRef .tc main_v0_3)
    = k0_pay1 (F := Ideal) (m ((c : Thread nD τ).loc main_arg3)) (m ((c : Thread nD τ).loc main_arg4)) :=
  (Pipeline.withArrays_arr spec0 (by decide) c (V0 m c) (fun w => (dats m 0 c).arrAt w cfg0.N) 8).trans (arr8 m c)
/-- After the region, this buffer holds the cached values as floats. -/
theorem in_vf : Pipeline.withArrays (cfgs 0).spec c (V0 m c) (fun w => (dats m 0 c).arrAt w (cfgs 0).N) (Proc.devRef .tc main_v0_4)
    = k0_pay2 (F := Ideal) (m ((c : Thread nD τ).loc main_arg5)) :=
  (Pipeline.withArrays_arr spec0 (by decide) c (V0 m c) (fun w => (dats m 0 c).arrAt w cfg0.N) 9).trans (arr9 m c)

/-- The first result, of the arguments. -/
def res0 : FVec Ideal S1536x2x20x96 .bf16 :=
  tailO (m ((c : Thread nD τ).loc main_arg0)) (m ((c : Thread nD τ).loc main_arg1)) (m ((c : Thread nD τ).loc main_arg2))
    (k0_pay1 (F := Ideal) (m ((c : Thread nD τ).loc main_arg3)) (m ((c : Thread nD τ).loc main_arg4))) (k0_pay2 (F := Ideal) (m ((c : Thread nD τ).loc main_arg5)))
    (m ((c : Thread nD τ).loc main_arg6)) (m ((c : Thread nD τ).loc main_arg7))

/-- The reference leaves `res0` in its first result. -/
theorem v59_eq : Pipeline.afterTail₀ cfgs (dats m) 0 (V0 m) [hostOps1, hostOps1_1, hostOps1_2, hostOps1_3, hostOps1_4] c main_v59 = res0 m c := by
  unfold Pipeline.afterTail₀
  rw [tail_v59, in_arg0, in_arg1, in_arg2, in_kf, in_vf, in_arg6, in_arg7]
  rfl

/-- The reference leaves these four results. -/
theorem run (ρ : Dev nD → PrngReg) : θ_run defs (onTc (τ := τ) (main (F := Ideal))) ⟨m, fun _ => 0, ρ⟩ (fun r => ∀ c : Dev nD,
    r.2.mem ((c : Thread nD τ).loc main_v59) = res0 m c
    ∧ r.2.mem ((c : Thread nD τ).loc main_v0_0) = k0_pay3 (F := Ideal) (m ((c : Thread nD τ).loc main_arg1)) (m ((c : Thread nD τ).loc main_arg4))
    ∧ r.2.mem ((c : Thread nD τ).loc main_v0_1) = k0_pay6 (F := Ideal) (m ((c : Thread nD τ).loc main_arg2))
    ∧ r.2.mem ((c : Thread nD τ).loc main_v0_2) = k0_pay5 (F := Ideal) (m ((c : Thread nD τ).loc main_arg2))) :=
  (θ_run _ _ _).mono (fun _ h c => ⟨((h c).2 main_v59 (by decide : main_v59 ∈ Pipeline.restRefs sig spec0)).trans (v59_eq m c),
    ((h c).1 5).trans (arr5 m c), ((h c).1 6).trans (arr6 m c), ((h c).1 7).trans (arr7 m c)⟩) (run_main m ρ)

end Cert.RefRun

end
-- ==== Proof.Alg.lean ====
/- The kernel and the reference, on extended reals, leave the same results. -/
module

public import proofs.«01_k».proof.Defs
public import proofs.«01_k».proof.Proof.Row
public import proofs.«01_k».proof.Proof.RRun
public import proofs.«01_k».proof.Proof.Frames

@[expose] public section

set_option maxRecDepth 16384

noncomputable section

namespace Cert.Alg

open Idealize.ShloMosaic
open Idealize.ShloMosaic.TcCoe Idealize.SL.Sem
open Cert.Body (V7 V8 V9 V10 qz sz headOf)
open Cert.KernelIdeal Cert.KernelIdeal.Gen

variable (m : (ℓ : Loc nD τ sig) → Buf (Elt Ideal) ℓ) (c : Dev nD)

/-- What a run of the kernel leaves in a buffer outside its region. -/
def kres (b : Ref sig .tc) : Buf (Elt Ideal) ((c : Thread nD τ).loc b) :=
  Pipeline.afterTail pcfgs (fun _ => adm m (hO m)) (datsK m) 0 (V0 m) [hostOps1] c b

/-- An entry of the kernel's result that holds the attention result: the entry of its block of 128 sequences. -/
theorem k8 (n : Fin 1536) (s : Fin 2) (h : Fin 20) (a : Fin 96) :
    kres m c main_v8 (ix4 n s h a) = V7 (kc (F := Ideal)) (inp m c ⟨n.val / 128, by omega⟩) (ix4 s h a ⟨n.val % 128, Nat.mod_lt _ (by decide)⟩) :=
  (v8_at m c (datsK m) n s h a).trans (congrFun (Cert.KernelIdeal.Gen.arr7 m c) _)
/-- An entry of the kernel's result that holds the new keys' codes: the entry of its block of 128 sequences. -/
theorem k9 (n : Fin 1536) (s : Fin 2) (h : Fin 4) (a : Fin 96) :
    kres m c main_v9 (ix4 n s h a) = V8 (inp m c ⟨n.val / 128, by omega⟩) (ix4 s h a ⟨n.val % 128, Nat.mod_lt _ (by decide)⟩) :=
  (v9_at m c (datsK m) n s h a).trans (congrFun (Cert.KernelIdeal.Gen.arr8 m c) _)
/-- An entry of the kernel's result that holds the new values' codes: the entry of its block of 128 sequences. -/
theorem k10 (n : Fin 1536) (s : Fin 2) (h : Fin 4) (a : Fin 96) :
    kres m c main_v10 (ix4 n s h a) = V9 (inp m c ⟨n.val / 128, by omega⟩) (ix4 s h a ⟨n.val % 128, Nat.mod_lt _ (by decide)⟩) :=
  (v10_at m c (datsK m) n s h a).trans (congrFun (Cert.KernelIdeal.Gen.arr9 m c) _)
/-- An entry of the kernel's result that holds the new values' scales: the entry of its block of 128 sequences. -/
theorem k11 (n : Fin 1536) (s : Fin 2) (h : Fin 4) :
    kres m c main_v11 (ix3 n s h) = V10 (inp m c ⟨n.val / 128, by omega⟩) (ix3 s h ⟨n.val % 128, Nat.mod_lt _ (by decide)⟩) :=
  (v11_at m c (datsK m) n s h).trans (congrFun (Cert.KernelIdeal.Gen.arr10 m c) _)

/-- The kernel leaves these in its four results, and its arguments as they were. -/
theorem run (g : Dev nD → PrngReg) : θ_run (defs (F := Ideal)) (onTc (τ := τ) (main (F := Ideal))) ⟨m, fun _ => 0, g⟩ (fun r => ∀ c : Dev nD,
    r.2.mem ((c : Thread nD τ).loc main_v8) = kres m c main_v8
    ∧ r.2.mem ((c : Thread nD τ).loc main_v9) = kres m c main_v9
    ∧ r.2.mem ((c : Thread nD τ).loc main_v10) = kres m c main_v10
    ∧ r.2.mem ((c : Thread nD τ).loc main_v11) = kres m c main_v11) :=
  (θ_run _ _ _).mono (fun _ hh c => ⟨(hh.1 c).2 main_v8 (by decide : main_v8 ∈ Pipeline.restRefs sig spec0),
    (hh.1 c).2 main_v9 (by decide : main_v9 ∈ Pipeline.restRefs sig spec0),
    (hh.1 c).2 main_v10 (by decide : main_v10 ∈ Pipeline.restRefs sig spec0),
    (hh.1 c).2 main_v11 (by decide : main_v11 ∈ Pipeline.restRefs sig spec0)⟩) (runK (F := Ideal) m g)

variable (m' : (ℓ : Loc Cert.ReferenceIdeal.nD Cert.ReferenceIdeal.τ Cert.ReferenceIdeal.sig) → Buf (Elt Ideal) ℓ)

/-- The second results are one. -/
theorem eq1
    (h1 : m' ((c : Thread Cert.ReferenceIdeal.nD Cert.ReferenceIdeal.τ).loc Cert.ReferenceIdeal.main_arg1) = m ((c : Thread nD τ).loc main_arg1))
    (h4 : m' ((c : Thread Cert.ReferenceIdeal.nD Cert.ReferenceIdeal.τ).loc Cert.ReferenceIdeal.main_arg4) = m ((c : Thread nD τ).loc main_arg4)) :
    Cert.ReferenceIdeal.Gen.k0_pay3 (F := Ideal) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg4)) = kres m c main_v9 := by
  funext i
  obtain ⟨n, s, h, a, rfl⟩ : ∃ (n : Fin 1536) (s : Fin 2) (h : Fin 4) (a : Fin 96), i = ix4 n s h a := ⟨_, _, _, _, eq_ix4 i⟩
  refine (Cert.ReferenceIdeal.Gen.pay3_at _ _ n s h a).trans (Eq.symm ((k9 m c n s h a).trans ((out8 m c _ _ s h a).trans ?_)))
  rw [nn_of, h1, h4]
/-- The third results are one. -/
theorem eq2
    (h2 : m' ((c : Thread Cert.ReferenceIdeal.nD Cert.ReferenceIdeal.τ).loc Cert.ReferenceIdeal.main_arg2) = m ((c : Thread nD τ).loc main_arg2)) :
    Cert.ReferenceIdeal.Gen.k0_pay6 (F := Ideal) (m' ((c : Thread Cert.ReferenceIdeal.nD Cert.ReferenceIdeal.τ).loc Cert.ReferenceIdeal.main_arg2)) = kres m c main_v10 := by
  funext i
  obtain ⟨n, s, h, a, rfl⟩ : ∃ (n : Fin 1536) (s : Fin 2) (h : Fin 4) (a : Fin 96), i = ix4 n s h a := ⟨_, _, _, _, eq_ix4 i⟩
  refine (Cert.ReferenceIdeal.Gen.pay6_at _ n s h a).trans (Eq.symm ((k10 m c n s h a).trans ((out9 m c _ _ s h a).trans ?_)))
  rw [nn_of, h2, Cert.ReferenceIdeal.Gen.pay5_at]
/-- The fourth results are one. -/
theorem eq3
    (h2 : m' ((c : Thread Cert.ReferenceIdeal.nD Cert.ReferenceIdeal.τ).loc Cert.ReferenceIdeal.main_arg2) = m ((c : Thread nD τ).loc main_arg2)) :
    Cert.ReferenceIdeal.Gen.k0_pay5 (F := Ideal) (m' ((c : Thread Cert.ReferenceIdeal.nD Cert.ReferenceIdeal.τ).loc Cert.ReferenceIdeal.main_arg2)) = kres m c main_v11 := by
  funext i
  obtain ⟨n, s, h, rfl⟩ : ∃ (n : Fin 1536) (s : Fin 2) (h : Fin 4), i = ix3 n s h := ⟨_, _, _, eq_ix3 i⟩
  refine (Cert.ReferenceIdeal.Gen.pay5_at _ n s h).trans (Eq.symm ((k11 m c n s h).trans ((out10 m c _ _ s h).trans ?_)))
  rw [nn_of, h2]
/-- The first results are one, where the queries, the new keys and the key scales are finite. -/
theorem eq0
    (h0 : m' ((c : Thread Cert.ReferenceIdeal.nD Cert.ReferenceIdeal.τ).loc Cert.ReferenceIdeal.main_arg0) = m ((c : Thread nD τ).loc main_arg0))
    (h1 : m' ((c : Thread Cert.ReferenceIdeal.nD Cert.ReferenceIdeal.τ).loc Cert.ReferenceIdeal.main_arg1) = m ((c : Thread nD τ).loc main_arg1))
    (h2 : m' ((c : Thread Cert.ReferenceIdeal.nD Cert.ReferenceIdeal.τ).loc Cert.ReferenceIdeal.main_arg2) = m ((c : Thread nD τ).loc main_arg2))
    (h3 : m' ((c : Thread Cert.ReferenceIdeal.nD Cert.ReferenceIdeal.τ).loc Cert.ReferenceIdeal.main_arg3) = m ((c : Thread nD τ).loc main_arg3))
    (h4 : m' ((c : Thread Cert.ReferenceIdeal.nD Cert.ReferenceIdeal.τ).loc Cert.ReferenceIdeal.main_arg4) = m ((c : Thread nD τ).loc main_arg4))
    (h5 : m' ((c : Thread Cert.ReferenceIdeal.nD Cert.ReferenceIdeal.τ).loc Cert.ReferenceIdeal.main_arg5) = m ((c : Thread nD τ).loc main_arg5))
    (h6 : m' ((c : Thread Cert.ReferenceIdeal.nD Cert.ReferenceIdeal.τ).loc Cert.ReferenceIdeal.main_arg6) = m ((c : Thread nD τ).loc main_arg6))
    (h7 : m' ((c : Thread Cert.ReferenceIdeal.nD Cert.ReferenceIdeal.τ).loc Cert.ReferenceIdeal.main_arg7) = m ((c : Thread nD τ).loc main_arg7))
    (fx : ∀ i : Cert.ReferenceIdeal.S1536x2x20x96.Idx, ∃ r : ℝ, (m' ((c : Thread Cert.ReferenceIdeal.nD Cert.ReferenceIdeal.τ).loc Cert.ReferenceIdeal.main_arg0)) i = (r : EReal)) (fk : ∀ i : Cert.ReferenceIdeal.S1536x2x4x96.Idx, ∃ r : ℝ, (m' ((c : Thread Cert.ReferenceIdeal.nD Cert.ReferenceIdeal.τ).loc Cert.ReferenceIdeal.main_arg1)) i = (r : EReal))
    (fs : ∀ i : Cert.ReferenceIdeal.S1536x4x96.Idx, ∃ r : ℝ, (m' ((c : Thread Cert.ReferenceIdeal.nD Cert.ReferenceIdeal.τ).loc Cert.ReferenceIdeal.main_arg4)) i = (r : EReal)) :
    Cert.RefRun.res0 m' c = kres m c main_v8 := by
  funext i
  obtain ⟨n, s, h, a, rfl⟩ : ∃ (n : Fin 1536) (s : Fin 2) (h : Fin 20) (a : Fin 96), i = ix4 n s h a := ⟨_, _, _, _, eq_ix4 i⟩
  obtain ⟨kv, g, rfl⟩ : ∃ (kv : Fin 4) (g : Fin 5), h = headOf kv g :=
    ⟨⟨h.val / 5, by omega⟩, ⟨h.val % 5, by omega⟩, Fin.ext (by show h.val = 5 * (h.val / 5) + h.val % 5; omega)⟩
  have e := Cert.Row.row_eq (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (Cert.ReferenceIdeal.Gen.k0_pay1 (F := Ideal) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4))) (Cert.ReferenceIdeal.Gen.k0_pay2 (F := Ideal) (m' ((c : Thread Cert.ReferenceIdeal.nD Cert.ReferenceIdeal.τ).loc Cert.ReferenceIdeal.main_arg5))) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) m c
    (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg4)) h0.symm h1.symm h2.symm h3.symm h4.symm h5.symm h6.symm h7.symm (Cert.ReferenceIdeal.Gen.pay1_at _ _) (Cert.ReferenceIdeal.Gen.pay2_at _) fx fk fs
    ⟨n.val / 128, by omega⟩ ⟨n.val % 128, Nat.mod_lt _ (by decide)⟩ s kv g a
  rw [nn_of] at e
  exact e.symm.trans (k8 m c n s (headOf kv g) a).symm

/-- On finite queries, new keys and key scales the kernel and the reference, on extended reals, leave the same four results. -/
theorem algebraic [hP : Cert.Pre_finite.Facts] : Cert.algebraic_KernelIdeal_ReferenceIdeal_pre_finite := by
  intro m g m' g' hpre hag
  refine ⟨fun c => kres m c main_v8, fun c => kres m c main_v9, fun c => kres m c main_v10, fun c => kres m c main_v11, ?_, ?_⟩
  · exact (θ_run _ _ _).mono (fun r h c => ⟨(h.1 c).1, (h.1 c).2.1, (h.1 c).2.2.1, (h.1 c).2.2.2, h.2.1 c⟩) (θ_run_and (run m g) (frame_thm m g trivial))
  · refine (θ_run _ _ _).mono (fun r h c => ?_) (θ_run_and (Cert.RefRun.run m' g') (Cert.ReferenceIdeal.Gen.unchanged m' g'))
    obtain ⟨h0, h1, h2, h3, h4, h5, h6, h7⟩ := hag c
    obtain ⟨p0, p1, p4⟩ := hpre c
    have fx := Cert.Score.fin_x _ _ _ _ _ _ _ _ p0
    have fk := Cert.Score.fin_kn _ _ _ _ _ _ _ _ p1
    have fs := Cert.Score.fin_ks _ _ _ _ _ _ _ _ p4
    refine ⟨(h.1 c).1.trans (eq0 m c m' h0 h1 h2 h3 h4 h5 h6 h7 (by rw [h0]; exact fx) (by rw [h1]; exact fk) (by rw [h4]; exact fs)),
      (h.1 c).2.1.trans (eq1 m c m' h1 h4), (h.1 c).2.2.1.trans (eq2 m c m' h2), (h.1 c).2.2.2.trans (eq3 m c m' h2), h.2 c⟩

end Cert.Alg

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem

/-- Everything the certificate states. -/
theorem claim : Cert.Claim :=
  ⟨Cert.Kernel.Gen.facts, Cert.KernelIdeal.Gen.facts, Cert.ReferenceIdeal.Gen.facts, Cert.Score.pre_facts,
    Cert.Kernel.Gen.frame_thm, Cert.KernelIdeal.Gen.frame_thm, fun m g _ => Cert.KernelIdeal.Gen.frame_thm m g trivial,
    Cert.Frames.frame_ref, fun m g _ => Cert.Frames.frame_ref m g trivial, Cert.Frames.preserves,
    Cert.Alg.algebraic (hP := Cert.Score.pre_facts)⟩

end Cert.Proof

end
